-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3)) (v1 : (c : Dev Cert.Kernel16Ideal.nD) → Buf (Elt Ideal) ((c.tc : Thread Cert.Kernel16Ideal.nD Cert.Kernel16Ideal.τ).loc Cert.Kernel16Ideal.main_v1_0)) (v2 : (c : Dev Cert.Kernel16Ideal.nD) → Buf (Elt Ideal) ((c.tc : Thread Cert.Kernel16Ideal.nD Cert.Kernel16Ideal.τ).loc Cert.Kernel16Ideal.main_v1_1)) (v3 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_v1_0) = v1 c
          ∧ r.2.mem ((c.tc : Thread Cert.Kernel16Ideal.nD Cert.Kernel16Ideal.τ).loc Cert.Kernel16Ideal.main_v1_1) = v2 c
          ∧ r.2.mem ((c.tc : Thread Cert.Kernel16Ideal.nD Cert.Kernel16Ideal.τ).loc Cert.Kernel16Ideal.main_v4) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v50) = v1 c
          ∧ r.2.mem ((c.tc : Thread Cert.Reference16Ideal.nD Cert.Reference16Ideal.τ).loc Cert.Reference16Ideal.main_v51) = v2 c
          ∧ r.2.mem ((c.tc : Thread Cert.Reference16Ideal.nD Cert.Reference16Ideal.τ).loc Cert.Reference16Ideal.main_v36) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x2048 : Shape := ⟨2, ![4096, 2048]⟩
abbrev S4096x3072 : Shape := ⟨2, ![4096, 3072]⟩
abbrev S4x128x128 : Shape := ⟨3, ![4, 128, 128]⟩
abbrev S512 : Shape := ⟨1, ![512]⟩
abbrev S_ : Shape := ⟨0, ![]⟩

class Facts : Prop where
  bcast_S_S4096x2048 : S_.BroadcastsInDim S4096x2048 (![] : Fin 0 → Fin S4096x2048.rank)
  bcast_S_S4096x3072 : S_.BroadcastsInDim S4096x3072 (![] : Fin 0 → Fin S4096x3072.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S4096x2048 .f32) (main_arg1 : FVec F S4096x3072 .f32) (main_arg2 : FVec F S4x128x128 .f32) (main_arg3 : FVec F S512 .f32) : IVec S4096x2048 1 × IVec S4096x3072 1 × IVec S4x128x128 1 × IVec S512 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x3072 .f32 := Host.absf main_arg1
  let main_cst_0 : FVec F S_ .f32 := constant S_ .f32 0x7F800000#32
  let main_v4 : FVec F S4096x3072 .f32 := broadcastInDim S4096x3072 ![] bcast_S_S4096x3072 main_cst_0
  let main_v5 : IVec S4096x3072 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Kernel.lean ====
abbrev S4096x2048 : Shape := ⟨2, ![4096, 2048]⟩
abbrev S4096x3072 : Shape := ⟨2, ![4096, 3072]⟩
abbrev S4x128x128 : Shape := ⟨3, ![4, 128, 128]⟩
abbrev S512 : Shape := ⟨1, ![512]⟩
abbrev S1x512 : Shape := ⟨2, ![1, 512]⟩
abbrev S4096x512 : Shape := ⟨2, ![4096, 512]⟩
abbrev S8x512 : Shape := ⟨2, ![8, 512]⟩
abbrev S256x512 : Shape := ⟨2, ![256, 512]⟩
abbrev S16x512 : Shape := ⟨2, ![16, 512]⟩
abbrev S272x512 : Shape := ⟨2, ![272, 512]⟩
abbrev S256x128 : Shape := ⟨2, ![256, 128]⟩
abbrev S1x128 : Shape := ⟨2, ![1, 128]⟩
abbrev S8x128 : Shape := ⟨2, ![8, 128]⟩
abbrev S1x128x128 : Shape := ⟨3, ![1, 128, 128]⟩
abbrev S128x128 : Shape := ⟨2, ![128, 128]⟩
abbrev S32x8x128 : Shape := ⟨3, ![32, 8, 128]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S4096x512, .bf16⟩
  | .hbm, ⟨7, _⟩ => ⟨S4x128x128, .f32⟩
  | .hbm, ⟨8, _⟩ => ⟨S8x512, .f32⟩
  | .hbm, ⟨9, _⟩ => ⟨S_, .f32⟩
  | .hbm, ⟨10, _⟩ => ⟨S512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S4x128x128, .bf16⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S4x128x128, .f32⟩
  | .local _ .vmem, ⟨11, _⟩ => ⟨S8x512, .f32⟩
  | .local _ .vmem, ⟨12, _⟩ => ⟨S272x512, .f32⟩
  | .local _ .vmem, ⟨13, _⟩ => ⟨S272x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S4096x3072 : Shape := ⟨2, ![4096, 3072]⟩
abbrev S4x128x128 : Shape := ⟨3, ![4, 128, 128]⟩
abbrev S512 : Shape := ⟨1, ![512]⟩
abbrev S4096x512 : Shape := ⟨2, ![4096, 512]⟩
abbrev S1x4096x512 : Shape := ⟨3, ![1, 4096, 512]⟩
abbrev S_ : Shape := ⟨0, ![]⟩
abbrev S1x1x512 : Shape := ⟨3, ![1, 1, 512]⟩
abbrev S1x4097x512 : Shape := ⟨3, ![1, 4097, 512]⟩
abbrev S4096 : Shape := ⟨1, ![4096]⟩
abbrev S1x4096x128 : Shape := ⟨3, ![1, 4096, 128]⟩
abbrev S1x1x128 : Shape := ⟨3, ![1, 1, 128]⟩
abbrev S1x4095x128 : Shape := ⟨3, ![1, 4095, 128]⟩
abbrev S1x4096x1 : Shape := ⟨3, ![1, 4096, 1]⟩
abbrev S1x3x128 : Shape := ⟨3, ![1, 3, 128]⟩
abbrev S1x4093x128 : Shape := ⟨3, ![1, 4093, 128]⟩
abbrev S1x7x128 : Shape := ⟨3, ![1, 7, 128]⟩
abbrev S1x4089x128 : Shape := ⟨3, ![1, 4089, 128]⟩
abbrev S1x15x128 : Shape := ⟨3, ![1, 15, 128]⟩
abbrev S1x4081x128 : Shape := ⟨3, ![1, 4081, 128]⟩
abbrev S1x4096x1x128 : Shape := ⟨4, ![1, 4096, 1, 128]⟩
abbrev S1x4096x4x128 : Shape := ⟨4, ![1, 4096, 4, 128]⟩
abbrev S4x128x1x4096 : Shape := ⟨4, ![4, 128, 1, 4096]⟩
abbrev S1x512 : Shape := ⟨2, ![1, 512]⟩
abbrev S4x1x4096x128 : Shape := ⟨4, ![4, 1, 4096, 128]⟩

abbrev nBuf : Space → Nat
  | .hbm => 183
  | .vmem => 0
  | .smem => 0
  | _ => 0

abbrev hbmTy0_0 (i : Nat) : BufTy := match i % 128 with
  | 0 => ⟨S4096x2048, .f32⟩
  | 1 => ⟨S4096x3072, .f32⟩
  | 2 => ⟨S4x128x128, .f32⟩
  | 3 => ⟨S512, .f32⟩
  | 4 => ⟨S4096x512, .f32⟩
  | 5 => ⟨S1x4096x512, .f32⟩
  | 6 => ⟨S4096x512, .f32⟩
  | 7 => ⟨S1x4096x512, .f32⟩
  | 8 => ⟨S_, .f32⟩
  | 9 => ⟨S_, .f32⟩
  | 10 => ⟨S1x4096x512, .f32⟩
  | 11 => ⟨S_, .f32⟩
  | 12 => ⟨S1x1x512, .f32⟩
  | 13 => ⟨S1x4097x512, .f32⟩
  | 14 => ⟨S_, .f32⟩
  | 15 => ⟨S1x1x512, .f32⟩
  | 16 => ⟨S4096, .f32⟩
  | 17 => ⟨S_, .f32⟩
  | 18 => ⟨S4096, .f32⟩
  | 19 => ⟨S4096, .f32⟩
  | 20 => ⟨S1x4096x128, .f32⟩
  | 21 => ⟨S_, .f32⟩
  | 22 => ⟨S1x1x128, .f32⟩
  | 23 => ⟨S1x4095x128, .f32⟩
  | 24 => ⟨S1x4096x128, .f32⟩
  | 25 => ⟨S_, .f32⟩
  | 26 => ⟨S1x1x128, .f32⟩
  | 27 => ⟨S_, .f32⟩
  | 28 => ⟨S4096, .f32⟩
  | 29 => ⟨S4096, .f32⟩
  | 30 => ⟨S1x4096x1, .f32⟩
  | 31 => ⟨S1x4096x128, .f32⟩
  | 32 => ⟨S1x4096x128, .f32⟩
  | 33 => ⟨S1x4096x128, .f32⟩
  | 34 => ⟨S1x4096x128, .f32⟩
  | 35 => ⟨S1x4096x128, .f32⟩
  | 36 => ⟨S1x4096x128, .f32⟩
  | 37 => ⟨S_, .f32⟩
  | 38 => ⟨S1x3x128, .f32⟩
  | 39 => ⟨S1x4093x128, .f32⟩
  | 40 => ⟨S1x4096x128, .f32⟩
  | 41 => ⟨S_, .f32⟩
  | 42 => ⟨S1x3x128, .f32⟩
  | 43 => ⟨S_, .f32⟩
  | 44 => ⟨S4096, .f32⟩
  | 45 => ⟨S4096, .f32⟩
  | 46 => ⟨S1x4096x1, .f32⟩
  | 47 => ⟨S1x4096x128, .f32⟩
  | 48 => ⟨S1x4096x128, .f32⟩
  | 49 => ⟨S1x4096x128, .f32⟩
  | 50 => ⟨S1x4096x128, .f32⟩
  | 51 => ⟨S1x4096x128, .f32⟩
  | 52 => ⟨S1x4096x128, .f32⟩
  | 53 => ⟨S_, .f32⟩
  | 54 => ⟨S1x7x128, .f32⟩
  | 55 => ⟨S1x4089x128, .f32⟩
  | 56 => ⟨S1x4096x128, .f32⟩
  | 57 => ⟨S_, .f32⟩
  | 58 => ⟨S1x7x128, .f32⟩
  | 59 => ⟨S_, .f32⟩
  | 60 => ⟨S4096, .f32⟩
  | 61 => ⟨S4096, .f32⟩
  | 62 => ⟨S1x4096x1, .f32⟩
  | 63 => ⟨S1x4096x128, .f32⟩
  | 64 => ⟨S1x4096x128, .f32⟩
  | 65 => ⟨S1x4096x128, .f32⟩
  | 66 => ⟨S1x4096x128, .f32⟩
  | 67 => ⟨S1x4096x128, .f32⟩
  | 68 => ⟨S1x4096x128, .f32⟩
  | 69 => ⟨S_, .f32⟩
  | 70 => ⟨S1x15x128, .f32⟩
  | 71 => ⟨S1x4081x128, .f32⟩
  | 72 => ⟨S1x4096x128, .f32⟩
  | 73 => ⟨S_, .f32⟩
  | 74 => ⟨S1x15x128, .f32⟩
  | 75 => ⟨S_, .f32⟩
  | 76 => ⟨S4096, .f32⟩
  | 77 => ⟨S4096, .f32⟩
  | 78 => ⟨S1x4096x1, .f32⟩
  | 79 => ⟨S1x4096x128, .f32⟩
  | 80 => ⟨S1x4096x128, .f32⟩
  | 81 => ⟨S1x4096x128, .f32⟩
  | 82 => ⟨S1x4096x128, .f32⟩
  | 83 => ⟨S1x4096x128, .f32⟩
  | 84 => ⟨S1x4096x1x128, .f32⟩
  | 85 => ⟨S1x4096x1x128, .f32⟩
  | 86 => ⟨S1x4096x1x128, .f32⟩
  | 87 => ⟨S1x4096x1x128, .f32⟩
  | 88 => ⟨S1x4096x4x128, .f32⟩
  | 89 => ⟨S4x128x1x4096, .f32⟩
  | 90 => ⟨S1x4096x4x128, .f32⟩
  | 91 => ⟨S1x4096x512, .f32⟩
  | 92 => ⟨S1x1x512, .f32⟩
  | 93 => ⟨S1x4096x512, .f32⟩
  | 94 => ⟨S1x4096x512, .f32⟩
  | 95 => ⟨S1x4096x512, .f32⟩
  | 96 => ⟨S_, .f32⟩
  | 97 => ⟨S1x512, .f32⟩
  | 98 => ⟨S1x1x512, .f32⟩
  | 99 => ⟨S1x4096x512, .f32⟩
  | 100 => ⟨S1x4096x512, .f32⟩
  | 101 => ⟨S_, .f32⟩
  | 102 => ⟨S512, .f32⟩
  | 103 => ⟨S1x4096x4x128, .f32⟩
  | 104 => ⟨S4x128x1x4096, .f32⟩
  | 105 => ⟨S4x1x4096x128, .f32⟩
  | 106 => ⟨S1x4096x4x128, .f32⟩
  | 107 => ⟨S4x128x128, .f32⟩
  | 108 => ⟨S4x128x128, .f32⟩
  | 109 => ⟨S1x4096x1x128, .f32⟩
  | 110 => ⟨S1x4096x128, .f32⟩
  | 111 => ⟨S1x4096x1x128, .f32⟩
  | 112 => ⟨S1x4096x128, .f32⟩
  | 113 => ⟨S1x4096x1x128, .f32⟩
  | 114 => ⟨S1x4096x128, .f32⟩
  | 115 => ⟨S1x4096x1x128, .f32⟩
  | 116 => ⟨S1x4096x128, .f32⟩
  | 117 => ⟨S1x4096x128, .f32⟩
  | 118 => ⟨S_, .f32⟩
  | 119 => ⟨S1x4096x512, .f32⟩
  | 120 => ⟨S1x4096x128, .f32⟩
  | 121 => ⟨S1x4096x128, .f32⟩
  | 122 => ⟨S1x4096x128, .f32⟩
  | 123 => ⟨S1x15x128, .f32⟩
  | 124 => ⟨S1x4081x128, .f32⟩
  | 125 => ⟨S_, .f32⟩
  | 126 => ⟨S1x4097x512, .f32⟩
  | 127 => ⟨S_, .f32⟩
  | _ => ⟨S4096x2048, .f32⟩

abbrev hbmTy0_1 (i : Nat) : BufTy := match i % 128 with
  | 0 => ⟨S1x4097x512, .f32⟩
  | 1 => ⟨S1x4097x512, .f32⟩
  | 2 => ⟨S1x4096x128, .f32⟩
  | 3 => ⟨S_, .f32⟩
  | 4 => ⟨S1x4096x512, .f32⟩
  | 5 => ⟨S1x4096x512, .f32⟩
  | 6 => ⟨S1x4096x128, .f32⟩
  | 7 => ⟨S1x4096x128, .f32⟩
  | 8 => ⟨S1x4096x128, .f32⟩
  | 9 => ⟨S1x7x128, .f32⟩
  | 10 => ⟨S1x4089x128, .f32⟩
  | 11 => ⟨S_, .f32⟩
  | 12 => ⟨S1x4097x512, .f32⟩
  | 13 => ⟨S1x4097x512, .f32⟩
  | 14 => ⟨S_, .f32⟩
  | 15 => ⟨S1x4097x512, .f32⟩
  | 16 => ⟨S1x4097x512, .f32⟩
  | 17 => ⟨S1x4096x128, .f32⟩
  | 18 => ⟨S_, .f32⟩
  | 19 => ⟨S1x4096x512, .f32⟩
  | 20 => ⟨S1x4096x512, .f32⟩
  | 21 => ⟨S1x4096x128, .f32⟩
  | 22 => ⟨S1x4096x128, .f32⟩
  | 23 => ⟨S1x4096x128, .f32⟩
  | 24 => ⟨S1x3x128, .f32⟩
  | 25 => ⟨S1x4093x128, .f32⟩
  | 26 => ⟨S_, .f32⟩
  | 27 => ⟨S1x4097x512, .f32⟩
  | 28 => ⟨S1x4097x512, .f32⟩
  | 29 => ⟨S_, .f32⟩
  | 30 => ⟨S1x4097x512, .f32⟩
  | 31 => ⟨S1x4097x512, .f32⟩
  | 32 => ⟨S1x4096x128, .f32⟩
  | 33 => ⟨S_, .f32⟩
  | 34 => ⟨S1x4096x512, .f32⟩
  | 35 => ⟨S1x4096x512, .f32⟩
  | 36 => ⟨S1x4096x128, .f32⟩
  | 37 => ⟨S1x4096x128, .f32⟩
  | 38 => ⟨S1x4096x128, .f32⟩
  | 39 => ⟨S1x1x128, .f32⟩
  | 40 => ⟨S1x4095x128, .f32⟩
  | 41 => ⟨S_, .f32⟩
  | 42 => ⟨S1x4097x512, .f32⟩
  | 43 => ⟨S1x4097x512, .f32⟩
  | 44 => ⟨S_, .f32⟩
  | 45 => ⟨S1x4097x512, .f32⟩
  | 46 => ⟨S1x4097x512, .f32⟩
  | 47 => ⟨S1x1x512, .f32⟩
  | 48 => ⟨S1x4096x512, .f32⟩
  | 49 => ⟨S_, .f32⟩
  | 50 => ⟨S_, .f32⟩
  | 51 => ⟨S1x4096x512, .f32⟩
  | 52 => ⟨S1x4096x512, .f32⟩
  | 53 => ⟨S4096x512, .f32⟩
  | 54 => ⟨S4096x512, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_17 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_19 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_cst_21 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_22 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_23 : Ref sig .tc := ⟨.hbm, 154, rfl⟩
abbrev main_v124 : Ref sig .tc := ⟨.hbm, 155, rfl⟩
abbrev main_v125 : Ref sig .tc := ⟨.hbm, 156, rfl⟩
abbrev main_cst_24 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_25 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_26 : Ref sig .tc := ⟨.hbm, 169, rfl⟩
abbrev main_v136 : Ref sig .tc := ⟨.hbm, 170, rfl⟩
abbrev main_v137 : Ref sig .tc := ⟨.hbm, 171, rfl⟩
abbrev main_cst_27 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_call1_call0_cst : Ref sig .tc := ⟨.hbm, 177, rfl⟩
abbrev main_call1_call0_v0 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩

abbrev nD : Nat := 1
abbrev τ : Topo := Topo.v7x

variable {F : FTy → Type} [FloatOps F]
-- ==== Kernel2.lean ====
abbrev S4096x2048 : Shape := ⟨2, ![4096, 2048]⟩
abbrev S5504x2048 : Shape := ⟨2, ![5504, 2048]⟩
abbrev S4096x5504 : Shape := ⟨2, ![4096, 5504]⟩
abbrev S512x512 : Shape := ⟨2, ![512, 512]⟩
abbrev S5504x512 : Shape := ⟨2, ![5504, 512]⟩
abbrev S512x5504 : Shape := ⟨2, ![512, 5504]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S5504x2048, .f32⟩
  | .hbm, ⟨2, _⟩ => ⟨S4096x2048, .bf16⟩
  | .hbm, ⟨3, _⟩ => ⟨S5504x2048, .bf16⟩
  | .hbm, ⟨4, _⟩ => ⟨S4096x5504, .bf16⟩
  | .local _ .vmem, ⟨0, _⟩ => ⟨S512x512, .bf16⟩
  | .local _ .vmem, ⟨1, _⟩ => ⟨S512x512, .bf16⟩
  | .local _ .vmem, ⟨2, _⟩ => ⟨S5504x512, .bf16⟩
  | .local _ .vmem, ⟨3, _⟩ => ⟨S5504x512, .bf16⟩
  | .local _ .vmem, ⟨4, _⟩ => ⟨S512x5504, .bf16⟩
  | .local _ .vmem, ⟨5, _⟩ => ⟨S512x5504, .bf16⟩
  | .local _ .vmem, ⟨6, _⟩ => ⟨S512x5504, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S5504x2048 : Shape := ⟨2, ![5504, 2048]⟩
abbrev S_ : Shape := ⟨0, ![]⟩
abbrev S4096x5504 : Shape := ⟨2, ![4096, 5504]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5504x2048, .f32⟩
  | .hbm, ⟨2, _⟩ => ⟨S_, .f32⟩
  | .hbm, ⟨3, _⟩ => ⟨S4096x5504, .f32⟩
  | .hbm, ⟨4, _⟩ => ⟨S4096x2048, .f32⟩
  | .hbm, ⟨5, _⟩ => ⟨S4096x5504, .f32⟩
  | .hbm, ⟨6, _⟩ => ⟨S4096x5504, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x5504 : Shape := ⟨2, ![4096, 5504]⟩
abbrev S4096x2048 : Shape := ⟨2, ![4096, 2048]⟩
abbrev S5504x2048 : Shape := ⟨2, ![5504, 2048]⟩
abbrev S512x5504 : Shape := ⟨2, ![512, 5504]⟩
abbrev S512x512 : Shape := ⟨2, ![512, 512]⟩
abbrev S5504x512 : Shape := ⟨2, ![5504, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S4096x5504, .bf16⟩
  | .hbm, ⟨3, _⟩ => ⟨S4096x2048, .bf16⟩
  | .hbm, ⟨4, _⟩ => ⟨S5504x2048, .bf16⟩
  | .local _ .vmem, ⟨0, _⟩ => ⟨S512x5504, .bf16⟩
  | .local _ .vmem, ⟨1, _⟩ => ⟨S512x5504, .bf16⟩
  | .local _ .vmem, ⟨2, _⟩ => ⟨S512x512, .bf16⟩
  | .local _ .vmem, ⟨3, _⟩ => ⟨S512x512, .bf16⟩
  | .local _ .vmem, ⟨4, _⟩ => ⟨S5504x512, .bf16⟩
  | .local _ .vmem, ⟨5, _⟩ => ⟨S5504x512, .bf16⟩
  | .local _ .vmem, ⟨6, _⟩ => ⟨S5504x512, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S5504x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5504 : Shape := ⟨2, ![4096, 5504]⟩
abbrev S4096x2048 : Shape := ⟨2, ![4096, 2048]⟩
abbrev S_ : Shape := ⟨0, ![]⟩
abbrev S5504x2048 : Shape := ⟨2, ![5504, 2048]⟩
abbrev S2048x5504 : Shape := ⟨2, ![2048, 5504]⟩

abbrev nBuf : Space → Nat
  | .hbm => 8
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S_, .f32⟩
  | .hbm, ⟨3, _⟩ => ⟨S5504x2048, .f32⟩
  | .hbm, ⟨4, _⟩ => ⟨S4096x2048, .f32⟩
  | .hbm, ⟨5, _⟩ => ⟨S2048x5504, .f32⟩
  | .hbm, ⟨6, _⟩ => ⟨S5504x2048, .f32⟩
  | .hbm, ⟨7, _⟩ => ⟨S5504x2048, .bf16⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x11008 : Shape := ⟨2, ![4096, 11008]⟩
abbrev S2048x11008 : Shape := ⟨2, ![2048, 11008]⟩
abbrev S11008x2048 : Shape := ⟨2, ![11008, 2048]⟩
abbrev S4096x2048 : Shape := ⟨2, ![4096, 2048]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S4096x11008, .bf16⟩
  | .hbm, ⟨3, _⟩ => ⟨S11008x2048, .f32⟩
  | .hbm, ⟨4, _⟩ => ⟨S11008x2048, .bf16⟩
  | .hbm, ⟨5, _⟩ => ⟨S4096x2048, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x11008 : Shape := ⟨2, ![4096, 11008]⟩
abbrev S2048x11008 : Shape := ⟨2, ![2048, 11008]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S_, .f32⟩
  | .hbm, ⟨3, _⟩ => ⟨S4096x2048, .f32⟩
  | .hbm, ⟨4, _⟩ => ⟨S4096x11008, .f32⟩
  | .hbm, ⟨5, _⟩ => ⟨S4096x2048, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x11008 : Shape := ⟨2, ![4096, 11008]⟩
abbrev S4096x2048 : Shape := ⟨2, ![4096, 2048]⟩
abbrev S11008x2048 : Shape := ⟨2, ![11008, 2048]⟩
abbrev S4096x256 : Shape := ⟨2, ![4096, 256]⟩
abbrev S256x2048 : Shape := ⟨2, ![256, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x11008, .f32⟩
  | .hbm, ⟨1, _⟩ => ⟨S4096x2048, .f32⟩
  | .hbm, ⟨2, _⟩ => ⟨S4096x11008, .bf16⟩
  | .hbm, ⟨3, _⟩ => ⟨S4096x2048, .bf16⟩
  | .hbm, ⟨4, _⟩ => ⟨S11008x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .bf16⟩
  | .local _ .vmem, ⟨4, _⟩ => ⟨S256x2048, .bf16⟩
  | .local _ .vmem, ⟨5, _⟩ => ⟨S8x128, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![43, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x11008 : Shape := ⟨2, ![4096, 11008]⟩
abbrev S4096x2048 : Shape := ⟨2, ![4096, 2048]⟩
abbrev S_ : Shape := ⟨0, ![]⟩
abbrev S2048x11008 : Shape := ⟨2, ![2048, 11008]⟩
abbrev S11008x2048 : Shape := ⟨2, ![11008, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096x2048, .f32⟩
  | .hbm, ⟨2, _⟩ => ⟨S_, .f32⟩
  | .hbm, ⟨3, _⟩ => ⟨S2048x11008, .f32⟩
  | .hbm, ⟨4, _⟩ => ⟨S4096x11008, .f32⟩
  | .hbm, ⟨5, _⟩ => ⟨S11008x2048, .f32⟩
  | .hbm, ⟨6, _⟩ => ⟨S2048x11008, .f32⟩
  | .hbm, ⟨7, _⟩ => ⟨S11008x2048, .f32⟩
  | .hbm, ⟨8, _⟩ => ⟨S11008x2048, .bf16⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x3072 : Shape := ⟨2, ![4096, 3072]⟩
abbrev S2048x3072 : Shape := ⟨2, ![2048, 3072]⟩
abbrev S3072x2048 : Shape := ⟨2, ![3072, 2048]⟩
abbrev S4096x2048 : Shape := ⟨2, ![4096, 2048]⟩
abbrev S1024x3072 : Shape := ⟨2, ![1024, 3072]⟩
abbrev S3072x512 : Shape := ⟨2, ![3072, 512]⟩
abbrev S1024x512 : Shape := ⟨2, ![1024, 512]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S4096x3072, .bf16⟩
  | .hbm, ⟨3, _⟩ => ⟨S3072x2048, .f32⟩
  | .hbm, ⟨4, _⟩ => ⟨S3072x2048, .bf16⟩
  | .hbm, ⟨5, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S_, .f32⟩
  | .hbm, ⟨3, _⟩ => ⟨S4096x2048, .f32⟩
  | .hbm, ⟨4, _⟩ => ⟨S4096x3072, .f32⟩
  | .hbm, ⟨5, _⟩ => ⟨S4096x2048, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x3072 : Shape := ⟨2, ![4096, 3072]⟩
abbrev S4096x2048 : Shape := ⟨2, ![4096, 2048]⟩
abbrev S3072x2048 : Shape := ⟨2, ![3072, 2048]⟩
abbrev S4096x512 : Shape := ⟨2, ![4096, 512]⟩
abbrev S512x2048 : Shape := ⟨2, ![512, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x3072, .bf16⟩
  | .hbm, ⟨3, _⟩ => ⟨S4096x2048, .bf16⟩
  | .hbm, ⟨4, _⟩ => ⟨S3072x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S4096x2048 : Shape := ⟨2, ![4096, 2048]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S_, .f32⟩
  | .hbm, ⟨3, _⟩ => ⟨S2048x3072, .f32⟩
  | .hbm, ⟨4, _⟩ => ⟨S4096x3072, .f32⟩
  | .hbm, ⟨5, _⟩ => ⟨S3072x2048, .f32⟩
  | .hbm, ⟨6, _⟩ => ⟨S2048x3072, .f32⟩
  | .hbm, ⟨7, _⟩ => ⟨S3072x2048, .f32⟩
  | .hbm, ⟨8, _⟩ => ⟨S3072x2048, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x3072 : Shape := ⟨2, ![2048, 3072]⟩
abbrev S3072x2048 : Shape := ⟨2, ![3072, 2048]⟩
abbrev S4096x3072 : Shape := ⟨2, ![4096, 3072]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x2048, .bf16⟩
  | .hbm, ⟨3, _⟩ => ⟨S3072x2048, .f32⟩
  | .hbm, ⟨4, _⟩ => ⟨S3072x2048, .bf16⟩
  | .hbm, ⟨5, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x11008 : Shape := ⟨2, ![2048, 11008]⟩
abbrev S11008x2048 : Shape := ⟨2, ![11008, 2048]⟩
abbrev S4096x11008 : Shape := ⟨2, ![4096, 11008]⟩
abbrev S2048x2048 : Shape := ⟨2, ![2048, 2048]⟩
abbrev S256x2048 : Shape := ⟨2, ![256, 2048]⟩
abbrev S2048x256 : Shape := ⟨2, ![2048, 256]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x2048, .bf16⟩
  | .hbm, ⟨3, _⟩ => ⟨S11008x2048, .f32⟩
  | .hbm, ⟨4, _⟩ => ⟨S11008x2048, .bf16⟩
  | .hbm, ⟨5, _⟩ => ⟨S4096x11008, .bf16⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .bf16⟩
  | .local _ .vmem, ⟨5, _⟩ => ⟨S2048x256, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x11008 : Shape := ⟨2, ![2048, 11008]⟩
abbrev S4096x11008 : Shape := ⟨2, ![4096, 11008]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x11008, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x2048 : Shape := ⟨2, ![4096, 2048]⟩
abbrev S4096x5504 : Shape := ⟨2, ![4096, 5504]⟩
abbrev S5504x2048 : Shape := ⟨2, ![5504, 2048]⟩
abbrev S1024x5504 : Shape := ⟨2, ![1024, 5504]⟩
abbrev S5504x512 : Shape := ⟨2, ![5504, 512]⟩
abbrev S1024x512 : Shape := ⟨2, ![1024, 512]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5504, .f32⟩
  | .hbm, ⟨2, _⟩ => ⟨S5504x2048, .f32⟩
  | .hbm, ⟨3, _⟩ => ⟨S4096x5504, .bf16⟩
  | .hbm, ⟨4, _⟩ => ⟨S5504x2048, .bf16⟩
  | .hbm, ⟨5, _⟩ => ⟨S4096x2048, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S4096x5504 : Shape := ⟨2, ![4096, 5504]⟩
abbrev S5504x2048 : Shape := ⟨2, ![5504, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5504, .f32⟩
  | .hbm, ⟨2, _⟩ => ⟨S5504x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S2x8x2048 : Shape := ⟨3, ![2, 8, 2048]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .hbm, ⟨8, _⟩ => ⟨S_, .f32⟩
  | .hbm, ⟨9, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c16_i32 : BitVec 32 := 16#32
  let v4 : BitVec 32 := Scalar.muli arg8 c16_i32
  v4
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c16_i32 : BitVec 32 := 16#32
  let v4 : BitVec 32 := Scalar.muli arg8 c16_i32
  let v5 : BitVec 32 := v4
  let v6 : Index := Scalar.indexCast v5
  let c0 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel15.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩
abbrev S2x8x2048 : Shape := ⟨3, ![2, 8, 2048]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c16_i32_3 : BitVec 32 := 16#32
  let v4 : BitVec 32 := Scalar.muli arg8 c16_i32_3
  v4
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c16_i32_3 : BitVec 32 := 16#32
  let v4 : BitVec 32 := Scalar.muli arg8 c16_i32_3
  let v5 : BitVec 32 := v4
  let v6 : Index := Scalar.indexCast v5
  let c0 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Num.lean ====
/- The mathematics of the pooling mixer's backward pass, over the reals and with no program in it: windowed means over time, their
   gradient, and the same sums as the two programs order them. Times and columns are natural numbers; a function is zero where a program pads. -/
module

public import Idealize.ShloMosaic.PureOps.Ideal.Laws
public import Idealize.ShloMosaic.Lib.Pointwise
public import Mathlib.Algebra.BigOperators.Intervals
public import Mathlib.Tactic.Ring
public import Mathlib.Tactic.NormNum

@[expose] public section

noncomputable section

namespace Cert.Proof.Pool

open Idealize.ShloMosaic

/-- A real vector read as an array of extended reals. -/
def cv1 {n0 : ℕ} (f : ℕ → ℝ) : (⟨1, ![n0]⟩ : Shape).Idx → EReal := fun y => ((f (y 0).val : ℝ) : EReal)

/-- A real matrix read as an array of extended reals. -/
def cv2 {n0 n1 : ℕ} (f : ℕ → ℕ → ℝ) : (⟨2, ![n0, n1]⟩ : Shape).Idx → EReal := fun y => ((f (y 0).val (y 1).val : ℝ) : EReal)

/-- A real array of three axes read as an array of extended reals. -/
def cv3 {n0 n1 n2 : ℕ} (f : ℕ → ℕ → ℕ → ℝ) : (⟨3, ![n0, n1, n2]⟩ : Shape).Idx → EReal :=
  fun y => ((f (y 0).val (y 1).val (y 2).val : ℝ) : EReal)

theorem cv1_ix {n0 : ℕ} (f : ℕ → ℝ) (a : Fin n0) : cv1 f (ix1 a) = ((f a.val : ℝ) : EReal) := rfl

theorem cv2_ix {n0 n1 : ℕ} (f : ℕ → ℕ → ℝ) (a : Fin n0) (b : Fin n1) : cv2 f (ix2 a b) = ((f a.val b.val : ℝ) : EReal) := rfl

theorem cv3_ix {n0 n1 n2 : ℕ} (f : ℕ → ℕ → ℕ → ℝ) (a : Fin n0) (b : Fin n1) (c : Fin n2) :
    cv3 f (ix3 a b c) = ((f a.val b.val c.val : ℝ) : EReal) := rfl

theorem ext1 {n0 : ℕ} {α : Type} {f g : (⟨1, ![n0]⟩ : Shape).Idx → α} (h : ∀ a, f (ix1 a) = g (ix1 a)) : f = g := by
  funext y; rw [eq_ix1 y]; exact h _

/-- Two arrays of two axes are equal when they agree at every pair of coordinates. -/
theorem ext2 {n0 n1 : ℕ} {α : Type} {f g : (⟨2, ![n0, n1]⟩ : Shape).Idx → α} (h : ∀ a b, f (ix2 a b) = g (ix2 a b)) : f = g := by
  funext y; rw [eq_ix2 y]; exact h _ _

theorem ext3 {n0 n1 n2 : ℕ} {α : Type} {f g : (⟨3, ![n0, n1, n2]⟩ : Shape).Idx → α} (h : ∀ a b c, f (ix3 a b c) = g (ix3 a b c)) : f = g := by
  funext y; rw [eq_ix3 y]; exact h _ _ _

/-- A finite sum of reals is the same sum among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over a bounded index is a sum over a range. -/
theorem fin_range (n : ℕ) (f : ℕ → ℝ) : ∑ k : Fin n, f k.val = ∑ k ∈ Finset.range n, f k := Fin.sum_univ_eq_sum_range f n

theorem zero_sub_coe (a : ℝ) : (0 : EReal) - (a : EReal) = ((-a : ℝ) : EReal) := by rw [zero_sub, EReal.coe_neg]

/-- One over a nonzero real, as the programs divide. -/
theorem one_div_coe {y : ℝ} (h : y ≠ 0) : Ideal.div 1 (y : EReal) = ((1 / y : ℝ) : EReal) := by rw [Ideal.div_coe h, one_mul]

theorem bits_two : Ideal.ofBits .f32 0x40000000#32 = ((2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num

section
variable (x ct : ℕ → ℕ → ℝ) (w : ℕ → ℕ → ℕ → ℝ) (sc : ℕ → ℝ)

/-- The input moved sixteen rows down, zero above it. -/
def xz (n c : ℕ) : ℝ := if 16 ≤ n then x (n - 16) c else 0

/-- How many rows the window of group `g` holds at time `t`. -/
def cnt (g t : ℕ) : ℝ := min ((t : ℝ) + 1) (2 ^ (g + 1))

/-- The sum over the window of group `g` that ends at time `t`. -/
def ps (g t a : ℕ) : ℝ := ∑ j ∈ Finset.range (2 ^ (g + 1)), xz x (t + (16 - j)) (128 * g + a)

/-- The window's mean less the input itself. -/
def df (g t a : ℕ) : ℝ := ps x g t a * (1 / cnt g t) - x t (128 * g + a)

/-- The cotangent times the scale. -/
def dy (g t b : ℕ) : ℝ := ct t (128 * g + b) * sc (128 * g + b)

/-- The cotangent of the mean less the input. -/
def dd (g t a : ℕ) : ℝ := ∑ b ∈ Finset.range 128, dy ct sc g t b * w g a b

/-- The same shared out over the window. -/
def qq (g t a : ℕ) : ℝ := dd ct w sc g t a * (1 / cnt g t)

/-- The gradient of the input. -/
def dxv (g t a : ℕ) : ℝ := -dd ct w sc g t a + ∑ j ∈ Finset.range (2 ^ (g + 1)), qq ct w sc g (t + j) a

/-- What time `t` adds to the gradient of the scale. -/
def tm (g t b : ℕ) : ℝ := ct t (128 * g + b) * ∑ a ∈ Finset.range 128, df x g t a * w g a b

/-- The gradient of the weights. -/
def dwv (g a b : ℕ) : ℝ := ∑ t ∈ Finset.range 4096, df x g t a * dy ct sc g t b

/-- The gradient of the scale. -/
def dsv (g b : ℕ) : ℝ := ∑ t ∈ Finset.range 4096, tm x ct w g t b

/-- A function of group, row and column of the group, read at a column of the whole. -/
def atG (f : ℕ → ℕ → ℕ → ℝ) (n c : ℕ) : ℝ := f (c / 128) n (c % 128)

end

theorem atG_at (f : ℕ → ℕ → ℕ → ℝ) (g n b : ℕ) (hb : b < 128) : atG f n (128 * g + b) = f g n b := by
  rw [atG, show (128 * g + b) / 128 = g by omega, show (128 * g + b) % 128 = b by omega]
theorem atG_0 (f : ℕ → ℕ → ℕ → ℝ) (n : ℕ) (b : Fin 128) : atG f n b.val = f 0 n b.val := by
  rw [← atG_at f 0 n b.val b.isLt, Nat.mul_zero, Nat.zero_add]
theorem atG_1 (f : ℕ → ℕ → ℕ → ℝ) (n : ℕ) (b : Fin 128) : atG f n (128 + b.val) = f 1 n b.val := atG_at f 1 n b.val b.isLt
theorem atG_2 (f : ℕ → ℕ → ℕ → ℝ) (n : ℕ) (b : Fin 128) : atG f n (256 + b.val) = f 2 n b.val := atG_at f 2 n b.val b.isLt
theorem atG_3 (f : ℕ → ℕ → ℕ → ℝ) (n : ℕ) (b : Fin 128) : atG f n (384 + b.val) = f 3 n b.val := atG_at f 3 n b.val b.isLt

theorem cnt_pos (g t : ℕ) : 0 < cnt g t := lt_min (by positivity) (by positivity)
theorem cnt_ne (g t : ℕ) : cnt g t ≠ 0 := (cnt_pos g t).ne'

end Cert.Proof.Pool

end
-- ==== Proof.Finite.lean ====
/- An array every element of which is finite is an array of reals. -/
module

public import proofs.«01_k».proof.Proof.Num

@[expose] public section

noncomputable section

namespace Cert.Proof.Pool

open Idealize.ShloMosaic

/-- The comparison `|x| < ∞` holds only of finite `x`. -/
theorem finite_of_lt {s : Shape} {z : Shape} (x : FVec Ideal s .f32) (dims : Fin z.rank → Fin s.rank) (hb : z.BroadcastsInDim s dims)
    (h : cmpf .olt (Host.absf x) (broadcastInDim s dims hb (constant (F := Ideal) z .f32 0x7F800000#32)) = fun _ => 1#1) (i : s.Idx) :
    x i ≠ (⊤ : EReal) ∧ x i ≠ (⊥ : EReal) := by
  have e := congrFun h i
  have ht : Ideal.ofBits .f32 0x7F800000#32 = ⊤ := by simp [Ideal.ofBits, Ideal.ieee]
  have e' : Ideal.cmp .olt (max (x i : EReal) (-(x i : EReal))) (Ideal.ofBits .f32 0x7F800000#32) = 1#1 := e
  rw [ht] at e'
  constructor
  · intro hx
    rw [hx] at e'
    simp [Ideal.cmp] at e'
  · intro hx
    rw [hx] at e'
    simp [Ideal.cmp] at e'

/-- The real array under a one-axis array. -/
def re1 {n0 : ℕ} (A : (⟨1, ![n0]⟩ : Shape).Idx → EReal) (a : ℕ) : ℝ := if h : a < n0 then (A (ix1 ⟨a, h⟩)).toReal else 0

/-- The real array under a two-axis array, zero outside it. -/
def re2 {n0 n1 : ℕ} (A : (⟨2, ![n0, n1]⟩ : Shape).Idx → EReal) (a b : ℕ) : ℝ :=
  if h : a < n0 ∧ b < n1 then (A (ix2 ⟨a, h.1⟩ ⟨b, h.2⟩)).toReal else 0

/-- The real array under a three-axis array, zero outside it. -/
def re3 {n0 n1 n2 : ℕ} (A : (⟨3, ![n0, n1, n2]⟩ : Shape).Idx → EReal) (a b c : ℕ) : ℝ :=
  if h : a < n0 ∧ b < n1 ∧ c < n2 then (A (ix3 ⟨a, h.1⟩ ⟨b, h.2.1⟩ ⟨c, h.2.2⟩)).toReal else 0

theorem re1_eq {n0 : ℕ} (A : (⟨1, ![n0]⟩ : Shape).Idx → EReal) (h : ∀ i, A i ≠ ⊤ ∧ A i ≠ ⊥) : A = cv1 (re1 A) := by
  refine ext1 fun a => ?_
  rw [cv1_ix, re1, dif_pos a.isLt]
  exact (EReal.coe_toReal (h _).1 (h _).2).symm

theorem re2_eq {n0 n1 : ℕ} (A : (⟨2, ![n0, n1]⟩ : Shape).Idx → EReal) (h : ∀ i, A i ≠ ⊤ ∧ A i ≠ ⊥) : A = cv2 (re2 A) := by
  refine ext2 fun a b => ?_
  rw [cv2_ix, re2, dif_pos ⟨a.isLt, b.isLt⟩]
  exact (EReal.coe_toReal (h _).1 (h _).2).symm

theorem re3_eq {n0 n1 n2 : ℕ} (A : (⟨3, ![n0, n1, n2]⟩ : Shape).Idx → EReal) (h : ∀ i, A i ≠ ⊤ ∧ A i ≠ ⊥) : A = cv3 (re3 A) := by
  refine ext3 fun a b c => ?_
  rw [cv3_ix, re3, dif_pos ⟨a.isLt, b.isLt, c.isLt⟩]
  exact (EReal.coe_toReal (h _).1 (h _).2).symm

theorem re2_zero {n0 n1 : ℕ} (A : (⟨2, ![n0, n1]⟩ : Shape).Idx → EReal) (t : ℕ) (ht : n0 ≤ t) (d : ℕ) : re2 A t d = 0 :=
  dif_neg fun h => absurd h.1 (Nat.not_lt.mpr ht)

end Cert.Proof.Pool

end
-- ==== Proof.Buf.lean ====
/- Reading a buffer of reals that several stores made up: every store is a block of one real array, and where the stores reach, the buffer reads that array. -/
module

public import proofs.«01_k».proof.Proof.Num
public import Idealize.ShloMosaic.Lib.Pipeline.CanonAppend
public import Idealize.ShloMosaic.Lib.Pipeline.ReadBack
public import Idealize.ShloMosaic.Lib.Pipeline.FrameBody

@[expose] public section

noncomputable section

namespace Cert.Proof.Pool

open Idealize.ShloMosaic

/-! ## Loads of part of a real array -/

theorem ld_cv2 {n0 n1 m0 m1 o0 o1 : ℕ} (f : ℕ → ℕ → ℝ) (inb) :
    View.ld (Val := Elt Ideal) (e' := .f32) (cv2 f : (⟨2, ![n0, n1]⟩ : Shape).Idx → EReal) (Rect.unit (s := ⟨2, ![n0, n1]⟩) ![o0, o1] ![m0, m1] inb)
      = (cv2 (fun r c => f (o0 + r) (o1 + c)) : (⟨2, ![m0, m1]⟩ : Shape).Idx → EReal) := by
  refine ext2 fun a b => ?_
  pointwise [cv2_ix]
  rfl

theorem idx_cv2 {n0 n1 m0 m1 o0 o1 : ℕ} (f : ℕ → ℕ → ℝ) (inb) :
    (fun j => (cv2 f : (⟨2, ![n0, n1]⟩ : Shape).Idx → EReal) ((Rect.unit (s := ⟨2, ![n0, n1]⟩) ![o0, o1] ![m0, m1] inb).idx j))
      = (cv2 (fun r c => f (o0 + r) (o1 + c)) : (⟨2, ![m0, m1]⟩ : Shape).Idx → EReal) :=
  ld_cv2 f inb

theorem ld_cv3 {n0 n1 n2 m0 m1 m2 o0 o1 o2 : ℕ} (f : ℕ → ℕ → ℕ → ℝ) (inb) :
    View.ld (Val := Elt Ideal) (e' := .f32) (cv3 f : (⟨3, ![n0, n1, n2]⟩ : Shape).Idx → EReal) (Rect.unit (s := ⟨3, ![n0, n1, n2]⟩) ![o0, o1, o2] ![m0, m1, m2] inb)
      = (cv3 (fun a b c => f (o0 + a) (o1 + b) (o2 + c)) : (⟨3, ![m0, m1, m2]⟩ : Shape).Idx → EReal) := by
  refine ext3 fun a b c => ?_
  pointwise [cv3_ix]
  rfl

theorem ld_cv3b {n0 n1 n2 m0 m1 m2 o0 o1 o2 : ℕ} (f : ℕ → ℕ → ℕ → ℝ) (inb) :
    View.ld (Val := Elt Ideal) (e' := .bf16) (cv3 f : (⟨3, ![n0, n1, n2]⟩ : Shape).Idx → EReal) (Rect.unit (s := ⟨3, ![n0, n1, n2]⟩) ![o0, o1, o2] ![m0, m1, m2] inb)
      = (cv3 (fun a b c => f (o0 + a) (o1 + b) (o2 + c)) : (⟨3, ![m0, m1, m2]⟩ : Shape).Idx → EReal) :=
  ld_cv3 f inb

/-! ## Stores that are blocks of one array -/

theorem piece2 {n0 n1 m0 m1 o0 o1 : ℕ} (f F : ℕ → ℕ → ℝ) (inb) (h : ∀ r < m0, ∀ c < m1, f r c = F (o0 + r) (o1 + c))
    (x : (Rect.unit (s := ⟨2, ![n0, n1]⟩) ![o0, o1] ![m0, m1] inb).shape.Idx) :
    (cv2 f : (⟨2, ![m0, m1]⟩ : Shape).Idx → EReal) x
      = (cv2 F : (⟨2, ![n0, n1]⟩ : Shape).Idx → EReal) ((Rect.unit (s := ⟨2, ![n0, n1]⟩) ![o0, o1] ![m0, m1] inb).emb x) := by
  have e : (cv2 F : (⟨2, ![n0, n1]⟩ : Shape).Idx → EReal) ((Rect.unit (s := ⟨2, ![n0, n1]⟩) ![o0, o1] ![m0, m1] inb).emb x)
      = ((F (o0 + 1 * (x 0).val) (o1 + 1 * (x 1).val) : ℝ) : EReal) := rfl
  rw [e, Nat.one_mul, Nat.one_mul, ← h _ (x 0).isLt _ (x 1).isLt]; rfl

theorem piece3 {n0 n1 n2 m0 m1 m2 o0 o1 o2 : ℕ} (f F : ℕ → ℕ → ℕ → ℝ) (inb)
    (h : ∀ r < m0, ∀ c < m1, ∀ d < m2, f r c d = F (o0 + r) (o1 + c) (o2 + d))
    (x : (Rect.unit (s := ⟨3, ![n0, n1, n2]⟩) ![o0, o1, o2] ![m0, m1, m2] inb).shape.Idx) :
    (cv3 f : (⟨3, ![m0, m1, m2]⟩ : Shape).Idx → EReal) x
      = (cv3 F : (⟨3, ![n0, n1, n2]⟩ : Shape).Idx → EReal) ((Rect.unit (s := ⟨3, ![n0, n1, n2]⟩) ![o0, o1, o2] ![m0, m1, m2] inb).emb x) := by
  have e : (cv3 F : (⟨3, ![n0, n1, n2]⟩ : Shape).Idx → EReal) ((Rect.unit (s := ⟨3, ![n0, n1, n2]⟩) ![o0, o1, o2] ![m0, m1, m2] inb).emb x)
      = ((F (o0 + 1 * (x 0).val) (o1 + 1 * (x 1).val) (o2 + 1 * (x 2).val) : ℝ) : EReal) := rfl
  rw [e, Nat.one_mul, Nat.one_mul, Nat.one_mul, ← h _ (x 0).isLt _ (x 1).isLt _ (x 2).isLt]; rfl

theorem mem2 {n0 n1 m0 m1 o0 o1 : ℕ} (inb) (y : (⟨2, ![n0, n1]⟩ : Shape).Idx)
    (h0 : o0 ≤ (y 0).val) (h0' : (y 0).val < o0 + m0) (h1 : o1 ≤ (y 1).val) (h1' : (y 1).val < o1 + m1) :
    y ∈ (Rect.unit (s := ⟨2, ![n0, n1]⟩) ![o0, o1] ![m0, m1] inb).set := by
  rw [Rect.mem_set_unit]
  intro a
  match a with
  | ⟨0, _⟩ => exact ⟨h0, h0'⟩
  | ⟨1, _⟩ => exact ⟨h1, h1'⟩

theorem not_mem2 {n0 n1 m0 m1 o0 o1 : ℕ} (inb) (y : (⟨2, ![n0, n1]⟩ : Shape).Idx) (h : o0 + m0 ≤ (y 0).val) :
    y ∉ (Rect.unit (s := ⟨2, ![n0, n1]⟩) ![o0, o1] ![m0, m1] inb).set := by
  rw [Rect.mem_set_unit]
  intro hm
  have h' : (y 0).val < o0 + m0 := (hm 0).2
  omega

theorem not_mem2' {n0 n1 m0 m1 o0 o1 : ℕ} (inb) (y : (⟨2, ![n0, n1]⟩ : Shape).Idx) (h : (y 0).val < o0) :
    y ∉ (Rect.unit (s := ⟨2, ![n0, n1]⟩) ![o0, o1] ![m0, m1] inb).set := by
  rw [Rect.mem_set_unit]
  intro hm
  have h' : o0 ≤ (y 0).val := (hm 0).1
  omega

/-- A store of rows above the one read is passed over. -/
theorem canon_below {n0 n1 m0 m1 o0 o1 : ℕ} {e : EltTy} (inb) (v : (⟨2, ![m0, m1]⟩ : Shape).Idx → Elt Ideal e)
    (L : List (View.Piece (Elt Ideal) (⟨2, ![n0, n1]⟩ : Shape) e)) (y : (⟨2, ![n0, n1]⟩ : Shape).Idx) (h : o0 + m0 ≤ (y 0).val) :
    View.canon (⟨Rect.unit (s := ⟨2, ![n0, n1]⟩) ![o0, o1] ![m0, m1] inb, v⟩ :: L) y = View.canon L y :=
  View.canon_cons_of_not_mem ⟨Rect.unit (s := ⟨2, ![n0, n1]⟩) ![o0, o1] ![m0, m1] inb, v⟩ L (not_mem2 inb y h)

theorem canon_above {n0 n1 m0 m1 o0 o1 : ℕ} {e : EltTy} (inb) (v : (⟨2, ![m0, m1]⟩ : Shape).Idx → Elt Ideal e)
    (L : List (View.Piece (Elt Ideal) (⟨2, ![n0, n1]⟩ : Shape) e)) (y : (⟨2, ![n0, n1]⟩ : Shape).Idx) (h : (y 0).val < o0) :
    View.canon (⟨Rect.unit (s := ⟨2, ![n0, n1]⟩) ![o0, o1] ![m0, m1] inb, v⟩ :: L) y = View.canon L y :=
  View.canon_cons_of_not_mem ⟨Rect.unit (s := ⟨2, ![n0, n1]⟩) ![o0, o1] ![m0, m1] inb, v⟩ L (not_mem2' inb y h)

theorem mem3 {n0 n1 n2 m0 m1 m2 o0 o1 o2 : ℕ} (inb) (y : (⟨3, ![n0, n1, n2]⟩ : Shape).Idx)
    (h0 : o0 ≤ (y 0).val) (h0' : (y 0).val < o0 + m0) (h1 : o1 ≤ (y 1).val) (h1' : (y 1).val < o1 + m1)
    (h2 : o2 ≤ (y 2).val) (h2' : (y 2).val < o2 + m2) :
    y ∈ (Rect.unit (s := ⟨3, ![n0, n1, n2]⟩) ![o0, o1, o2] ![m0, m1, m2] inb).set := by
  rw [Rect.mem_set_unit]
  intro a
  match a with
  | ⟨0, _⟩ => exact ⟨h0, h0'⟩
  | ⟨1, _⟩ => exact ⟨h1, h1'⟩
  | ⟨2, _⟩ => exact ⟨h2, h2'⟩

theorem canon_of {s : Shape} {e : EltTy} (G : s.Idx → Elt Ideal e) (L T : List (View.Piece (Elt Ideal) s e)) (h : View.PiecesOf G L) (y : s.Idx)
    (hc : ∃ p ∈ L, y ∈ p.1.set) : View.canon (L ++ T) y = G y :=
  View.canon_append_of_piecesOf G T L h y hc

/-- A column below 512 lies in one of the four groups of 128. -/
theorem group_of {n0 m0 o0 : ℕ} (e : EltTy) (inb0 inb1 inb2 inb3)
    (w0 w1 w2 w3 : (⟨2, ![m0, 128]⟩ : Shape).Idx → Elt Ideal e) (y : (⟨2, ![n0, 512]⟩ : Shape).Idx)
    (h0 : o0 ≤ (y 0).val) (h0' : (y 0).val < o0 + m0) :
    ∃ p ∈ ([⟨Rect.unit (s := ⟨2, ![n0, 512]⟩) ![o0, 384] ![m0, 128] inb3, w3⟩, ⟨Rect.unit (s := ⟨2, ![n0, 512]⟩) ![o0, 256] ![m0, 128] inb2, w2⟩,
        ⟨Rect.unit (s := ⟨2, ![n0, 512]⟩) ![o0, 128] ![m0, 128] inb1, w1⟩, ⟨Rect.unit (s := ⟨2, ![n0, 512]⟩) ![o0, 0] ![m0, 128] inb0, w0⟩] :
        List (View.Piece (Elt Ideal) (⟨2, ![n0, 512]⟩ : Shape) e)), y ∈ p.1.set := by
  have hy : (y 1).val < 512 := (y 1).isLt
  rcases Nat.lt_or_ge (y 1).val 128 with h | h
  · exact ⟨⟨Rect.unit ![o0, 0] ![m0, 128] inb0, w0⟩, by simp only [List.mem_cons, true_or, or_true], mem2 inb0 y h0 h0' (Nat.zero_le _) (by omega)⟩
  rcases Nat.lt_or_ge (y 1).val 256 with h' | h'
  · exact ⟨⟨Rect.unit ![o0, 128] ![m0, 128] inb1, w1⟩, by simp only [List.mem_cons, true_or, or_true], mem2 inb1 y h0 h0' h (by omega)⟩
  rcases Nat.lt_or_ge (y 1).val 384 with h'' | h''
  · exact ⟨⟨Rect.unit ![o0, 256] ![m0, 128] inb2, w2⟩, by simp only [List.mem_cons, true_or, or_true], mem2 inb2 y h0 h0' h' (by omega)⟩
  · exact ⟨_, List.mem_cons_self, mem2 inb3 y h0 h0' h'' (by omega)⟩

/-- Four stores side by side, one to a group of columns, over whatever lay before. -/
theorem cols4 {n0 m0 o0 : ℕ} (F f0 f1 f2 f3 : ℕ → ℕ → ℝ) (inb0 inb1 inb2 inb3) (T : List (View.Piece (Elt Ideal) (⟨2, ![n0, 512]⟩ : Shape) .f32))
    (h0 : ∀ r < m0, ∀ c < 128, f0 r c = F (o0 + r) (0 + c)) (h1 : ∀ r < m0, ∀ c < 128, f1 r c = F (o0 + r) (128 + c))
    (h2 : ∀ r < m0, ∀ c < 128, f2 r c = F (o0 + r) (256 + c)) (h3 : ∀ r < m0, ∀ c < 128, f3 r c = F (o0 + r) (384 + c))
    (y : (⟨2, ![n0, 512]⟩ : Shape).Idx) (hy : o0 ≤ (y 0).val) (hy' : (y 0).val < o0 + m0) :
    View.canon (Val := Elt Ideal) (e := .f32) (⟨Rect.unit (s := ⟨2, ![n0, 512]⟩) ![o0, 384] ![m0, 128] inb3, cv2 f3⟩ :: ⟨Rect.unit (s := ⟨2, ![n0, 512]⟩) ![o0, 256] ![m0, 128] inb2, cv2 f2⟩ ::
      ⟨Rect.unit (s := ⟨2, ![n0, 512]⟩) ![o0, 128] ![m0, 128] inb1, cv2 f1⟩ :: ⟨Rect.unit (s := ⟨2, ![n0, 512]⟩) ![o0, 0] ![m0, 128] inb0, cv2 f0⟩ :: T) y = cv2 F y :=
  canon_of (e := .f32) (cv2 F) [_, _, _, _] T ⟨piece2 f3 F inb3 h3, piece2 f2 F inb2 h2, piece2 f1 F inb1 h1, piece2 f0 F inb0 h0, trivial⟩ y
    (group_of .f32 inb0 inb1 inb2 inb3 _ _ _ _ y hy hy')

/-- The same in the narrower format. -/
theorem cols4b {n0 m0 o0 : ℕ} (F f0 f1 f2 f3 : ℕ → ℕ → ℝ) (inb0 inb1 inb2 inb3) (T : List (View.Piece (Elt Ideal) (⟨2, ![n0, 512]⟩ : Shape) .bf16))
    (h0 : ∀ r < m0, ∀ c < 128, f0 r c = F (o0 + r) (0 + c)) (h1 : ∀ r < m0, ∀ c < 128, f1 r c = F (o0 + r) (128 + c))
    (h2 : ∀ r < m0, ∀ c < 128, f2 r c = F (o0 + r) (256 + c)) (h3 : ∀ r < m0, ∀ c < 128, f3 r c = F (o0 + r) (384 + c))
    (y : (⟨2, ![n0, 512]⟩ : Shape).Idx) (hy : o0 ≤ (y 0).val) (hy' : (y 0).val < o0 + m0) :
    View.canon (Val := Elt Ideal) (e := .bf16) (⟨Rect.unit (s := ⟨2, ![n0, 512]⟩) ![o0, 384] ![m0, 128] inb3, cv2 f3⟩ :: ⟨Rect.unit (s := ⟨2, ![n0, 512]⟩) ![o0, 256] ![m0, 128] inb2, cv2 f2⟩ ::
      ⟨Rect.unit (s := ⟨2, ![n0, 512]⟩) ![o0, 128] ![m0, 128] inb1, cv2 f1⟩ :: ⟨Rect.unit (s := ⟨2, ![n0, 512]⟩) ![o0, 0] ![m0, 128] inb0, cv2 f0⟩ :: T) y = cv2 F y :=
  canon_of (e := .bf16) (cv2 F) [_, _, _, _] T ⟨piece2 f3 F inb3 h3, piece2 f2 F inb2 h2, piece2 f1 F inb1 h1, piece2 f0 F inb0 h0, trivial⟩ y
    (group_of .bf16 inb0 inb1 inb2 inb3 _ _ _ _ y hy hy')

/-- Four stores, one to a group's square of weights. -/
theorem squares4 (F f0 f1 f2 f3 : ℕ → ℕ → ℕ → ℝ) (inb0 inb1 inb2 inb3) (T : List (View.Piece (Elt Ideal) (⟨3, ![4, 128, 128]⟩ : Shape) .f32))
    (h0 : ∀ r < 1, ∀ c < 128, ∀ d < 128, f0 r c d = F (0 + r) (0 + c) (0 + d)) (h1 : ∀ r < 1, ∀ c < 128, ∀ d < 128, f1 r c d = F (1 + r) (0 + c) (0 + d))
    (h2 : ∀ r < 1, ∀ c < 128, ∀ d < 128, f2 r c d = F (2 + r) (0 + c) (0 + d)) (h3 : ∀ r < 1, ∀ c < 128, ∀ d < 128, f3 r c d = F (3 + r) (0 + c) (0 + d))
    (y : (⟨3, ![4, 128, 128]⟩ : Shape).Idx) :
    View.canon (Val := Elt Ideal) (e := .f32) (⟨Rect.unit (s := ⟨3, ![4, 128, 128]⟩) ![3, 0, 0] ![1, 128, 128] inb3, cv3 f3⟩ ::
      ⟨Rect.unit (s := ⟨3, ![4, 128, 128]⟩) ![2, 0, 0] ![1, 128, 128] inb2, cv3 f2⟩ ::
      ⟨Rect.unit (s := ⟨3, ![4, 128, 128]⟩) ![1, 0, 0] ![1, 128, 128] inb1, cv3 f1⟩ ::
      ⟨Rect.unit (s := ⟨3, ![4, 128, 128]⟩) ![0, 0, 0] ![1, 128, 128] inb0, cv3 f0⟩ :: T) y = cv3 F y := by
  refine canon_of (e := .f32) (cv3 F) [_, _, _, _] T ⟨piece3 f3 F inb3 h3, piece3 f2 F inb2 h2, piece3 f1 F inb1 h1, piece3 f0 F inb0 h0, trivial⟩ y ?_
  have e0 : (y 0).val < 4 := (y 0).isLt
  have e1 : (y 1).val < 128 := (y 1).isLt
  have e2 : (y 2).val < 128 := (y 2).isLt
  rcases Nat.lt_or_ge (y 0).val 1 with h | h
  · exact ⟨⟨Rect.unit ![0, 0, 0] ![1, 128, 128] inb0, cv3 f0⟩, by simp only [List.mem_cons, true_or, or_true], mem3 inb0 y (by omega) (by omega) (by omega) (by omega) (by omega) (by omega)⟩
  rcases Nat.lt_or_ge (y 0).val 2 with h' | h'
  · exact ⟨⟨Rect.unit ![1, 0, 0] ![1, 128, 128] inb1, cv3 f1⟩, by simp only [List.mem_cons, true_or, or_true], mem3 inb1 y (by omega) (by omega) (by omega) (by omega) (by omega) (by omega)⟩
  rcases Nat.lt_or_ge (y 0).val 3 with h'' | h''
  · exact ⟨⟨Rect.unit ![2, 0, 0] ![1, 128, 128] inb2, cv3 f2⟩, by simp only [List.mem_cons, true_or, or_true], mem3 inb2 y (by omega) (by omega) (by omega) (by omega) (by omega) (by omega)⟩
  · exact ⟨⟨Rect.unit ![3, 0, 0] ![1, 128, 128] inb3, cv3 f3⟩, by simp only [List.mem_cons, true_or, or_true], mem3 inb3 y (by omega) (by omega) (by omega) (by omega) (by omega) (by omega)⟩

end Cert.Proof.Pool

end
-- ==== Proof.Block.lean ====
/- What the kernel's body computes at one grid point, read as arrays of reals: each pure value of the body as a real function of its operands. -/
module

public import proofs.«01_k».proof.Proof.Buf
public import proofs.«01_k».proof.Proof.Gen.KernelIdeal.Frame
public import proofs.«01_k».proof.Proof.Gen.KernelIdeal
public import Idealize.ShloMosaic.Lib.Pointwise

@[expose] public section

noncomputable section

namespace Cert.Proof.Pool

open Idealize.ShloMosaic Cert.KernelIdeal Cert.KernelIdeal.Gen

/-! ## The position of a row in time -/

/-- The word that the body makes of a row's position: no wrap-around at these sizes. -/
theorem word_pos (i p s : ℕ) (hi : i + p = 15) (hs : s < 256) :
    (IntOp.addi (IntOp.addi (BitVec.ofNat 32 s) (Scalar.muli (Scalar.subi (15#32) (BitVec.ofNat 32 i)) 256#32)) 1#32).toInt = ((256 * p + s + 1 : ℕ) : ℤ) := by
  obtain rfl : i = 15 - p := by omega
  have hp : p ≤ 15 := by omega
  have : IntOp.addi (IntOp.addi (BitVec.ofNat 32 s) (Scalar.muli (Scalar.subi (15#32) (BitVec.ofNat 32 (15 - p))) 256#32)) 1#32 = BitVec.ofNat 32 (256 * p + s + 1) := by
    apply BitVec.eq_of_toNat_eq
    simp [IntOp.addi, Scalar.muli, Scalar.subi, IntOp.muli, IntOp.subi]
    omega
  rw [this, BitVec.toInt_eq_toNat_of_lt (by rw [BitVec.toNat_ofNat]; omega), BitVec.toNat_ofNat, Nat.mod_eq_of_lt (by omega)]

theorem pos_eq (i : grid0.Coords) (p : ℕ) (hi : (i 0).val + p = 15) : k0_pay7 (F := Ideal) i = cv2 (fun s _ => ((256 * p + s : ℕ) : ℝ) + 1) := by
  refine ext2 fun s d => ?_
  unfold_payloads
  pointwise
  rw [show ∀ b : BitVec 32, FloatOps.sitofp (F := Ideal) FTy.f32 b = ((b.toInt : ℝ) : EReal) from fun _ => rfl, word_pos _ p s.val hi s.isLt, cv2_ix]
  push_cast; rfl

/-- One over the smaller of a position and a window's length. -/
theorem inv_min (g n : ℕ) (b : EReal) (hb : b = ((2 ^ (g + 1) : ℝ) : EReal)) :
    Ideal.div 1 (min (((n : ℝ) + 1 : ℝ) : EReal) b) = ((1 / cnt g n : ℝ) : EReal) := by
  subst hb
  rw [← (EReal.coe_strictMono.monotone.map_min), ← one_div_coe (cnt_ne g n)]; rfl

theorem two0 : Ideal.ofBits .f32 0x40000000#32 = ((2 ^ (0 + 1) : ℝ) : EReal) := by rw [bits_two]; norm_num
theorem two1 : Ideal.ofBits .f32 0x40800000#32 = ((2 ^ (1 + 1) : ℝ) : EReal) := by rw [bits_four]; norm_num
theorem two2 : Ideal.ofBits .f32 0x41000000#32 = ((2 ^ (2 + 1) : ℝ) : EReal) := by rw [bits_eight]; norm_num
theorem two3 : Ideal.ofBits .f32 0x41800000#32 = ((2 ^ (3 + 1) : ℝ) : EReal) := by rw [bits_sixteen]; norm_num

/-! ## The windows' sums, term by term -/

theorem xz_here (x : ℕ → ℕ → ℝ) (t c : ℕ) : xz x (t + 16) c = x t c := by simp [xz]

theorem ps_eq0 (x : ℕ → ℕ → ℝ) (t a : ℕ) : ps x 0 t a = x t a + xz x (t + 15) a := by
  simp [ps, Finset.sum_range_succ, xz_here]

theorem ps_eq1 (x : ℕ → ℕ → ℝ) (t a : ℕ) : ps x 1 t a = x t (128 + a) + xz x (t + 15) (128 + a) + xz x (t + 14) (128 + a) + xz x (t + 13) (128 + a) := by
  simp [ps, Finset.sum_range_succ, xz_here]

theorem ps_eq2 (x : ℕ → ℕ → ℝ) (t a : ℕ) : ps x 2 t a = x t (256 + a) + xz x (t + 15) (256 + a) + xz x (t + 14) (256 + a) + xz x (t + 13) (256 + a) + xz x (t + 12) (256 + a) + xz x (t + 11) (256 + a) + xz x (t + 10) (256 + a) + xz x (t + 9) (256 + a) := by
  simp [ps, Finset.sum_range_succ, xz_here]

theorem ps_eq3 (x : ℕ → ℕ → ℝ) (t a : ℕ) : ps x 3 t a = x t (384 + a) + xz x (t + 15) (384 + a) + xz x (t + 14) (384 + a) + xz x (t + 13) (384 + a) + xz x (t + 12) (384 + a) + xz x (t + 11) (384 + a) + xz x (t + 10) (384 + a) + xz x (t + 9) (384 + a) + xz x (t + 8) (384 + a) + xz x (t + 7) (384 + a) + xz x (t + 6) (384 + a) + xz x (t + 5) (384 + a) + xz x (t + 4) (384 + a) + xz x (t + 3) (384 + a) + xz x (t + 2) (384 + a) + xz x (t + 1) (384 + a) := by
  simp [ps, Finset.sum_range_succ, xz_here]

/-! ## The counts of the four groups -/

theorem inv0 (i : grid0.Coords) (p : ℕ) (hi : (i 0).val + p = 15) : k0_pay8 (F := Ideal) i = (cv2 (fun s _ => 1 / cnt 0 (256 * p + s)) : S256x128.Idx → EReal) := by
  refine ext2 fun s d => ?_
  unfold k0_pay8
  rw [pos_eq i p hi]
  pointwise [cv2_ix]
  exact inv_min 0 _ _ two0

theorem inv1 (i : grid0.Coords) (p : ℕ) (hi : (i 0).val + p = 15) : k0_pay11 (F := Ideal) (k0_pay7 i) = (cv2 (fun s _ => 1 / cnt 1 (256 * p + s)) : S256x128.Idx → EReal) := by
  refine ext2 fun s d => ?_
  unfold k0_pay11
  rw [pos_eq i p hi]
  pointwise [cv2_ix]
  exact inv_min 1 _ _ two1

theorem inv2 (i : grid0.Coords) (p : ℕ) (hi : (i 0).val + p = 15) : k0_pay13 (F := Ideal) (k0_pay7 i) = (cv2 (fun s _ => 1 / cnt 2 (256 * p + s)) : S256x128.Idx → EReal) := by
  refine ext2 fun s d => ?_
  unfold k0_pay13
  rw [pos_eq i p hi]
  pointwise [cv2_ix]
  exact inv_min 2 _ _ two2

theorem inv3 (i : grid0.Coords) (p : ℕ) (hi : (i 0).val + p = 15) : k0_pay17 (F := Ideal) (k0_pay7 i) (FloatOps.ofBits FTy.f32 1098907648#32) = (cv2 (fun s _ => 1 / cnt 3 (256 * p + s)) : S256x128.Idx → EReal) := by
  refine ext2 fun s d => ?_
  unfold k0_pay17
  rw [pos_eq i p hi]
  pointwise [cv2_ix]
  exact inv_min 3 _ _ two3

/-! ## The window's mean less the input -/

theorem diff0 (x : ℕ → ℕ → ℝ) (i : grid0.Coords) (p : ℕ) (hi : (i 0).val + p = 15) :
    k0_pay9 (F := Ideal) i (cv2 (fun r c => x (256 * p + r) c)) (cv2 (fun r c => xz x (256 * p + (15 + r)) c))
      = cv2 (fun r a => df x 0 (256 * p + r) a) := by
  refine ext2 fun s d => ?_
  unfold k0_pay9
  rw [inv0 i p hi]
  pointwise [cv2_ix, ← EReal.coe_mul, ← EReal.coe_add, ← EReal.coe_sub]
  rw [df, ps_eq0]
  have e : ∀ k, 256 * p + (k + s.val) = 256 * p + s.val + k := fun k => by omega
  simp only [e, Nat.mul_zero, Nat.zero_add]

theorem diff1 (x : ℕ → ℕ → ℝ) (i : grid0.Coords) (p : ℕ) (hi : (i 0).val + p = 15) :
    k0_pay12 (F := Ideal) (cv2 (fun r c => x (256 * p + r) c)) (k0_pay7 i) (k0_pay10 (cv2 (fun r c => x (256 * p + r) c))) (cv2 (fun r c => xz x (256 * p + (15 + r)) (128 + c))) (cv2 (fun r c => xz x (256 * p + (14 + r)) (128 + c))) (cv2 (fun r c => xz x (256 * p + (13 + r)) (128 + c)))
      = cv2 (fun r a => df x 1 (256 * p + r) a) := by
  refine ext2 fun s d => ?_
  unfold k0_pay12 k0_pay10
  rw [inv1 i p hi]
  pointwise [cv2_ix, ← EReal.coe_mul, ← EReal.coe_add, ← EReal.coe_sub]
  rw [df, ps_eq1]
  have e : ∀ k, 256 * p + (k + s.val) = 256 * p + s.val + k := fun k => by omega
  simp only [e, Nat.reduceMul]

theorem diff2 (x : ℕ → ℕ → ℝ) (i : grid0.Coords) (p : ℕ) (hi : (i 0).val + p = 15) :
    k0_pay14 (F := Ideal) (cv2 (fun r c => x (256 * p + r) c)) (k0_pay7 i) (cv2 (fun r c => xz x (256 * p + (15 + r)) (256 + c))) (cv2 (fun r c => xz x (256 * p + (14 + r)) (256 + c))) (cv2 (fun r c => xz x (256 * p + (13 + r)) (256 + c))) (cv2 (fun r c => xz x (256 * p + (12 + r)) (256 + c))) (cv2 (fun r c => xz x (256 * p + (11 + r)) (256 + c))) (cv2 (fun r c => xz x (256 * p + (10 + r)) (256 + c))) (cv2 (fun r c => xz x (256 * p + (9 + r)) (256 + c)))
      = cv2 (fun r a => df x 2 (256 * p + r) a) := by
  refine ext2 fun s d => ?_
  unfold k0_pay14
  rw [inv2 i p hi]
  pointwise [cv2_ix, ← EReal.coe_mul, ← EReal.coe_add, ← EReal.coe_sub]
  rw [df, ps_eq2]
  have e : ∀ k, 256 * p + (k + s.val) = 256 * p + s.val + k := fun k => by omega
  simp only [e, Nat.reduceMul]

theorem diff3 (x : ℕ → ℕ → ℝ) (i : grid0.Coords) (p : ℕ) (hi : (i 0).val + p = 15) :
    k0_pay18 (F := Ideal) (cv2 (fun r c => x (256 * p + r) c)) (k0_pay7 i) (k0_pay16 (k0_pay15 (cv2 (fun r c => x (256 * p + r) c))) (cv2 (fun r c => xz x (256 * p + (15 + r)) (384 + c))) (cv2 (fun r c => xz x (256 * p + (14 + r)) (384 + c))) (cv2 (fun r c => xz x (256 * p + (13 + r)) (384 + c))) (cv2 (fun r c => xz x (256 * p + (12 + r)) (384 + c))) (cv2 (fun r c => xz x (256 * p + (11 + r)) (384 + c))) (cv2 (fun r c => xz x (256 * p + (10 + r)) (384 + c))) (cv2 (fun r c => xz x (256 * p + (9 + r)) (384 + c))) (cv2 (fun r c => xz x (256 * p + (8 + r)) (384 + c))) (cv2 (fun r c => xz x (256 * p + (7 + r)) (384 + c))) (cv2 (fun r c => xz x (256 * p + (6 + r)) (384 + c))) (cv2 (fun r c => xz x (256 * p + (5 + r)) (384 + c))) (cv2 (fun r c => xz x (256 * p + (4 + r)) (384 + c))) (cv2 (fun r c => xz x (256 * p + (3 + r)) (384 + c))) (cv2 (fun r c => xz x (256 * p + (2 + r)) (384 + c))) (cv2 (fun r c => xz x (256 * p + (1 + r)) (384 + c)))) (FloatOps.ofBits FTy.f32 1098907648#32)
      = cv2 (fun r a => df x 3 (256 * p + r) a) := by
  refine ext2 fun s d => ?_
  unfold k0_pay18 k0_pay16 k0_pay15
  rw [inv3 i p hi]
  pointwise [cv2_ix, ← EReal.coe_mul, ← EReal.coe_add, ← EReal.coe_sub]
  rw [df, ps_eq3]
  have e : ∀ k, 256 * p + (k + s.val) = 256 * p + s.val + k := fun k => by omega
  simp only [e, Nat.reduceMul]

/-! ## The cotangent scaled, and carried back through the weights -/

theorem dye0 (ct : ℕ → ℕ → ℝ) (sc : ℕ → ℝ) (p : ℕ) : k0_pay19 (F := Ideal) (cv2 (fun r c => ct (256 * p + r) c)) (cv2 (fun _ c => sc c)) = cv2 (fun r b => dy ct sc 0 (256 * p + r) b) := by
  refine ext2 fun s d => ?_
  unfold_payloads
  pointwise [cv2_ix, ← EReal.coe_mul, dy]

theorem dde0 (ct : ℕ → ℕ → ℝ) (sc : ℕ → ℝ) (w : ℕ → ℕ → ℕ → ℝ) (p : ℕ) :
    k0_pay24 (F := Ideal) (k0_pay22 (cv3 (fun a b c => w a b c))) (k0_pay23 (cv2 (fun r c => ct (256 * p + r) c)) (cv2 (fun _ c => sc c)))
      = cv2 (fun r a => dd ct w sc 0 (256 * p + r) a) := by
  refine ext2 fun s d => ?_
  unfold_payloads
  pointwise [cv2_ix, cv3_ix, ← EReal.coe_mul, coe_sum, dd, dy, ← fin_range, dot_S256x128_S128x128_S256x128_1_1_0_0_n_n]

theorem qqe0 (ct : ℕ → ℕ → ℝ) (sc : ℕ → ℝ) (w : ℕ → ℕ → ℕ → ℝ) (i : grid0.Coords) (p : ℕ) (hi : (i 0).val + p = 15) :
    k0_pay25 (F := Ideal) (k0_pay8 i) (k0_pay22 (cv3 (fun a b c => w a b c))) (k0_pay23 (cv2 (fun r c => ct (256 * p + r) c)) (cv2 (fun _ c => sc c)))
      = cv2 (fun r a => qq ct w sc 0 (256 * p + r) a) := by
  rw [inv0 i p hi]
  refine ext2 fun s d => ?_
  unfold_payloads
  pointwise [cv2_ix, cv3_ix, ← EReal.coe_mul, coe_sum, qq, dd, dy, ← fin_range, dot_S256x128_S128x128_S256x128_1_1_0_0_n_n]

theorem dye1 (ct : ℕ → ℕ → ℝ) (sc : ℕ → ℝ) (p : ℕ) : k0_pay26 (F := Ideal) (cv2 (fun r c => ct (256 * p + r) c)) (cv2 (fun _ c => sc (128 + c))) = cv2 (fun r b => dy ct sc 1 (256 * p + r) b) := by
  refine ext2 fun s d => ?_
  unfold_payloads
  pointwise [cv2_ix, ← EReal.coe_mul, dy]

theorem dde1 (ct : ℕ → ℕ → ℝ) (sc : ℕ → ℝ) (w : ℕ → ℕ → ℕ → ℝ) (p : ℕ) :
    k0_pay30 (F := Ideal) (k0_pay26 (cv2 (fun r c => ct (256 * p + r) c)) (cv2 (fun _ c => sc (128 + c)))) (k0_pay29 (cv3 (fun a b c => w (1 + a) b c)))
      = cv2 (fun r a => dd ct w sc 1 (256 * p + r) a) := by
  refine ext2 fun s d => ?_
  unfold_payloads
  pointwise [cv2_ix, cv3_ix, ← EReal.coe_mul, coe_sum, dd, dy, ← fin_range, dot_S256x128_S128x128_S256x128_1_1_0_0_n_n]

theorem qqe1 (ct : ℕ → ℕ → ℝ) (sc : ℕ → ℝ) (w : ℕ → ℕ → ℕ → ℝ) (i : grid0.Coords) (p : ℕ) (hi : (i 0).val + p = 15) :
    k0_pay31 (F := Ideal) (k0_pay11 (k0_pay7 i)) (k0_pay26 (cv2 (fun r c => ct (256 * p + r) c)) (cv2 (fun _ c => sc (128 + c)))) (k0_pay29 (cv3 (fun a b c => w (1 + a) b c)))
      = cv2 (fun r a => qq ct w sc 1 (256 * p + r) a) := by
  rw [inv1 i p hi]
  refine ext2 fun s d => ?_
  unfold_payloads
  pointwise [cv2_ix, cv3_ix, ← EReal.coe_mul, coe_sum, qq, dd, dy, ← fin_range, dot_S256x128_S128x128_S256x128_1_1_0_0_n_n]

theorem dye2 (ct : ℕ → ℕ → ℝ) (sc : ℕ → ℝ) (p : ℕ) : k0_pay32 (F := Ideal) (cv2 (fun r c => ct (256 * p + r) c)) (cv2 (fun _ c => sc (256 + c))) = cv2 (fun r b => dy ct sc 2 (256 * p + r) b) := by
  refine ext2 fun s d => ?_
  unfold_payloads
  pointwise [cv2_ix, ← EReal.coe_mul, dy]

theorem dde2 (ct : ℕ → ℕ → ℝ) (sc : ℕ → ℝ) (w : ℕ → ℕ → ℕ → ℝ) (p : ℕ) :
    k0_pay35 (F := Ideal) (k0_pay32 (cv2 (fun r c => ct (256 * p + r) c)) (cv2 (fun _ c => sc (256 + c)))) (cv3 (fun a b c => w (2 + a) b c))
      = cv2 (fun r a => dd ct w sc 2 (256 * p + r) a) := by
  refine ext2 fun s d => ?_
  unfold_payloads
  pointwise [cv2_ix, cv3_ix, ← EReal.coe_mul, coe_sum, dd, dy, ← fin_range, dot_S256x128_S128x128_S256x128_1_1_0_0_n_n]

theorem qqe2 (ct : ℕ → ℕ → ℝ) (sc : ℕ → ℝ) (w : ℕ → ℕ → ℕ → ℝ) (i : grid0.Coords) (p : ℕ) (hi : (i 0).val + p = 15) :
    k0_pay36 (F := Ideal) (k0_pay13 (k0_pay7 i)) (k0_pay32 (cv2 (fun r c => ct (256 * p + r) c)) (cv2 (fun _ c => sc (256 + c)))) (cv3 (fun a b c => w (2 + a) b c))
      = cv2 (fun r a => qq ct w sc 2 (256 * p + r) a) := by
  rw [inv2 i p hi]
  refine ext2 fun s d => ?_
  unfold_payloads
  pointwise [cv2_ix, cv3_ix, ← EReal.coe_mul, coe_sum, qq, dd, dy, ← fin_range, dot_S256x128_S128x128_S256x128_1_1_0_0_n_n]

theorem dye3 (ct : ℕ → ℕ → ℝ) (sc : ℕ → ℝ) (p : ℕ) : k0_pay37 (F := Ideal) (cv2 (fun r c => ct (256 * p + r) c)) (cv2 (fun _ c => sc (384 + c))) = cv2 (fun r b => dy ct sc 3 (256 * p + r) b) := by
  refine ext2 fun s d => ?_
  unfold_payloads
  pointwise [cv2_ix, ← EReal.coe_mul, dy]

theorem dde3 (ct : ℕ → ℕ → ℝ) (sc : ℕ → ℝ) (w : ℕ → ℕ → ℕ → ℝ) (p : ℕ) :
    k0_pay40 (F := Ideal) (k0_pay37 (cv2 (fun r c => ct (256 * p + r) c)) (cv2 (fun _ c => sc (384 + c)))) (cv3 (fun a b c => w (3 + a) b c))
      = cv2 (fun r a => dd ct w sc 3 (256 * p + r) a) := by
  refine ext2 fun s d => ?_
  unfold_payloads
  pointwise [cv2_ix, cv3_ix, ← EReal.coe_mul, coe_sum, dd, dy, ← fin_range, dot_S256x128_S128x128_S256x128_1_1_0_0_n_n]

theorem qqe3 (ct : ℕ → ℕ → ℝ) (sc : ℕ → ℝ) (w : ℕ → ℕ → ℕ → ℝ) (i : grid0.Coords) (p : ℕ) (hi : (i 0).val + p = 15) :
    k0_pay41 (F := Ideal) (k0_pay17 (k0_pay7 i) (FloatOps.ofBits FTy.f32 1098907648#32)) (k0_pay37 (cv2 (fun r c => ct (256 * p + r) c)) (cv2 (fun _ c => sc (384 + c)))) (cv3 (fun a b c => w (3 + a) b c))
      = cv2 (fun r a => qq ct w sc 3 (256 * p + r) a) := by
  rw [inv3 i p hi]
  refine ext2 fun s d => ?_
  unfold_payloads
  pointwise [cv2_ix, cv3_ix, ← EReal.coe_mul, coe_sum, qq, dd, dy, ← fin_range, dot_S256x128_S128x128_S256x128_1_1_0_0_n_n]

/-! ## What a point adds to the gradients of the weights and of the scale -/

theorem dsce0 (x ct : ℕ → ℕ → ℝ) (w : ℕ → ℕ → ℕ → ℝ) (os : ℕ → ℕ → ℝ) (p : ℕ) :
    k0_pay20 (F := Ideal) (cv2 (fun r c => ct (256 * p + r) c)) (cv2 (fun r a => df x 0 (256 * p + r) a)) (cv2 (fun s c => os s c)) (cv3 (fun a b c => w a b c))
      = cv2 (fun s c => os s c + ∑ k ∈ Finset.range 32, tm x ct w 0 (256 * p + (k * 8 + s)) c) := by
  refine ext2 fun s d => ?_
  unfold_payloads
  pointwise [cv2_ix, cv3_ix, ← EReal.coe_mul, ← EReal.coe_add, coe_sum, tm, ← fin_range, dot_S256x128_S128x128_S256x128_1_0_0_1_n_n]

theorem dpwe0 (x ct : ℕ → ℕ → ℝ) (sc : ℕ → ℝ) (od : ℕ → ℕ → ℕ → ℝ) (p : ℕ) :
    k0_pay21 (F := Ideal) (cv2 (fun r c => ct (256 * p + r) c)) (cv2 (fun r a => df x 0 (256 * p + r) a)) (cv2 (fun _ c => sc c)) (cv3 (fun a b c => od a b c))
      = cv3 (fun a b c => od a b c + ∑ r ∈ Finset.range 256, df x 0 (256 * p + r) b * dy ct sc 0 (256 * p + r) c) := by
  refine ext3 fun z s d => ?_
  unfold_payloads
  pointwise [cv2_ix, cv3_ix, ← EReal.coe_mul, ← EReal.coe_add, coe_sum, dy, ← fin_range, dot_S256x128_S256x128_S128x128_0_0_1_1_n_n]

theorem dsce1 (x ct : ℕ → ℕ → ℝ) (w : ℕ → ℕ → ℕ → ℝ) (os : ℕ → ℕ → ℝ) (p : ℕ) :
    k0_pay27 (F := Ideal) (cv2 (fun r c => ct (256 * p + r) c)) (cv2 (fun r a => df x 1 (256 * p + r) a)) (cv2 (fun s c => os s (128 + c))) (cv3 (fun a b c => w (1 + a) b c))
      = cv2 (fun s c => os s (128 + c) + ∑ k ∈ Finset.range 32, tm x ct w 1 (256 * p + (k * 8 + s)) c) := by
  refine ext2 fun s d => ?_
  unfold_payloads
  pointwise [cv2_ix, cv3_ix, ← EReal.coe_mul, ← EReal.coe_add, coe_sum, tm, ← fin_range, dot_S256x128_S128x128_S256x128_1_0_0_1_n_n]

theorem dpwe1 (x ct : ℕ → ℕ → ℝ) (sc : ℕ → ℝ) (od : ℕ → ℕ → ℕ → ℝ) (p : ℕ) :
    k0_pay28 (F := Ideal) (cv2 (fun r c => ct (256 * p + r) c)) (cv2 (fun r a => df x 1 (256 * p + r) a)) (cv2 (fun _ c => sc (128 + c))) (cv3 (fun a b c => od (1 + a) b c))
      = cv3 (fun a b c => od (1 + a) b c + ∑ r ∈ Finset.range 256, df x 1 (256 * p + r) b * dy ct sc 1 (256 * p + r) c) := by
  refine ext3 fun z s d => ?_
  unfold_payloads
  pointwise [cv2_ix, cv3_ix, ← EReal.coe_mul, ← EReal.coe_add, coe_sum, dy, ← fin_range, dot_S256x128_S256x128_S128x128_0_0_1_1_n_n]

theorem dsce2 (x ct : ℕ → ℕ → ℝ) (w : ℕ → ℕ → ℕ → ℝ) (os : ℕ → ℕ → ℝ) (p : ℕ) :
    k0_pay33 (F := Ideal) (cv2 (fun r c => ct (256 * p + r) c)) (cv2 (fun r a => df x 2 (256 * p + r) a)) (cv2 (fun s c => os s (256 + c))) (cv3 (fun a b c => w (2 + a) b c))
      = cv2 (fun s c => os s (256 + c) + ∑ k ∈ Finset.range 32, tm x ct w 2 (256 * p + (k * 8 + s)) c) := by
  refine ext2 fun s d => ?_
  unfold_payloads
  pointwise [cv2_ix, cv3_ix, ← EReal.coe_mul, ← EReal.coe_add, coe_sum, tm, ← fin_range, dot_S256x128_S128x128_S256x128_1_0_0_1_n_n]

theorem dpwe2 (x ct : ℕ → ℕ → ℝ) (sc : ℕ → ℝ) (od : ℕ → ℕ → ℕ → ℝ) (p : ℕ) :
    k0_pay34 (F := Ideal) (cv2 (fun r c => ct (256 * p + r) c)) (cv2 (fun r a => df x 2 (256 * p + r) a)) (cv2 (fun _ c => sc (256 + c))) (cv3 (fun a b c => od (2 + a) b c))
      = cv3 (fun a b c => od (2 + a) b c + ∑ r ∈ Finset.range 256, df x 2 (256 * p + r) b * dy ct sc 2 (256 * p + r) c) := by
  refine ext3 fun z s d => ?_
  unfold_payloads
  pointwise [cv2_ix, cv3_ix, ← EReal.coe_mul, ← EReal.coe_add, coe_sum, dy, ← fin_range, dot_S256x128_S256x128_S128x128_0_0_1_1_n_n]

theorem dsce3 (x ct : ℕ → ℕ → ℝ) (w : ℕ → ℕ → ℕ → ℝ) (os : ℕ → ℕ → ℝ) (p : ℕ) :
    k0_pay38 (F := Ideal) (cv2 (fun r c => ct (256 * p + r) c)) (cv2 (fun r a => df x 3 (256 * p + r) a)) (cv2 (fun s c => os s (384 + c))) (cv3 (fun a b c => w (3 + a) b c))
      = cv2 (fun s c => os s (384 + c) + ∑ k ∈ Finset.range 32, tm x ct w 3 (256 * p + (k * 8 + s)) c) := by
  refine ext2 fun s d => ?_
  unfold_payloads
  pointwise [cv2_ix, cv3_ix, ← EReal.coe_mul, ← EReal.coe_add, coe_sum, tm, ← fin_range, dot_S256x128_S128x128_S256x128_1_0_0_1_n_n]

theorem dpwe3 (x ct : ℕ → ℕ → ℝ) (sc : ℕ → ℝ) (od : ℕ → ℕ → ℕ → ℝ) (p : ℕ) :
    k0_pay39 (F := Ideal) (cv2 (fun r c => ct (256 * p + r) c)) (cv2 (fun r a => df x 3 (256 * p + r) a)) (cv2 (fun _ c => sc (384 + c))) (cv3 (fun a b c => od (3 + a) b c))
      = cv3 (fun a b c => od (3 + a) b c + ∑ r ∈ Finset.range 256, df x 3 (256 * p + r) b * dy ct sc 3 (256 * p + r) c) := by
  refine ext3 fun z s d => ?_
  unfold_payloads
  pointwise [cv2_ix, cv3_ix, ← EReal.coe_mul, ← EReal.coe_add, coe_sum, dy, ← fin_range, dot_S256x128_S256x128_S128x128_0_0_1_1_n_n]

/-! ## The gradient of the input -/

theorem dxe0 (ct : ℕ → ℕ → ℝ) (sc : ℕ → ℝ) (w : ℕ → ℕ → ℕ → ℝ) (p : ℕ) :
    k0_pay42 (F := Ideal) (cv2 (fun r a => dd ct w sc 0 (256 * p + r) a)) (cv2 (fun r c => atG (qq ct w sc) (256 * p + r) c)) (cv2 (fun r c => atG (qq ct w sc) (256 * p + (1 + r)) c))
      = cv2 (fun r a => dxv ct w sc 0 (256 * p + r) a) := by
  refine ext2 fun s d => ?_
  unfold_payloads
  pointwise [cv2_ix, atG_0, zero_sub_coe, ← EReal.coe_add]
  have e : ∀ k, 256 * p + (k + s.val) = 256 * p + s.val + k := fun k => by omega
  simp only [e, dxv]
  congr 1
  simp [Finset.sum_range_succ]
  ring

theorem dxe1 (ct : ℕ → ℕ → ℝ) (sc : ℕ → ℝ) (w : ℕ → ℕ → ℕ → ℝ) (p : ℕ) :
    k0_pay43 (F := Ideal) (cv2 (fun r a => dd ct w sc 1 (256 * p + r) a)) (cv2 (fun r c => atG (qq ct w sc) (256 * p + r) (128 + c))) (cv2 (fun r c => atG (qq ct w sc) (256 * p + (1 + r)) (128 + c))) (cv2 (fun r c => atG (qq ct w sc) (256 * p + (2 + r)) (128 + c))) (cv2 (fun r c => atG (qq ct w sc) (256 * p + (3 + r)) (128 + c)))
      = cv2 (fun r a => dxv ct w sc 1 (256 * p + r) a) := by
  refine ext2 fun s d => ?_
  unfold_payloads
  pointwise [cv2_ix, atG_1, zero_sub_coe, ← EReal.coe_add]
  have e : ∀ k, 256 * p + (k + s.val) = 256 * p + s.val + k := fun k => by omega
  simp only [e, dxv]
  congr 1
  simp [Finset.sum_range_succ]
  ring

theorem dxe2 (ct : ℕ → ℕ → ℝ) (sc : ℕ → ℝ) (w : ℕ → ℕ → ℕ → ℝ) (p : ℕ) :
    k0_pay45 (F := Ideal) (k0_pay44 (cv2 (fun r a => dd ct w sc 2 (256 * p + r) a)) (cv2 (fun r c => atG (qq ct w sc) (256 * p + r) (256 + c)))) (cv2 (fun r c => atG (qq ct w sc) (256 * p + (1 + r)) (256 + c))) (cv2 (fun r c => atG (qq ct w sc) (256 * p + (2 + r)) (256 + c))) (cv2 (fun r c => atG (qq ct w sc) (256 * p + (3 + r)) (256 + c))) (cv2 (fun r c => atG (qq ct w sc) (256 * p + (4 + r)) (256 + c))) (cv2 (fun r c => atG (qq ct w sc) (256 * p + (5 + r)) (256 + c))) (cv2 (fun r c => atG (qq ct w sc) (256 * p + (6 + r)) (256 + c))) (cv2 (fun r c => atG (qq ct w sc) (256 * p + (7 + r)) (256 + c)))
      = cv2 (fun r a => dxv ct w sc 2 (256 * p + r) a) := by
  refine ext2 fun s d => ?_
  unfold_payloads
  pointwise [cv2_ix, atG_2, zero_sub_coe, ← EReal.coe_add]
  have e : ∀ k, 256 * p + (k + s.val) = 256 * p + s.val + k := fun k => by omega
  simp only [e, dxv]
  congr 1
  simp [Finset.sum_range_succ]
  ring

theorem dxe3 (ct : ℕ → ℕ → ℝ) (sc : ℕ → ℝ) (w : ℕ → ℕ → ℕ → ℝ) (p : ℕ) :
    k0_pay47 (F := Ideal) (k0_pay46 (cv2 (fun r a => dd ct w sc 3 (256 * p + r) a)) (cv2 (fun r c => atG (qq ct w sc) (256 * p + r) (384 + c))) (cv2 (fun r c => atG (qq ct w sc) (256 * p + (1 + r)) (384 + c))) (cv2 (fun r c => atG (qq ct w sc) (256 * p + (2 + r)) (384 + c))) (cv2 (fun r c => atG (qq ct w sc) (256 * p + (3 + r)) (384 + c))) (cv2 (fun r c => atG (qq ct w sc) (256 * p + (4 + r)) (384 + c))) (cv2 (fun r c => atG (qq ct w sc) (256 * p + (5 + r)) (384 + c)))) (cv2 (fun r c => atG (qq ct w sc) (256 * p + (6 + r)) (384 + c))) (cv2 (fun r c => atG (qq ct w sc) (256 * p + (7 + r)) (384 + c))) (cv2 (fun r c => atG (qq ct w sc) (256 * p + (8 + r)) (384 + c))) (cv2 (fun r c => atG (qq ct w sc) (256 * p + (9 + r)) (384 + c))) (cv2 (fun r c => atG (qq ct w sc) (256 * p + (10 + r)) (384 + c))) (cv2 (fun r c => atG (qq ct w sc) (256 * p + (11 + r)) (384 + c))) (cv2 (fun r c => atG (qq ct w sc) (256 * p + (12 + r)) (384 + c))) (cv2 (fun r c => atG (qq ct w sc) (256 * p + (13 + r)) (384 + c))) (cv2 (fun r c => atG (qq ct w sc) (256 * p + (14 + r)) (384 + c))) (cv2 (fun r c => atG (qq ct w sc) (256 * p + (15 + r)) (384 + c)))
      = cv2 (fun r a => dxv ct w sc 3 (256 * p + r) a) := by
  refine ext2 fun s d => ?_
  unfold_payloads
  pointwise [cv2_ix, atG_3, zero_sub_coe, ← EReal.coe_add]
  have e : ∀ k, 256 * p + (k + s.val) = 256 * p + s.val + k := fun k => by omega
  simp only [e, dxv]
  congr 1
  simp [Finset.sum_range_succ]
  ring

/-! ## The two scratch buffers -/

/-- The rows above the block: nothing at the start of time, the input's rows otherwise. -/
theorem halo_eq (x : ℕ → ℕ → ℝ) (i : grid0.Coords) (p : ℕ) (hi : (i 0).val + p = 15) (x2 : Vec Ideal S16x512 .f32)
    (hx : p ≠ 0 → x2 = cv2 (fun r c => xz x (256 * p + r) c)) : k0_pay5 (F := Ideal) i x2 = cv2 (fun r c => xz x (256 * p + r) c) := by
  refine ext2 fun s d => ?_
  unfold_payloads
  pointwise
  by_cases h : p = 0
  · subst h
    have e : (i 0).val = 15 := by omega
    rw [e, cv2_ix, show xz x (256 * 0 + s.val) d.val = 0 by rw [xz, if_neg (by omega)]]
    simp [Scalar.select, Scalar.cmpi, IntOp.cmpi]
  · rw [hx h, cv2_ix]
    have e : BitVec.ofNat 32 (i 0).val ≠ 15#32 := by
      intro h'
      have := congrArg BitVec.toNat h'
      rw [BitVec.toNat_ofNat, BitVec.toNat_ofNat] at this
      omega
    simp [Scalar.select, Scalar.cmpi, IntOp.cmpi, beq_false_of_ne e]

theorem buf_eq (x : ℕ → ℕ → ℝ) (i : grid0.Coords) (p : ℕ) (hi : (i 0).val + p = 15) (x2 : Vec Ideal S16x512 .f32)
    (hx : p ≠ 0 → x2 = cv2 (fun r c => xz x (256 * p + r) c)) :
    View.canon (Val := Elt Ideal) (e := .f32) [⟨Rect.unit ![16, 0] ![256, 512] inb_S272x512_S256x512_16_0, k0_pay6 (F := Ideal) (cv2 (fun r c => x (256 * p + r) c))⟩,
      ⟨Rect.unit ![0, 0] ![16, 512] inb_S272x512_S16x512_0_0, k0_pay5 i x2⟩] = cv2 (fun r c => xz x (256 * p + r) c) := by
  have e6 : k0_pay6 (F := Ideal) (cv2 (fun r c => x (256 * p + r) c)) = cv2 (fun r c => x (256 * p + r) c) := by
    refine ext2 fun s d => ?_
    unfold_payloads
    pointwise
  rw [halo_eq x i p hi x2 hx, e6]
  funext y
  refine canon_of (e := .f32) (cv2 fun r c => xz x (256 * p + r) c) [_, _] [] ⟨piece2 (fun r c => x (256 * p + r) c) (fun r c => xz x (256 * p + r) c) inb_S272x512_S256x512_16_0 fun r _ c _ => ?_,
    piece2 (fun r c => xz x (256 * p + r) c) (fun r c => xz x (256 * p + r) c) inb_S272x512_S16x512_0_0 fun r _ c _ => ?_, trivial⟩ y ?_
  · rw [show 256 * p + (16 + r) = 256 * p + r + 16 by omega, xz_here, Nat.zero_add]
  · rw [Nat.zero_add, Nat.zero_add]
  · have hy : (y 1).val < 512 := (y 1).isLt
    have hy' : (y 0).val < 272 := (y 0).isLt
    rcases Nat.lt_or_ge (y 0).val 16 with h | h
    · exact ⟨_, List.mem_cons_of_mem _ List.mem_cons_self, mem2 inb_S272x512_S16x512_0_0 y (by omega) (by omega) (by omega) (by omega)⟩
    · exact ⟨_, List.mem_cons_self, mem2 inb_S272x512_S256x512_16_0 y (by omega) (by omega) (by omega) (by omega)⟩

end Cert.Proof.Pool

end
-- ==== Proof.Point.lean ====
/- The four arrays a grid point leaves, as real arrays: the block of the input's gradient, the two running gradients and the buffer carried to the next point. -/
module

public import proofs.«01_k».proof.Proof.Block

@[expose] public section

noncomputable section

namespace Cert.Proof.Pool

open Idealize.ShloMosaic Cert.KernelIdeal Cert.KernelIdeal.Gen Idealize.ShloMosaic.Tactic

/-! ## The buffer of shared-out cotangents -/

/-- What the carried buffer holds after the point that did the rows from `256 p`: those rows, and the first sixteen of them once more below. -/
def carry (ct : ℕ → ℕ → ℝ) (w : ℕ → ℕ → ℕ → ℝ) (sc : ℕ → ℝ) (p : ℕ) (r c : ℕ) : ℝ :=
  atG (qq ct w sc) (256 * p + (if r < 256 then r else r - 256)) c

/-- The rows of a buffer, read where its stores agree with one array. -/
theorem idx_rows {n0 n1 m0 m1 o0 o1 k : ℕ} (f : (⟨2, ![n0, n1]⟩ : Shape).Idx → EReal) (F : ℕ → ℕ → ℝ) (inb) (h : ∀ y, (y 0).val < k → f y = cv2 F y) (hk : o0 + m0 ≤ k) :
    (fun j => f ((Rect.unit (s := ⟨2, ![n0, n1]⟩) ![o0, o1] ![m0, m1] inb).idx j)) = (cv2 (fun r c => F (o0 + r) (o1 + c)) : (⟨2, ![m0, m1]⟩ : Shape).Idx → EReal) := by
  rw [← idx_cv2 F inb]
  funext j
  refine h _ ?_
  have e : (((Rect.unit (s := ⟨2, ![n0, n1]⟩) ![o0, o1] ![m0, m1] inb).idx j) 0).val = o0 + 1 * (j 0).val := rfl
  have : (j 0).val < m0 := (j 0).isLt
  omega

section
variable (x ct : ℕ → ℕ → ℝ) (w : ℕ → ℕ → ℕ → ℝ) (sc : ℕ → ℝ)

theorem eb_canon (p : ℕ) (T : List (View.Piece (Elt Ideal) S272x512 .f32)) (y : S272x512.Idx) (hy : (y 0).val < 256) :
    View.canon (Val := Elt Ideal) (e := .f32) (⟨Rect.unit ![0, 384] ![256, 128] inb_S272x512_S256x128_0_384, cv2 (fun r a => qq ct w sc 3 (256 * p + r) a)⟩ ::
      ⟨Rect.unit ![0, 256] ![256, 128] inb_S272x512_S256x128_0_256, cv2 (fun r a => qq ct w sc 2 (256 * p + r) a)⟩ ::
      ⟨Rect.unit ![0, 128] ![256, 128] inb_S272x512_S256x128_0_128, cv2 (fun r a => qq ct w sc 1 (256 * p + r) a)⟩ ::
      ⟨Rect.unit ![0, 0] ![256, 128] inb_S272x512_S256x128_0_0, cv2 (fun r a => qq ct w sc 0 (256 * p + r) a)⟩ :: T) y
      = cv2 (fun r c => atG (qq ct w sc) (256 * p + r) c) y :=
  cols4 (fun r c => atG (qq ct w sc) (256 * p + r) c) _ _ _ _ _ _ _ _ T
    (fun r _ c hc => by rw [Nat.zero_add]; exact (atG_at _ 0 _ c hc).symm) (fun r _ c hc => by rw [Nat.zero_add]; exact (atG_at _ 1 _ c hc).symm)
    (fun r _ c hc => by rw [Nat.zero_add]; exact (atG_at _ 2 _ c hc).symm) (fun r _ c hc => by rw [Nat.zero_add]; exact (atG_at _ 3 _ c hc).symm)
    y (Nat.zero_le _) (by omega)

theorem eb_rows (p m0 : ℕ) {m1 o1 : ℕ} (hk : m0 ≤ 256) (inb) :
    (fun j => View.canon (Val := Elt Ideal) (e := .f32) (⟨Rect.unit ![0, 384] ![256, 128] inb_S272x512_S256x128_0_384, cv2 (fun r a => qq ct w sc 3 (256 * p + r) a)⟩ ::
      ⟨Rect.unit ![0, 256] ![256, 128] inb_S272x512_S256x128_0_256, cv2 (fun r a => qq ct w sc 2 (256 * p + r) a)⟩ ::
      ⟨Rect.unit ![0, 128] ![256, 128] inb_S272x512_S256x128_0_128, cv2 (fun r a => qq ct w sc 1 (256 * p + r) a)⟩ ::
      ⟨Rect.unit ![0, 0] ![256, 128] inb_S272x512_S256x128_0_0, cv2 (fun r a => qq ct w sc 0 (256 * p + r) a)⟩ :: []) ((Rect.unit (s := S272x512) ![0, o1] ![m0, m1] inb).idx j))
      = (cv2 (fun r c => atG (qq ct w sc) (256 * p + (0 + r)) (o1 + c)) : (⟨2, ![m0, m1]⟩ : Shape).Idx → EReal) :=
  idx_rows _ (fun r c => atG (qq ct w sc) (256 * p + r) c) inb (eb_canon ct w sc p []) (by omega)

/-- At the first point the rows below are filled with zeros: no cotangent comes after the end of time. -/
theorem eb_first (p : ℕ) (hp : p = 15) (hct : ∀ t, 4096 ≤ t → ∀ c, ct t c = 0) :
    View.canon (Val := Elt Ideal) (e := .f32) (⟨Rect.unit ![0, 384] ![256, 128] inb_S272x512_S256x128_0_384, cv2 (fun r a => qq ct w sc 3 (256 * p + r) a)⟩ ::
      ⟨Rect.unit ![0, 256] ![256, 128] inb_S272x512_S256x128_0_256, cv2 (fun r a => qq ct w sc 2 (256 * p + r) a)⟩ ::
      ⟨Rect.unit ![0, 128] ![256, 128] inb_S272x512_S256x128_0_128, cv2 (fun r a => qq ct w sc 1 (256 * p + r) a)⟩ ::
      ⟨Rect.unit ![0, 0] ![256, 128] inb_S272x512_S256x128_0_0, cv2 (fun r a => qq ct w sc 0 (256 * p + r) a)⟩ ::
      [⟨Rect.unit ![256, 0] ![16, 512] inb_S272x512_S16x512_256_0, k0_pay4 (F := Ideal)⟩])
      = cv2 (fun r c => atG (qq ct w sc) (256 * p + r) c) := by
  funext y
  rcases Nat.lt_or_ge (y 0).val 256 with h | h
  · exact eb_canon ct w sc p _ y h
  · have hy : (y 0).val < 272 := (y 0).isLt
    have hy1 : (y 1).val < 512 := (y 1).isLt
    refine (canon_below inb_S272x512_S256x128_0_384 _ _ y (by omega)).trans ?_
    refine (canon_below inb_S272x512_S256x128_0_256 _ _ y (by omega)).trans ?_
    refine (canon_below inb_S272x512_S256x128_0_128 _ _ y (by omega)).trans ?_
    refine (canon_below inb_S272x512_S256x128_0_0 _ _ y (by omega)).trans ?_
    have e : k0_pay4 (F := Ideal) = cv2 (fun _ _ => 0) := by
      refine ext2 fun s d => ?_
      unfold_payloads
      pointwise [cv2_ix, EReal.coe_zero]
    rw [e]
    refine canon_of (e := .f32) (cv2 (fun r c => atG (qq ct w sc) (256 * p + r) c)) [_] [] ⟨piece2 (fun _ _ => 0) (fun r c => atG (qq ct w sc) (256 * p + r) c) inb_S272x512_S16x512_256_0 fun r _ c _ => ?_, trivial⟩ y ?_
    · rw [atG, qq, dd]
      simp [dy, hct (256 * p + (256 + r)) (by omega)]
    · exact ⟨_, List.mem_cons_self, mem2 inb_S272x512_S16x512_256_0 y (by omega) (by omega) (by omega) (by omega)⟩

/-- At a later point the rows below are those the point before left. -/
theorem eb_later (p : ℕ) (m : Memref sig .tc .vmem S272x512 .f32) (hm : m.IsWhole) :
    View.read (Elt Ideal) m.view (m.view.writes (Elt Ideal) (hm.unread (cv2 (carry ct w sc (p + 1)))) (⟨Rect.unit ![0, 384] ![256, 128] inb_S272x512_S256x128_0_384, cv2 (fun r a => qq ct w sc 3 (256 * p + r) a)⟩ ::
      ⟨Rect.unit ![0, 256] ![256, 128] inb_S272x512_S256x128_0_256, cv2 (fun r a => qq ct w sc 2 (256 * p + r) a)⟩ ::
      ⟨Rect.unit ![0, 128] ![256, 128] inb_S272x512_S256x128_0_128, cv2 (fun r a => qq ct w sc 1 (256 * p + r) a)⟩ ::
      ⟨Rect.unit ![0, 0] ![256, 128] inb_S272x512_S256x128_0_0, cv2 (fun r a => qq ct w sc 0 (256 * p + r) a)⟩ :: []))
      = cv2 (fun r c => atG (qq ct w sc) (256 * p + r) c) := by
  funext y
  rcases Nat.lt_or_ge (y 0).val 256 with h | h
  · rw [View.read_writes_apply_eq_canon]
    · exact eb_canon ct w sc p [] y h
    · exact group_of .f32 inb_S272x512_S256x128_0_0 inb_S272x512_S256x128_0_128 inb_S272x512_S256x128_0_256 inb_S272x512_S256x128_0_384 _ _ _ _ y (Nat.zero_le _) (by omega)
  · have hy : (y 0).val < 272 := (y 0).isLt
    rw [View.read_writes_apply_of_forall_not_mem, hm.read_unread]
    · rw [cv2, cv2, carry, if_neg (by omega), show 256 * (p + 1) + ((y 0).val - 256) = 256 * p + (y 0).val by omega]
    · intro q hq
      simp only [List.mem_cons, List.not_mem_nil, or_false] at hq
      rcases hq with rfl | rfl | rfl | rfl
      · exact not_mem2 inb_S272x512_S256x128_0_384 y (by omega)
      · exact not_mem2 inb_S272x512_S256x128_0_256 y (by omega)
      · exact not_mem2 inb_S272x512_S256x128_0_128 y (by omega)
      · exact not_mem2 inb_S272x512_S256x128_0_0 y (by omega)

/-- What the point leaves in the buffer. -/
theorem eb_left (p : ℕ) (T : List (View.Piece (Elt Ideal) S272x512 .f32)) :
    View.canon (Val := Elt Ideal) (e := .f32) (⟨Rect.unit ![256, 0] ![16, 512] inb_S272x512_S16x512_256_0, cv2 (fun r c => atG (qq ct w sc) (256 * p + r) c)⟩ ::
      ⟨Rect.unit ![0, 384] ![256, 128] inb_S272x512_S256x128_0_384, cv2 (fun r a => qq ct w sc 3 (256 * p + r) a)⟩ ::
      ⟨Rect.unit ![0, 256] ![256, 128] inb_S272x512_S256x128_0_256, cv2 (fun r a => qq ct w sc 2 (256 * p + r) a)⟩ ::
      ⟨Rect.unit ![0, 128] ![256, 128] inb_S272x512_S256x128_0_128, cv2 (fun r a => qq ct w sc 1 (256 * p + r) a)⟩ ::
      ⟨Rect.unit ![0, 0] ![256, 128] inb_S272x512_S256x128_0_0, cv2 (fun r a => qq ct w sc 0 (256 * p + r) a)⟩ :: T) = cv2 (carry ct w sc p) := by
  funext y
  have hy : (y 0).val < 272 := (y 0).isLt
  have hy1 : (y 1).val < 512 := (y 1).isLt
  rcases Nat.lt_or_ge (y 0).val 256 with h | h
  · refine (canon_above inb_S272x512_S16x512_256_0 _ _ y (by omega)).trans ((eb_canon ct w sc p T y h).trans ?_)
    rw [cv2, cv2, carry, if_pos h]
  · refine canon_of (e := .f32) (cv2 (carry ct w sc p)) [_] _ ⟨piece2 (fun r c => atG (qq ct w sc) (256 * p + r) c) (carry ct w sc p) inb_S272x512_S16x512_256_0 fun r _ c _ => ?_, trivial⟩ y ?_
    · rw [carry, if_neg (by omega), show 256 + r - 256 = r by omega, Nat.zero_add]
    · exact ⟨_, List.mem_cons_self, mem2 inb_S272x512_S16x512_256_0 y (by omega) (by omega) (by omega) (by omega)⟩

theorem pay1_eq (f : ℕ → ℕ → ℝ) : k0_pay1 (F := Ideal) (cv2 f) = cv2 f := by
  refine ext2 fun s d => ?_
  unfold_payloads
  pointwise
theorem pay2_eq : k0_pay2 (F := Ideal) = cv3 (fun _ _ _ => 0) := by
  refine ext3 fun z s d => ?_
  unfold_payloads
  pointwise [cv3_ix, EReal.coe_zero]
theorem pay3_eq : k0_pay3 (F := Ideal) = cv2 (fun _ _ => 0) := by
  refine ext2 fun s d => ?_
  unfold_payloads
  pointwise [cv2_ix, EReal.coe_zero]

theorem left5 (p : ℕ) (T : List (View.Piece (Elt Ideal) S256x512 .bf16)) :
    View.canon (Val := Elt Ideal) (e := .bf16) (⟨Rect.unit ![0, 384] ![256, 128] inb_S256x512_S256x128_0_384, cv2 fun r a => dxv ct w sc 3 (256 * p + r) a⟩ ::
      ⟨Rect.unit ![0, 256] ![256, 128] inb_S256x512_S256x128_0_256, cv2 fun r a => dxv ct w sc 2 (256 * p + r) a⟩ ::
      ⟨Rect.unit ![0, 128] ![256, 128] inb_S256x512_S256x128_0_128, cv2 fun r a => dxv ct w sc 1 (256 * p + r) a⟩ ::
      ⟨Rect.unit ![0, 0] ![256, 128] inb_S256x512_S256x128_0_0, cv2 fun r a => dxv ct w sc 0 (256 * p + r) a⟩ :: T) = cv2 (fun r c => atG (dxv ct w sc) (256 * p + r) c) := by
  funext y
  exact cols4b (fun r c => atG (dxv ct w sc) (256 * p + r) c) _ _ _ _ _ _ _ _ T
    (fun r _ c hc => by rw [Nat.zero_add]; exact (atG_at _ 0 _ c hc).symm) (fun r _ c hc => by rw [Nat.zero_add]; exact (atG_at _ 1 _ c hc).symm)
    (fun r _ c hc => by rw [Nat.zero_add]; exact (atG_at _ 2 _ c hc).symm) (fun r _ c hc => by rw [Nat.zero_add]; exact (atG_at _ 3 _ c hc).symm)
    y (Nat.zero_le _) (by have : (y 0).val < 256 := (y 0).isLt; omega)

theorem left6 (p : ℕ) (od : ℕ → ℕ → ℕ → ℝ) (T : List (View.Piece (Elt Ideal) S4x128x128 .f32)) :
    View.canon (Val := Elt Ideal) (e := .f32) (⟨Rect.unit ![3, 0, 0] ![1, 128, 128] inb_S4x128x128_S1x128x128_3_0_0, cv3 fun a b c => od (3 + a) b c + ∑ r ∈ Finset.range 256, df x 3 (256 * p + r) b * dy ct sc 3 (256 * p + r) c⟩ ::
      ⟨Rect.unit ![2, 0, 0] ![1, 128, 128] inb_S4x128x128_S1x128x128_2_0_0, cv3 fun a b c => od (2 + a) b c + ∑ r ∈ Finset.range 256, df x 2 (256 * p + r) b * dy ct sc 2 (256 * p + r) c⟩ ::
      ⟨Rect.unit ![1, 0, 0] ![1, 128, 128] inb_S4x128x128_S1x128x128_1_0_0, cv3 fun a b c => od (1 + a) b c + ∑ r ∈ Finset.range 256, df x 1 (256 * p + r) b * dy ct sc 1 (256 * p + r) c⟩ ::
      ⟨Rect.unit ![0, 0, 0] ![1, 128, 128] inb_S4x128x128_S1x128x128_0_0_0, cv3 fun a b c => od a b c + ∑ r ∈ Finset.range 256, df x 0 (256 * p + r) b * dy ct sc 0 (256 * p + r) c⟩ :: T)
      = cv3 (fun g a b => od g a b + ∑ r ∈ Finset.range 256, df x g (256 * p + r) a * dy ct sc g (256 * p + r) b) := by
  funext y
  refine squares4 (fun g a b => od g a b + ∑ r ∈ Finset.range 256, df x g (256 * p + r) a * dy ct sc g (256 * p + r) b) _ _ _ _ _ _ _ _ T ?_ ?_ ?_ ?_ y <;>
    · intro r hr c _ d _
      obtain rfl : r = 0 := by omega
      simp only [Nat.zero_add, Nat.add_zero]

theorem left7 (p : ℕ) (os : ℕ → ℕ → ℝ) (T : List (View.Piece (Elt Ideal) S8x512 .f32)) :
    View.canon (Val := Elt Ideal) (e := .f32) (⟨Rect.unit ![0, 384] ![8, 128] inb_S8x512_S8x128_0_384, cv2 fun s c => os s (384 + c) + ∑ k ∈ Finset.range 32, tm x ct w 3 (256 * p + (k * 8 + s)) c⟩ ::
      ⟨Rect.unit ![0, 256] ![8, 128] inb_S8x512_S8x128_0_256, cv2 fun s c => os s (256 + c) + ∑ k ∈ Finset.range 32, tm x ct w 2 (256 * p + (k * 8 + s)) c⟩ ::
      ⟨Rect.unit ![0, 128] ![8, 128] inb_S8x512_S8x128_0_128, cv2 fun s c => os s (128 + c) + ∑ k ∈ Finset.range 32, tm x ct w 1 (256 * p + (k * 8 + s)) c⟩ ::
      ⟨Rect.unit ![0, 0] ![8, 128] inb_S8x512_S8x128_0_0, cv2 fun s c => os s c + ∑ k ∈ Finset.range 32, tm x ct w 0 (256 * p + (k * 8 + s)) c⟩ :: T)
      = cv2 (fun s c => os s c + ∑ k ∈ Finset.range 32, atG (tm x ct w) (256 * p + (k * 8 + s)) c) := by
  funext y
  refine cols4 (fun s c => os s c + ∑ k ∈ Finset.range 32, atG (tm x ct w) (256 * p + (k * 8 + s)) c) _ _ _ _ _ _ _ _ T ?_ ?_ ?_ ?_ y (Nat.zero_le _) (by have : (y 0).val < 8 := (y 0).isLt; omega)
  · intro r _ c hc
    rw [Nat.zero_add, Nat.zero_add]
    exact congrArg _ (Finset.sum_congr rfl fun k _ => by rw [← atG_at (tm x ct w) 0 _ c hc, Nat.mul_zero, Nat.zero_add])
  · intro r _ c hc
    rw [Nat.zero_add]
    exact congrArg _ (Finset.sum_congr rfl fun k _ => (atG_at (tm x ct w) 1 _ c hc).symm)
  · intro r _ c hc
    rw [Nat.zero_add]
    exact congrArg _ (Finset.sum_congr rfl fun k _ => (atG_at (tm x ct w) 2 _ c hc).symm)
  · intro r _ c hc
    rw [Nat.zero_add]
    exact congrArg _ (Finset.sum_congr rfl fun k _ => (atG_at (tm x ct w) 3 _ c hc).symm)

theorem pointB_5 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : ¬cond0_0 i) (p : ℕ) (hi : (i 0).val + p = 15) (h2 : ℕ → ℕ → ℝ) (hx : p ≠ 0 → (cv2 h2 : S16x512.Idx → EReal) = cv2 (fun r c => xz x (256 * p + r) c)) (x6 : Vec Ideal S4x128x128 .f32) (x7 : Vec Ideal S8x512 .f32) :
    out0_B_5 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c) x6 x7 (cv2 (carry ct w sc (p + 1)))
      = cv2 (fun r c => atG (dxv ct w sc) (256 * p + r) c) := by
  unfold out0_B_5 kernelRun0_B
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [eb_later ct w sc p, eb_rows ct w sc p 256 (by decide), eb_rows ct w sc p 16 (by decide), ld_cv2, Nat.zero_add, pay1_eq]
  simp only [Nat.zero_add, dsce0, dsce1, dsce2, dsce3, dpwe0, dpwe1, dpwe2, dpwe3, dxe0, dxe1, dxe2, dxe3]
  exact left5 ct w sc p _

theorem pointB_6 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : ¬cond0_0 i) (p : ℕ) (hi : (i 0).val + p = 15) (h2 : ℕ → ℕ → ℝ) (hx : p ≠ 0 → (cv2 h2 : S16x512.Idx → EReal) = cv2 (fun r c => xz x (256 * p + r) c)) (od : ℕ → ℕ → ℕ → ℝ) (x7 : Vec Ideal S8x512 .f32) :
    out0_B_6 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c) (cv3 od) x7 (cv2 (carry ct w sc (p + 1)))
      = cv3 (fun g a b => od g a b + ∑ r ∈ Finset.range 256, df x g (256 * p + r) a * dy ct sc g (256 * p + r) b) := by
  unfold out0_B_6 kernelRun0_B
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [Nat.zero_add, dsce0, dsce1, dsce2, dsce3, dpwe0, dpwe1, dpwe2, dpwe3, dxe0, dxe1, dxe2, dxe3]
  exact left6 x ct sc p od _

theorem pointB_7 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : ¬cond0_0 i) (p : ℕ) (hi : (i 0).val + p = 15) (h2 : ℕ → ℕ → ℝ) (hx : p ≠ 0 → (cv2 h2 : S16x512.Idx → EReal) = cv2 (fun r c => xz x (256 * p + r) c)) (x6 : Vec Ideal S4x128x128 .f32) (os : ℕ → ℕ → ℝ) :
    out0_B_7 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c) x6 (cv2 os) (cv2 (carry ct w sc (p + 1)))
      = cv2 (fun s c => os s c + ∑ k ∈ Finset.range 32, atG (tm x ct w) (256 * p + (k * 8 + s)) c) := by
  unfold out0_B_7 kernelRun0_B
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [Nat.zero_add, dsce0, dsce1, dsce2, dsce3, dpwe0, dpwe1, dpwe2, dpwe3, dxe0, dxe1, dxe2, dxe3]
  exact left7 x ct w p os _

theorem pointB_1 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : ¬cond0_0 i) (p : ℕ) (hi : (i 0).val + p = 15) (h2 : ℕ → ℕ → ℝ) (hx : p ≠ 0 → (cv2 h2 : S16x512.Idx → EReal) = cv2 (fun r c => xz x (256 * p + r) c)) (x6 : Vec Ideal S4x128x128 .f32) (x7 : Vec Ideal S8x512 .f32) :
    sout0_B_1 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c) x6 x7 (cv2 (carry ct w sc (p + 1)))
      = cv2 (carry ct w sc p) := by
  unfold sout0_B_1 kernelRun0_B
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [eb_later ct w sc p, eb_rows ct w sc p 256 (by decide), eb_rows ct w sc p 16 (by decide), ld_cv2, Nat.zero_add, pay1_eq]
  exact eb_left ct w sc p _

theorem pointA_5 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : cond0_0 i) (p : ℕ) (hi : (i 0).val + p = 15) (h2 : ℕ → ℕ → ℝ) (hx : p ≠ 0 → (cv2 h2 : S16x512.Idx → EReal) = cv2 (fun r c => xz x (256 * p + r) c)) (hp : p = 15) (hct : ∀ t, 4096 ≤ t → ∀ c, ct t c = 0) :
    out0_A_5 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c)
      = cv2 (fun r c => atG (dxv ct w sc) (256 * p + r) c) := by
  unfold out0_A_5 kernelRun0_A
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [eb_first ct w sc p hp hct, idx_cv2, ld_cv2, Nat.zero_add, pay1_eq]
  simp only [Nat.zero_add, dsce0 x ct w (fun _ _ => 0) p, dsce1 x ct w (fun _ _ => 0) p, dsce2 x ct w (fun _ _ => 0) p, dsce3 x ct w (fun _ _ => 0) p, dpwe0 x ct sc (fun _ _ _ => 0) p, dpwe1 x ct sc (fun _ _ _ => 0) p, dpwe2 x ct sc (fun _ _ _ => 0) p, dpwe3 x ct sc (fun _ _ _ => 0) p, dxe0, dxe1, dxe2, dxe3]
  exact left5 ct w sc p _

theorem pointA_6 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : cond0_0 i) (p : ℕ) (hi : (i 0).val + p = 15) (h2 : ℕ → ℕ → ℝ) (hx : p ≠ 0 → (cv2 h2 : S16x512.Idx → EReal) = cv2 (fun r c => xz x (256 * p + r) c)) (hp : p = 15) (hct : ∀ t, 4096 ≤ t → ∀ c, ct t c = 0) :
    out0_A_6 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c)
      = cv3 (fun g a b => 0 + ∑ r ∈ Finset.range 256, df x g (256 * p + r) a * dy ct sc g (256 * p + r) b) := by
  unfold out0_A_6 kernelRun0_A
  dsimp only
  sl_unfold_words
  simp (disch := decide) only [↓View.readCov_skip, ↓View.readCov_fill]
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [Nat.zero_add, dsce0 x ct w (fun _ _ => 0) p, dsce1 x ct w (fun _ _ => 0) p, dsce2 x ct w (fun _ _ => 0) p, dsce3 x ct w (fun _ _ => 0) p, dpwe0 x ct sc (fun _ _ _ => 0) p, dpwe1 x ct sc (fun _ _ _ => 0) p, dpwe2 x ct sc (fun _ _ _ => 0) p, dpwe3 x ct sc (fun _ _ _ => 0) p, dxe0, dxe1, dxe2, dxe3]
  exact left6 x ct sc p (fun _ _ _ => 0) _

theorem pointA_7 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : cond0_0 i) (p : ℕ) (hi : (i 0).val + p = 15) (h2 : ℕ → ℕ → ℝ) (hx : p ≠ 0 → (cv2 h2 : S16x512.Idx → EReal) = cv2 (fun r c => xz x (256 * p + r) c)) (hp : p = 15) (hct : ∀ t, 4096 ≤ t → ∀ c, ct t c = 0) :
    out0_A_7 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c)
      = cv2 (fun s c => 0 + ∑ k ∈ Finset.range 32, atG (tm x ct w) (256 * p + (k * 8 + s)) c) := by
  unfold out0_A_7 kernelRun0_A
  dsimp only
  sl_unfold_words
  simp (disch := decide) only [↓View.readCov_skip, ↓View.readCov_fill]
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [Nat.zero_add, dsce0 x ct w (fun _ _ => 0) p, dsce1 x ct w (fun _ _ => 0) p, dsce2 x ct w (fun _ _ => 0) p, dsce3 x ct w (fun _ _ => 0) p, dpwe0 x ct sc (fun _ _ _ => 0) p, dpwe1 x ct sc (fun _ _ _ => 0) p, dpwe2 x ct sc (fun _ _ _ => 0) p, dpwe3 x ct sc (fun _ _ _ => 0) p, dxe0, dxe1, dxe2, dxe3]
  exact left7 x ct w p (fun _ _ => 0) _

theorem pointA_1 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S16x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S4x128x128 .f32) (harg7 : arg7.IsWhole) (arg8 : Memref sig .tc .vmem S8x512 .f32) (harg8 : arg8.IsWhole) (arg9 : Memref sig .tc .vmem S272x512 .f32) (harg9 : arg9.IsWhole) (arg10 : Memref sig .tc .vmem S272x512 .f32) (harg10 : arg10.IsWhole) (hc0 : cond0_0 i) (p : ℕ) (hi : (i 0).val + p = 15) (h2 : ℕ → ℕ → ℝ) (hx : p ≠ 0 → (cv2 h2 : S16x512.Idx → EReal) = cv2 (fun r c => xz x (256 * p + r) c)) (hp : p = 15) (hct : ∀ t, 4096 ≤ t → ∀ c, ct t c = 0) :
    sout0_A_1 (F := Ideal) c i arg1 harg1 arg2 harg2 arg3 harg3 arg4 harg4 arg5 harg5 arg6 harg6 arg7 harg7 arg8 harg8 arg9 harg9 arg10 harg10 hc0 (cv2 fun r c => ct (256 * p + r) c) (cv2 fun r c => x (256 * p + r) c) (cv2 h2) (cv3 w) (cv2 fun _ c => sc c)
      = cv2 (carry ct w sc p) := by
  unfold sout0_A_1 kernelRun0_A
  dsimp only
  sl_unfold_words
  simp only [View.read_writes_junk_eq_canon, View.readCov_eq_canon', View.readAt_eq_ld, harg1.read_unread, harg2.read_unread, harg3.read_unread, harg4.read_unread, harg5.read_unread, harg7.read_unread, harg8.read_unread, harg10.read_unread]
  simp only [ld_cv2, ld_cv3, ld_cv3b, Nat.zero_add, pay2_eq, pay3_eq]
  simp only [Nat.zero_add, buf_eq x i p hi _ hx, idx_cv2, diff0 x i p hi, diff1 x i p hi, diff2 x i p hi, diff3 x i p hi, qqe0 ct sc w i p hi, qqe1 ct sc w i p hi, qqe2 ct sc w i p hi, qqe3 ct sc w i p hi, dde0 ct sc w p, dde1 ct sc w p, dde2 ct sc w p, dde3 ct sc w p]
  simp only [eb_first ct w sc p hp hct, idx_cv2, ld_cv2, Nat.zero_add, pay1_eq]
  exact eb_left ct w sc p _

end

end Cert.Proof.Pool

end
-- ==== Proof.Blocks.lean ====
/- The blocks of the arguments that a grid point reads, and the running sums its points leave. -/
module

public import proofs.«01_k».proof.Proof.Point
public import Idealize.ShloMosaic.Lib.Claim
public import Idealize.ShloMosaic.Lib.Pipeline.Value
public import Idealize.ShloMosaic.Lib.Pipeline.ValueKit

@[expose] public section

noncomputable section

namespace Cert.Proof.Pool

open Cert.KernelIdeal Cert.KernelIdeal.Gen Idealize.ShloMosaic Idealize.ShloMosaic.TcCoe Idealize.SL.Sem

variable (m : (ℓ : Loc nD τ sig) → Buf (Elt Ideal) ℓ)

theorem coord_eq (t : Fin cfg0.N) : ((grid0.coords t) 0).val + (15 - t.val) = 15 :=
  (by decide +kernel : ∀ t : Fin grid0.N, ((grid0.coords t) 0).val + (15 - t.val) = 15) t

theorem index_eq (t : Fin cfg0.N) : win0_0.index t = ![15 - t.val, 3] ∧ win0_1.index t = ![15 - t.val, 5]
    ∧ win0_2.index t = ![(15 - t.val) * 16 - 1, 5] ∧ win0_3.index t = ![0, 0, 0] ∧ win0_4.index t = ![0, 0] ∧ win0_5.index t = ![15 - t.val, 0]
    ∧ win0_6.index t = ![0, 0, 0] ∧ win0_7.index t = ![0, 0] :=
  (by decide +kernel : ∀ t : Fin grid0.N, win0_0.index t = ![15 - t.val, 3] ∧ win0_1.index t = ![15 - t.val, 5]
    ∧ win0_2.index t = ![(15 - t.val) * 16 - 1, 5] ∧ win0_3.index t = ![0, 0, 0] ∧ win0_4.index t = ![0, 0] ∧ win0_5.index t = ![15 - t.val, 0]
    ∧ win0_6.index t = ![0, 0, 0] ∧ win0_7.index t = ![0, 0]) t

/-! ## The blocks of the arguments -/

theorem blk0 (c : Dev nD) (D : ℕ → ℕ → ℝ) (h : m ((c : Thread nD τ).loc main_arg0) = cv2 D) (t : Fin cfg0.N) :
    iblk m c 0 t = cv2 (fun r d => D (256 * (15 - t.val) + r) (1536 + d)) := by
  refine ext2 fun a b => ?_
  have e : iblk m c 0 t (ix2 a b) = m ((c : Thread nD τ).loc main_arg0) (ix2 ⟨256 * (15 - t.val) + a.val, by omega⟩ ⟨1536 + b.val, by omega⟩) := by
    blk_ext [iblk, V, index_eq t]
  rw [e, h]; rfl

theorem blk1 (c : Dev nD) (D : ℕ → ℕ → ℝ) (h : m ((c : Thread nD τ).loc main_arg1) = cv2 D) (t : Fin cfg0.N) :
    iblk m c 1 t = cv2 (fun r d => D (256 * (15 - t.val) + r) (2560 + d)) := by
  refine ext2 fun a b => ?_
  have e : iblk m c 1 t (ix2 a b) = m ((c : Thread nD τ).loc main_arg1) (ix2 ⟨256 * (15 - t.val) + a.val, by omega⟩ ⟨2560 + b.val, by omega⟩) := by
    blk_ext [iblk, V, index_eq t]
  rw [e, h]; rfl

theorem blk2 (c : Dev nD) (D : ℕ → ℕ → ℝ) (h : m ((c : Thread nD τ).loc main_arg1) = cv2 D) (t : Fin cfg0.N) :
    iblk m c 2 t = cv2 (fun r d => D (((15 - t.val) * 16 - 1) * 16 + r) (2560 + d)) := by
  refine ext2 fun a b => ?_
  have e : iblk m c 2 t (ix2 a b) = m ((c : Thread nD τ).loc main_arg1) (ix2 ⟨((15 - t.val) * 16 - 1) * 16 + a.val, by omega⟩ ⟨2560 + b.val, by omega⟩) := by
    blk_ext [iblk, V, index_eq t]
  rw [e, h]; rfl

theorem blk3 (c : Dev nD) (w : ℕ → ℕ → ℕ → ℝ) (h : m ((c : Thread nD τ).loc main_arg2) = cv3 w) (t : Fin cfg0.N) :
    iblk m c 3 t = cv3 w := by
  refine ext3 fun a b d => ?_
  have e : iblk m c 3 t (ix3 a b d) = m ((c : Thread nD τ).loc main_arg2) (ix3 a b d) := by
    blk_ext [iblk, V, index_eq t]
  rw [e, h]

theorem blk4 (c : Dev nD) (s : ℕ → ℝ) (h : m ((c : Thread nD τ).loc main_arg3) = cv1 s) (t : Fin cfg0.N) :
    iblk m c 4 t = cv2 (fun _ d => s d) := by
  refine ext2 fun a b => ?_
  have e : iblk m c 4 t (ix2 a b) = m ((c : Thread nD τ).loc main_arg3) (ix1 b) := by
    have e' : iblk m c 4 t (ix2 a b) = V m c main_v1 (ix2 a b) := by
      blk_ext [iblk, V, index_eq t]
    rw [e']
    simp only [V, V0, List.flatten_cons, List.flatten_nil, List.append_nil]
    after_results
    pointwise
  rw [e, h]; rfl

/-! ## What the points leave -/

section
variable (x ct : ℕ → ℕ → ℝ) (w : ℕ → ℕ → ℕ → ℝ) (sc : ℕ → ℝ)

/-- The weights' gradient after `n + 1` points. -/
def dwAt (n g a b : ℕ) : ℝ := ∑ u ∈ Finset.range (n + 1), ∑ r ∈ Finset.range 256, df x g (256 * (15 - u) + r) a * dy ct sc g (256 * (15 - u) + r) b

/-- The scale's gradient after `n + 1` points, in eight parts. -/
def dsAt (n s c : ℕ) : ℝ := ∑ u ∈ Finset.range (n + 1), ∑ k ∈ Finset.range 32, atG (tm x ct w) (256 * (15 - u) + (k * 8 + s)) c

end

end Cert.Proof.Pool

end
-- ==== Proof.Steps.lean ====
/- What each grid point leaves, over what the point before it left. -/
module

public import proofs.«01_k».proof.Proof.Blocks

@[expose] public section

noncomputable section

namespace Cert.Proof.Pool

open Cert.KernelIdeal Cert.KernelIdeal.Gen Idealize.ShloMosaic Idealize.ShloMosaic.TcCoe Idealize.SL.Sem

variable (m : (ℓ : Loc nD τ sig) → Buf (Elt Ideal) ℓ)

/-- The rows just before a block of the sequence. -/
theorem rows_before (E : ℕ → ℕ → ℝ) (p : ℕ) (hp : p ≠ 0) : (cv2 (fun r d => E ((p * 16 - 1) * 16 + r) (2560 + d)) : S16x512.Idx → EReal)
    = cv2 (fun r d => xz (fun t d => E t (2560 + d)) (256 * p + r) d) := by
  refine ext2 fun a b => ?_
  rw [cv2_ix, cv2_ix, xz, if_pos (by omega), show (p * 16 - 1) * 16 + a.val = 256 * p + a.val - 16 by omega]

theorem stepA (c : Dev nD) (D E : ℕ → ℕ → ℝ) (w : ℕ → ℕ → ℕ → ℝ) (s : ℕ → ℝ) (hD : ∀ t, 4096 ≤ t → ∀ d, D t d = 0)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s)
    (t : Fin cfg0.N) (ht : t.val % 16 = 0) (hp : 15 - t.val = 15) : outsAt0 m c t.val t.isLt =
      (cv2 (fun r d => atG (dxv (fun t d => D t (1536 + d)) w s) (256 * (15 - t.val) + r) d),
       cv3 (fun g a b => 0 + ∑ r ∈ Finset.range 256, df (fun t d => E t (2560 + d)) g (256 * (15 - t.val) + r) a * dy (fun t d => D t (1536 + d)) s g (256 * (15 - t.val) + r) b),
       cv2 (fun q d => 0 + ∑ k ∈ Finset.range 32, atG (tm (fun t d => E t (2560 + d)) (fun t d => D t (1536 + d)) w) (256 * (15 - t.val) + (k * 8 + q)) d),
       cv2 (carry (fun t d => D t (1536 + d)) w s (15 - t.val))) := by
  have hct : ∀ t, 4096 ≤ t → ∀ d, (fun t d => D t (1536 + d)) t d = 0 := fun t ht d => hD t ht _
  have hx := rows_before E (15 - t.val)
  rw [outsAt0_A m c t ht]
  refine Prod.ext ?_ (Prod.ext ?_ (Prod.ext ?_ ?_)) <;> dsimp only <;> rw [blk0 m c D h0 t, blk1 m c E h1 t, blk2 m c E h1 t, blk3 m c w h2 t, blk4 m c s h3 t]
  · exact pointA_5 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr ht) (15 - t.val) (coord_eq t) (fun r d => E (((15 - t.val) * 16 - 1) * 16 + r) (2560 + d)) hx hp hct
  · exact pointA_6 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr ht) (15 - t.val) (coord_eq t) (fun r d => E (((15 - t.val) * 16 - 1) * 16 + r) (2560 + d)) hx hp hct
  · exact pointA_7 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr ht) (15 - t.val) (coord_eq t) (fun r d => E (((15 - t.val) * 16 - 1) * 16 + r) (2560 + d)) hx hp hct
  · exact pointA_1 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr ht) (15 - t.val) (coord_eq t) (fun r d => E (((15 - t.val) * 16 - 1) * 16 + r) (2560 + d)) hx hp hct

theorem stepB (c : Dev nD) (D E : ℕ → ℕ → ℝ) (w : ℕ → ℕ → ℕ → ℝ) (s : ℕ → ℝ)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s)
    (t : Fin cfg0.N) (ht : ¬t.val % 16 = 0) (o5 : Vec Ideal S256x512 .bf16) (od : ℕ → ℕ → ℕ → ℝ) (os : ℕ → ℕ → ℝ)
    (hb : outsAt0 m c (t.val - 1) (Nat.lt_of_le_of_lt (Nat.sub_le _ _) t.isLt) = (o5, cv3 od, cv2 os, cv2 (carry (fun t d => D t (1536 + d)) w s (15 - t.val + 1)))) :
    outsAt0 m c t.val t.isLt =
      (cv2 (fun r d => atG (dxv (fun t d => D t (1536 + d)) w s) (256 * (15 - t.val) + r) d),
       cv3 (fun g a b => od g a b + ∑ r ∈ Finset.range 256, df (fun t d => E t (2560 + d)) g (256 * (15 - t.val) + r) a * dy (fun t d => D t (1536 + d)) s g (256 * (15 - t.val) + r) b),
       cv2 (fun q d => os q d + ∑ k ∈ Finset.range 32, atG (tm (fun t d => E t (2560 + d)) (fun t d => D t (1536 + d)) w) (256 * (15 - t.val) + (k * 8 + q)) d),
       cv2 (carry (fun t d => D t (1536 + d)) w s (15 - t.val))) := by
  have hx := rows_before E (15 - t.val)
  rw [outsAt0_B m c t ht, hb]
  refine Prod.ext ?_ (Prod.ext ?_ (Prod.ext ?_ ?_)) <;> dsimp only <;> rw [blk0 m c D h0 t, blk1 m c E h1 t, blk2 m c E h1 t, blk3 m c w h2 t, blk4 m c s h3 t]
  · exact pointB_5 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => ht ((hcond0_0 t).mp h)) (15 - t.val) (coord_eq t) (fun r d => E (((15 - t.val) * 16 - 1) * 16 + r) (2560 + d)) hx _ _
  · exact pointB_6 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => ht ((hcond0_0 t).mp h)) (15 - t.val) (coord_eq t) (fun r d => E (((15 - t.val) * 16 - 1) * 16 + r) (2560 + d)) hx od _
  · exact pointB_7 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => ht ((hcond0_0 t).mp h)) (15 - t.val) (coord_eq t) (fun r d => E (((15 - t.val) * 16 - 1) * 16 + r) (2560 + d)) hx _ os
  · exact pointB_1 (fun t d => E t (2560 + d)) (fun t d => D t (1536 + d)) w s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => ht ((hcond0_0 t).mp h)) (15 - t.val) (coord_eq t) (fun r d => E (((15 - t.val) * 16 - 1) * 16 + r) (2560 + d)) hx _ _

end Cert.Proof.Pool

end
-- ==== Proof.KVal.lean ====
/- The kernel's run: what each grid point leaves, by induction over the points, and the three arrays after the run. -/
module

public import proofs.«01_k».proof.Proof.Steps

@[expose] public section

noncomputable section

namespace Cert.Proof.Pool

open Cert.KernelIdeal Cert.KernelIdeal.Gen Idealize.ShloMosaic Idealize.ShloMosaic.TcCoe Idealize.SL.Sem

variable (m : (ℓ : Loc nD τ sig) → Buf (Elt Ideal) ℓ)

theorem outs (c : Dev nD) (D E : ℕ → ℕ → ℝ) (w : ℕ → ℕ → ℕ → ℝ) (s : ℕ → ℝ) (hD : ∀ t, 4096 ≤ t → ∀ d, D t d = 0)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s) :
    ∀ (n : ℕ) (hn : n < cfg0.N), outsAt0 m c n hn =
      (cv2 (fun r d => atG (dxv (fun t d => D t (1536 + d)) w s) (256 * (15 - n) + r) d),
       cv3 (dwAt (fun t d => E t (2560 + d)) (fun t d => D t (1536 + d)) s n),
       cv2 (dsAt (fun t d => E t (2560 + d)) (fun t d => D t (1536 + d)) w n),
       cv2 (carry (fun t d => D t (1536 + d)) w s (15 - n))) := by
  intro n
  induction n with
  | zero =>
    intro hn
    refine (stepA m c D E w s hD h0 h1 h2 h3 ⟨0, hn⟩ (Nat.zero_mod _) rfl).trans ?_
    refine Prod.ext rfl (Prod.ext ?_ (Prod.ext ?_ rfl))
    · dsimp only
      refine congrArg cv3 ?_
      funext g a b; simp only [dwAt, zero_add, Finset.sum_range_one, Nat.sub_zero]
    · dsimp only
      refine congrArg cv2 ?_
      funext g a; simp only [dsAt, zero_add, Finset.sum_range_one, Nat.sub_zero]
  | succ n ih =>
    intro hn
    have hN : n + 1 < 16 := lt_of_lt_of_eq hn N_0
    have hb := ih (by omega)
    rw [show 15 - n = 15 - (n + 1) + 1 by omega] at hb
    refine (stepB m c D E w s h0 h1 h2 h3 ⟨n + 1, hn⟩ (by dsimp only; omega) _ _ _ hb).trans ?_
    refine Prod.ext rfl (Prod.ext ?_ (Prod.ext ?_ rfl))
    · dsimp only
      refine congrArg cv3 ?_
      funext g a b; simp only [dwAt]; rw [Finset.sum_range_succ _ (n + 1)]
    · dsimp only
      refine congrArg cv2 ?_
      funext g a; simp only [dsAt]; rw [Finset.sum_range_succ _ (n + 1)]

/-! ## The sums over the blocks -/

/-- A sum over `n` blocks of `k` is a sum over `n * k`. -/
theorem sum_blocks (k : ℕ) (f : ℕ → ℝ) (n : ℕ) : ∑ u ∈ Finset.range n, ∑ r ∈ Finset.range k, f (k * u + r) = ∑ t ∈ Finset.range (k * n), f t := by
  induction n with
  | zero => simp
  | succ n ih => rw [Finset.sum_range_succ, ih, Nat.mul_succ, Finset.sum_range_add]

theorem dwAt_last (x ct : ℕ → ℕ → ℝ) (s : ℕ → ℝ) : dwAt x ct s 15 = dwv x ct s := by
  funext g a b
  rw [dwAt, dwv, ← Finset.sum_range_reflect]
  exact (Finset.sum_congr rfl fun u hu => by
    rw [show 15 - (15 + 1 - 1 - u) = u by have := Finset.mem_range.mp hu; omega]).trans
    (sum_blocks 256 (fun t => df x g t a * dy ct s g t b) 16)

theorem dsAt_last (x ct : ℕ → ℕ → ℝ) (w : ℕ → ℕ → ℕ → ℝ) (d : ℕ) : ∑ q ∈ Finset.range 8, dsAt x ct w 15 q d = dsv x ct w (d / 128) (d % 128) := by
  simp only [dsAt]
  rw [Finset.sum_comm, ← Finset.sum_range_reflect]
  refine (Finset.sum_congr rfl fun u hu => ?_).trans (sum_blocks 256 (fun t => tm x ct w (d / 128) t (d % 128)) 16)
  rw [show 15 - (15 + 1 - 1 - u) = u by have := Finset.mem_range.mp hu; omega, Finset.sum_comm]
  refine Eq.trans ?_ (sum_blocks 8 (fun r => tm x ct w (d / 128) (256 * u + r) (d % 128)) 32)
  refine Finset.sum_congr rfl fun k _ => Finset.sum_congr rfl fun q _ => ?_
  rw [atG, Nat.mul_comm k 8]

/-! ## The arrays after the run -/

theorem flush6 (t : Fin cfg0.N) (h : (cfg0.win 6).flush t = true) : t.val = 15 :=
  (by decide +kernel : ∀ t : Fin cfg0.grid.N, (cfg0.win 6).flush t = true → t.val = 15) t h

theorem flush7 (t : Fin cfg0.N) (h : (cfg0.win 7).flush t = true) : t.val = 15 :=
  (by decide +kernel : ∀ t : Fin cfg0.grid.N, (cfg0.win 7).flush t = true → t.val = 15) t h

theorem arr5 (c : Dev nD) (D E : ℕ → ℕ → ℝ) (w : ℕ → ℕ → ℕ → ℝ) (s : ℕ → ℝ) (hD : ∀ t, 4096 ≤ t → ∀ d, D t d = 0)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s) :
    (dats m 0 c).arrAt 5 cfg0.N = cv2 (atG (dxv (fun t d => D t (1536 + d)) w s)) := by
  refine (dats m 0 c).arrAt_eq_of_covers 5 _ (by decide +kernel) fun t hf y => ?_
  blk_simp
  rw [after0_5, outs m c D E w s hD h0 h1 h2 h3]
  dsimp only
  unfold cv2
  blk_simp
  simp only [(index_eq t).2.2.2.2.2.1]
  simp only [Matrix.cons_val_zero, Matrix.cons_val_one, Matrix.cons_val, Nat.mul_comm _ 256, zero_mul, zero_add]

theorem arr6 (c : Dev nD) (D E : ℕ → ℕ → ℝ) (w : ℕ → ℕ → ℕ → ℝ) (s : ℕ → ℝ) (hD : ∀ t, 4096 ≤ t → ∀ d, D t d = 0)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s) :
    (dats m 0 c).arrAt 6 cfg0.N = cv3 (dwv (fun t d => E t (2560 + d)) (fun t d => D t (1536 + d)) s) := by
  refine (dats m 0 c).arrAt_eq_of_covers 6 _ (by decide +kernel) fun t hf y => ?_
  blk_simp
  rw [after0_6, outs m c D E w s hD h0 h1 h2 h3]
  dsimp only
  have h15 := flush6 t hf
  rw [h15, dwAt_last]
  unfold cv3
  blk_simp
  simp only [(index_eq t).2.2.2.2.2.2.1]
  simp only [Matrix.cons_val_zero, Matrix.cons_val_one, Matrix.cons_val, Nat.mul_comm _ 256, zero_mul, zero_add]

theorem arr7 (c : Dev nD) (D E : ℕ → ℕ → ℝ) (w : ℕ → ℕ → ℕ → ℝ) (s : ℕ → ℝ) (hD : ∀ t, 4096 ≤ t → ∀ d, D t d = 0)
    (h0 : m ((c : Thread nD τ).loc main_arg0) = cv2 D) (h1 : m ((c : Thread nD τ).loc main_arg1) = cv2 E)
    (h2 : m ((c : Thread nD τ).loc main_arg2) = cv3 w) (h3 : m ((c : Thread nD τ).loc main_arg3) = cv1 s) :
    (dats m 0 c).arrAt 7 cfg0.N = cv2 (dsAt (fun t d => E t (2560 + d)) (fun t d => D t (1536 + d)) w 15) := by
  refine (dats m 0 c).arrAt_eq_of_covers 7 _ (by decide +kernel) fun t hf y => ?_
  blk_simp
  rw [after0_7, outs m c D E w s hD h0 h1 h2 h3]
  dsimp only
  have h15 := flush7 t hf
  rw [h15]
  unfold cv2
  blk_simp
  simp only [(index_eq t).2.2.2.2.2.2.2]
  simp only [Matrix.cons_val_zero, Matrix.cons_val_one, Matrix.cons_val, Nat.mul_comm _ 256, zero_mul, zero_add]

theorem tail (x ct : ℕ → ℕ → ℝ) (w : ℕ → ℕ → ℕ → ℝ) :
    Host.reduceAdd (F := Ideal) (cv2 (dsAt x ct w 15) : Vec Ideal S8x512 .f32) (constant S_ .f32 0x00000000#32) reducesTo_S8x512_S512_d0 h_S_
      = cv1 fun c => dsv x ct w (c / 128) (c % 128) := by
  refine ext1 fun d => ?_
  pointwise
  simp only [cv2_ix, cv1_ix, coe_sum]
  rw [fin_range 8 fun q => dsAt x ct w 15 q d.val, dsAt_last]

end Cert.Proof.Pool

end
-- ==== Proof.Product2.lean ====
/- The gradient of the feed-forward network's activations: the product computed tile by tile is the whole product. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product2

open Cert.Kernel2Ideal Cert.Kernel2Ideal.Gen

variable (m : (ℓ : Loc nD τ sig) → Buf (Elt Ideal) ℓ)

/-- The reference's result as a function of its arguments. -/
abbrev goal (x : FVec Ideal S4096x2048 .f32) (y : FVec Ideal S5504x2048 .f32) : FVec Ideal S4096x5504 .bf16 :=
  truncf .bf16 (Host.dotGeneral Cert.Reference2Ideal.dot_S4096x2048_S5504x2048_S4096x5504_1_1_0_0_n_n none x y) Cert.Reference2Ideal.Gen.bitsLt_bf16_f32

/-- The block each window holds at each grid point. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The result's blocks cover the result. -/
theorem covers : (cfg0.win 2).Covers := by decide +kernel

/-- The accumulator starts at zero. -/
theorem zero_at (j) : k0_pay1 (F := Ideal) j = 0 := by pointwise [k0_pay1]

/-- One step adds one slab's product to the accumulator. -/
theorem step_at (s : FVec Ideal S512x5504 .f32) (x : FVec Ideal S512x512 .bf16) (y : FVec Ideal S5504x512 .bf16) (j) :
    k0_pay2 s x y j = s j + ∑ k : Fin 512, x (ix2 (j 0) k) * y (ix2 (j 1) k) := by pointwise [k0_pay2]

/-- The whole product at an index. -/
theorem goal_at (x : FVec Ideal S4096x2048 .f32) (y : FVec Ideal S5504x2048 .f32) (j) :
    goal x y j = ∑ k : Fin 2048, x (ix2 (j 0) k) * y (ix2 (j 1) k) := by
  pointwise [goal]

/-- The accumulator after the last slab: the sum of the slabs' products. -/
theorem acc (c : Dev nD) (t : Fin cfg0.N) (hf : (cfg0.win 2).flush t = true) (j) :
    (outsAt0 m c t.val t.isLt).2 j = ∑ s : Fin 4, ∑ k : Fin 512,
      (show FVec Ideal S512x512 .bf16 from iblk m c 0 ⟨4 * (t.val / 4) + s.val, Pipeline.run_point_lt_of_flush t ((flush0_2 t).mp hf) s⟩) (ix2 (j 0) k)
        * (show FVec Ideal S5504x512 .bf16 from iblk m c 1 ⟨4 * (t.val / 4) + s.val, Pipeline.run_point_lt_of_flush t ((flush0_2 t).mp hf) s⟩) (ix2 (j 1) k) := by
  rw [Pipeline.eq_sum_fin_of_reset_step_apply_of_flush (fun n h => (outsAt0 m c n h).2) 4 (fun _ => 0)
    (fun p j => ∑ k : Fin 512, (show FVec Ideal S512x512 .bf16 from iblk m c 0 p) (ix2 (j 0) k) * (show FVec Ideal S5504x512 .bf16 from iblk m c 1 p) (ix2 (j 1) k))
    (fun t h j => by rw [outsAt0_A m c t h (by omega)]; frame_out; rw [step_at, zero_at])
    (fun t h j => by
        by_cases h1 : t.val % 4 = 3
        · rw [outsAt0_C m c t h h1]; frame_out; rw [step_at]; simp only [read_unread_whole]
        · rw [outsAt0_B m c t h h1]; frame_out; rw [step_at]; simp only [read_unread_whole])
    t ((flush0_2 t).mp hf) _, zero_add]

/-- The result's array after the run is the whole product. -/
theorem final (c : Dev nD) : (dats m 0 c).arrAt 2 (cfgs 0).N
    = goal (m ((c : Thread nD τ).loc main_arg0)) (m ((c : Thread nD τ).loc main_arg1)) := by
  refine (dats m 0 c).arrAt_eq_of_covers 2 _ covers fun t hf j => ?_
  blk_simp
  rw [after0_2]
  refine Eq.trans (b := (outsAt0 m c t.val t.isLt).2 j) ?_ ?_
  · have h1 := (flush0_2 t).mp hf
    rw [outsAt0_C m c t (by omega) h1]; frame_out; pointwise [k0_pay3]
  rw [acc m c t hf, goal_at]
  refine Fin.sum_mul_add_congr fun s k hl => ?_
  blk_point [iblk, V, idx t, idx ⟨_, Pipeline.run_point_lt_of_flush t ((flush0_2 t).mp hf) s⟩]

theorem reference_frame : Cert.quiescent_Reference2Ideal := fun m ρ _ =>
  θ_run_mono (Cert.Reference2Ideal.Value.run m ρ) fun _ h => ⟨fun c => (h c).2, funext fun g => match g with | (_, .reg s) => s.elim0 | (_, .dma s) => s.elim0⟩

theorem algebraic : Cert.algebraic_Kernel2Ideal_Reference2Ideal := by
  pair_intro
  · run_from Cert.Kernel2Ideal.Value.run_blocks m g
  · run_from Cert.Reference2Ideal.Value.run m' g'
    exact (final m c).symm

end Cert.Proof.Product2

end
-- ==== Proof.Product3.lean ====
/- The gradient of the feed-forward network's second weight matrix: the product computed tile by tile is the whole product. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product3

open Cert.Kernel3Ideal Cert.Kernel3Ideal.Gen

variable (m : (ℓ : Loc nD τ sig) → Buf (Elt Ideal) ℓ)

/-- The reference's result as a function of its arguments. -/
abbrev goal (x : FVec Ideal S4096x5504 .f32) (y : FVec Ideal S4096x2048 .f32) : FVec Ideal S5504x2048 .bf16 :=
  truncf .bf16 (transpose Cert.Reference3Ideal.S5504x2048 [1, 0] (Host.dotGeneral Cert.Reference3Ideal.dot_S4096x2048_S4096x5504_S2048x5504_0_0_1_1_n_n none y x) Cert.Reference3Ideal.Gen.transposes_S2048x5504_S5504x2048_1_0) Cert.Reference3Ideal.Gen.bitsLt_bf16_f32

/-- The block each window holds at each grid point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The result's blocks cover the result. -/
theorem covers : (cfg0.win 2).Covers := by decide +kernel

/-- The accumulator starts at zero. -/
theorem zero_at (j) : k0_pay1 (F := Ideal) j = 0 := by pointwise [k0_pay1]

/-- One step adds one slab's product to the accumulator. -/
theorem step_at (s : FVec Ideal S5504x512 .f32) (x : FVec Ideal S512x5504 .bf16) (y : FVec Ideal S512x512 .bf16) (j) :
    k0_pay2 s x y j = s j + ∑ k : Fin 512, x (ix2 k (j 0)) * y (ix2 k (j 1)) := by pointwise [k0_pay2]

/-- The whole product at an index. -/
theorem goal_at (x : FVec Ideal S4096x5504 .f32) (y : FVec Ideal S4096x2048 .f32) (j) :
    goal x y j = ∑ k : Fin 4096, x (ix2 k (j 0)) * y (ix2 k (j 1)) := by
  pointwise [goal]
  exact Fin.sum_fin_congr fun _ => mul_comm _ _

/-- The accumulator after the last slab: the sum of the slabs' products. -/
theorem acc (c : Dev nD) (t : Fin cfg0.N) (hf : (cfg0.win 2).flush t = true) (j) :
    (outsAt0 m c t.val t.isLt).2 j = ∑ s : Fin 8, ∑ k : Fin 512,
      (show FVec Ideal S512x5504 .bf16 from iblk m c 0 ⟨8 * (t.val / 8) + s.val, Pipeline.run_point_lt_of_flush t ((flush0_2 t).mp hf) s⟩) (ix2 k (j 0))
        * (show FVec Ideal S512x512 .bf16 from iblk m c 1 ⟨8 * (t.val / 8) + s.val, Pipeline.run_point_lt_of_flush t ((flush0_2 t).mp hf) s⟩) (ix2 k (j 1)) := by
  rw [Pipeline.eq_sum_fin_of_reset_step_apply_of_flush (fun n h => (outsAt0 m c n h).2) 8 (fun _ => 0)
    (fun p j => ∑ k : Fin 512, (show FVec Ideal S512x5504 .bf16 from iblk m c 0 p) (ix2 k (j 0)) * (show FVec Ideal S512x512 .bf16 from iblk m c 1 p) (ix2 k (j 1)))
    (fun t h j => by rw [outsAt0_A m c t h (by omega)]; frame_out; rw [step_at, zero_at])
    (fun t h j => by
        by_cases h1 : t.val % 8 = 7
        · rw [outsAt0_C m c t h h1]; frame_out; rw [step_at]; simp only [read_unread_whole]
        · rw [outsAt0_B m c t h h1]; frame_out; rw [step_at]; simp only [read_unread_whole])
    t ((flush0_2 t).mp hf) _, zero_add]

/-- The result's array after the run is the whole product. -/
theorem final (c : Dev nD) : (dats m 0 c).arrAt 2 (cfgs 0).N
    = goal (m ((c : Thread nD τ).loc main_arg0)) (m ((c : Thread nD τ).loc main_arg1)) := by
  refine (dats m 0 c).arrAt_eq_of_covers 2 _ covers fun t hf j => ?_
  blk_simp
  rw [after0_2]
  refine Eq.trans (b := (outsAt0 m c t.val t.isLt).2 j) ?_ ?_
  · have h1 := (flush0_2 t).mp hf
    rw [outsAt0_C m c t (by omega) h1]; frame_out; pointwise [k0_pay3]
  rw [acc m c t hf, goal_at]
  refine Fin.sum_mul_add_congr fun s k hl => ?_
  blk_point [iblk, V, idx t, idx ⟨_, Pipeline.run_point_lt_of_flush t ((flush0_2 t).mp hf) s⟩]

theorem reference_frame : Cert.quiescent_Reference3Ideal := fun m ρ _ =>
  θ_run_mono (Cert.Reference3Ideal.Value.run m ρ) fun _ h => ⟨fun c => (h c).2, funext fun g => match g with | (_, .reg s) => s.elim0 | (_, .dma s) => s.elim0⟩

theorem algebraic : Cert.algebraic_Kernel3Ideal_Reference3Ideal := by
  pair_intro
  · run_from Cert.Kernel3Ideal.Value.run_blocks m g
  · run_from Cert.Reference3Ideal.Value.run m' g'
    exact (final m c).symm

end Cert.Proof.Product3

end
-- ==== Proof.Product4.lean ====
/- The gradient of the feed-forward network's input: the product computed tile by tile is the whole product. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product4

open Cert.Kernel4Ideal Cert.Kernel4Ideal.Gen

variable (m : (ℓ : Loc nD τ sig) → Buf (Elt Ideal) ℓ)

/-- The reference's result as a function of its arguments. -/
abbrev goal (x : FVec Ideal S4096x11008 .f32) (y : FVec Ideal S2048x11008 .f32) : FVec Ideal S4096x2048 .f32 :=
  Host.dotGeneral Cert.Reference4Ideal.dot_S4096x11008_S2048x11008_S4096x2048_1_1_0_0_n_n none x y

/-- The block each window holds at each grid point. -/
theorem idx : ∀ t : Fin cfg0.N, win0_0.index t = ![t.val / 8, t.val % 2] ∧ win0_1.index t = ![t.val % 2, t.val / 2 % 4] ∧ win0_2.index t = ![t.val / 8, t.val / 2 % 4] :=
  (by decide +kernel : ∀ t : Fin grid0.N, _)

/-- The result's blocks cover the result. -/
theorem covers : (cfg0.win 2).Covers := by decide +kernel

/-- The accumulator starts at zero. -/
theorem zero_at (j) : k0_pay1 (F := Ideal) j = 0 := by pointwise [k0_pay1]

/-- One step adds one slab's product to the accumulator. -/
theorem step_at (s : FVec Ideal S1024x512 .f32) (x : FVec Ideal S1024x5504 .bf16) (y : FVec Ideal S5504x512 .bf16) (j) :
    k0_pay2 s x y j = s j + ∑ k : Fin 5504, x (ix2 (j 0) k) * y (ix2 k (j 1)) := by pointwise [k0_pay2]

/-- The whole product at an index. -/
theorem goal_at (x : FVec Ideal S4096x11008 .f32) (y : FVec Ideal S2048x11008 .f32) (j) :
    goal x y j = ∑ k : Fin 11008, x (ix2 (j 0) k) * y (ix2 (j 1) k) := by
  pointwise [goal]

/-- The accumulator after the last slab: the sum of the slabs' products. -/
theorem acc (c : Dev nD) (t : Fin cfg0.N) (hf : (cfg0.win 2).flush t = true) (j) :
    (outsAt0 m c t.val t.isLt).2 j = ∑ s : Fin 2, ∑ k : Fin 5504,
      (show FVec Ideal S1024x5504 .bf16 from iblk m c 0 ⟨2 * (t.val / 2) + s.val, Pipeline.run_point_lt_of_flush t ((flush0_2 t).mp hf) s⟩) (ix2 (j 0) k)
        * (show FVec Ideal S5504x512 .bf16 from iblk m c 1 ⟨2 * (t.val / 2) + s.val, Pipeline.run_point_lt_of_flush t ((flush0_2 t).mp hf) s⟩) (ix2 k (j 1)) := by
  rw [Pipeline.eq_sum_fin_of_reset_step_apply_of_flush (fun n h => (outsAt0 m c n h).2) 2 (fun _ => 0)
    (fun p j => ∑ k : Fin 5504, (show FVec Ideal S1024x5504 .bf16 from iblk m c 0 p) (ix2 (j 0) k) * (show FVec Ideal S5504x512 .bf16 from iblk m c 1 p) (ix2 k (j 1)))
    (fun t h j => by rw [outsAt0_A m c t h (by omega)]; frame_out; rw [step_at, zero_at])
    (fun t h j => by rw [outsAt0_B m c t h (by omega)]; frame_out; rw [step_at]; simp only [read_unread_whole])
    t ((flush0_2 t).mp hf) _, zero_add]

/-- The result's array after the run is the whole product. -/
theorem final (c : Dev nD) : (dats m 0 c).arrAt 2 (cfgs 0).N
    = goal (m ((c : Thread nD τ).loc main_arg0)) (m ((c : Thread nD τ).loc main_arg1)) := by
  refine (dats m 0 c).arrAt_eq_of_covers 2 _ covers fun t hf j => ?_
  blk_simp
  rw [after0_2]
  refine Eq.trans (b := (outsAt0 m c t.val t.isLt).2 j) ?_ ?_
  · have h1 := (flush0_2 t).mp hf
    rw [outsAt0_B m c t (by omega) h1]; frame_out
  rw [acc m c t hf, goal_at]
  refine Fin.sum_mul_add_congr fun s k hl => ?_
  blk_point [iblk, V, idx t, idx ⟨_, Pipeline.run_point_lt_of_flush t ((flush0_2 t).mp hf) s⟩]

theorem reference_frame : Cert.quiescent_Reference4Ideal := fun m ρ _ =>
  θ_run_mono (Cert.Reference4Ideal.Value.run m ρ) fun _ h => ⟨fun c => (h c).2, funext fun g => match g with | (_, .reg s) => s.elim0 | (_, .dma s) => s.elim0⟩

theorem algebraic : Cert.algebraic_Kernel4Ideal_Reference4Ideal := by
  pair_intro
  · run_from Cert.Kernel4Ideal.Value.run_blocks m g
  · run_from Cert.Reference4Ideal.Value.run m' g'
    exact (final m c).symm

end Cert.Proof.Product4

end
-- ==== Proof.Product5.lean ====
/- The gradient of the feed-forward network's first weight matrix: the product computed tile by tile is the whole product. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product5

open Cert.Kernel5Ideal Cert.Kernel5Ideal.Gen

variable (m : (ℓ : Loc nD τ sig) → Buf (Elt Ideal) ℓ)

/-- The reference's result as a function of its arguments. -/
abbrev goal (x : FVec Ideal S4096x11008 .f32) (y : FVec Ideal S4096x2048 .f32) : FVec Ideal S11008x2048 .bf16 :=
  truncf .bf16 (transpose Cert.Reference5Ideal.S11008x2048 [1, 0] (transpose Cert.Reference5Ideal.S2048x11008 [1, 0] (Host.dotGeneral Cert.Reference5Ideal.dot_S4096x11008_S4096x2048_S11008x2048_0_0_1_1_n_n none x y) Cert.Reference5Ideal.Gen.transposes_S11008x2048_S2048x11008_1_0) Cert.Reference5Ideal.Gen.transposes_S2048x11008_S11008x2048_1_0) Cert.Reference5Ideal.Gen.bitsLt_bf16_f32

/-- The block each window holds at each grid point. -/
theorem idx : ∀ t : Fin cfg0.N, win0_0.index t = ![0, (grid0.coords t 0).val] ∧ win0_1.index t = ![0, 0] ∧ win0_2.index t = ![(grid0.coords t 0).val, 0] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference5Ideal := fun m ρ _ =>
  θ_run_mono (Cert.Reference5Ideal.Value.run m ρ) fun _ h => ⟨fun c => (h c).2, funext fun g => match g with | (_, .reg s) => s.elim0 | (_, .dma s) => s.elim0⟩

theorem algebraic : Cert.algebraic_Kernel5Ideal_Reference5Ideal := by
  pair_intro
  · run_from Cert.Kernel5Ideal.Value.run_blocks m g
  · run_from Cert.Reference5Ideal.Value.run m' g'
    exact (final m c).symm

end Cert.Proof.Product5

end
-- ==== Proof.Product6.lean ====
/- The gradient of the mixers' joined outputs: the product computed tile by tile is the whole product. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product6

open Cert.Kernel6Ideal Cert.Kernel6Ideal.Gen

variable (m : (ℓ : Loc nD τ sig) → Buf (Elt Ideal) ℓ)

/-- The reference's result as a function of its arguments. -/
abbrev goal (x : FVec Ideal S4096x2048 .f32) (y : FVec Ideal S2048x2048 .f32) : FVec Ideal S4096x2048 .f32 :=
  Host.dotGeneral Cert.Reference6Ideal.dot_S4096x2048_S2048x2048_S4096x2048_1_1_0_0_n_n none x y

/-- The block each window holds at each grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference6Ideal := fun m ρ _ =>
  θ_run_mono (Cert.Reference6Ideal.Value.run m ρ) fun _ h => ⟨fun c => (h c).2, funext fun g => match g with | (_, .reg s) => s.elim0 | (_, .dma s) => s.elim0⟩

theorem algebraic : Cert.algebraic_Kernel6Ideal_Reference6Ideal := by
  pair_intro
  · run_from Cert.Kernel6Ideal.Value.run_blocks m g
  · run_from Cert.Reference6Ideal.Value.run m' g'
    exact (final m c).symm

end Cert.Proof.Product6

end
-- ==== Proof.Product7.lean ====
/- The gradient of the output projection's weight matrix: the product computed tile by tile is the whole product. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product7

open Cert.Kernel7Ideal Cert.Kernel7Ideal.Gen

variable (m : (ℓ : Loc nD τ sig) → Buf (Elt Ideal) ℓ)

/-- The reference's result as a function of its arguments. -/
abbrev goal (x : FVec Ideal S4096x2048 .f32) (y : FVec Ideal S4096x2048 .f32) : FVec Ideal S2048x2048 .bf16 :=
  truncf .bf16 (transpose Cert.Reference7Ideal.S2048x2048 [1, 0] (Host.dotGeneral Cert.Reference7Ideal.dot_S4096x2048_S4096x2048_S2048x2048_0_0_1_1_n_n none y x) Cert.Reference7Ideal.Gen.transposes_S2048x2048_S2048x2048_1_0) Cert.Reference7Ideal.Gen.bitsLt_bf16_f32

/-- The block each window holds at each grid point. -/
theorem idx : ∀ t : Fin cfg0.N, win0_0.index t = ![0, (grid0.coords t 0).val] ∧ win0_1.index t = ![0, 0] ∧ win0_2.index t = ![(grid0.coords t 0).val, 0] :=
  (by decide +kernel : ∀ t : Fin grid0.N, _)

/-- The result's blocks cover the result. -/
theorem covers : (cfg0.win 2).Covers := by decide +kernel

/-- The whole product at an index. -/
theorem goal_at (x : FVec Ideal S4096x2048 .f32) (y : FVec Ideal S4096x2048 .f32) (j) :
    goal x y j = ∑ k : Fin 4096, x (ix2 k (j 0)) * y (ix2 k (j 1)) := by
  pointwise [goal]
  exact Fin.sum_fin_congr fun _ => mul_comm _ _

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  rw [goal_at]
  pointwise [k0_pay1]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference7Ideal := fun m ρ _ =>
  θ_run_mono (Cert.Reference7Ideal.Value.run m ρ) fun _ h => ⟨fun c => (h c).2, funext fun g => match g with | (_, .reg s) => s.elim0 | (_, .dma s) => s.elim0⟩

theorem algebraic : Cert.algebraic_Kernel7Ideal_Reference7Ideal := by
  pair_intro
  · run_from Cert.Kernel7Ideal.Value.run_blocks m g
  · run_from Cert.Reference7Ideal.Value.run m' g'
    exact (final m c).symm

end Cert.Proof.Product7

end
-- ==== Proof.Product8.lean ====
/- The gradient of the mixers' input: the product computed tile by tile is the whole product. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product8

open Cert.Kernel8Ideal Cert.Kernel8Ideal.Gen

variable (m : (ℓ : Loc nD τ sig) → Buf (Elt Ideal) ℓ)

/-- The reference's result as a function of its arguments. -/
abbrev goal (x : FVec Ideal S4096x3072 .f32) (y : FVec Ideal S2048x3072 .f32) : FVec Ideal S4096x2048 .f32 :=
  Host.dotGeneral Cert.Reference8Ideal.dot_S4096x3072_S2048x3072_S4096x2048_1_1_0_0_n_n none x y

/-- The block each window holds at each grid point. -/
theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference8Ideal := fun m ρ _ =>
  θ_run_mono (Cert.Reference8Ideal.Value.run m ρ) fun _ h => ⟨fun c => (h c).2, funext fun g => match g with | (_, .reg s) => s.elim0 | (_, .dma s) => s.elim0⟩

theorem algebraic : Cert.algebraic_Kernel8Ideal_Reference8Ideal := by
  pair_intro
  · run_from Cert.Kernel8Ideal.Value.run_blocks m g
  · run_from Cert.Reference8Ideal.Value.run m' g'
    exact (final m c).symm

end Cert.Proof.Product8

end
-- ==== Proof.Product9.lean ====
/- The gradient of the input projection's weight matrix: the product computed tile by tile is the whole product. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product9

open Cert.Kernel9Ideal Cert.Kernel9Ideal.Gen

variable (m : (ℓ : Loc nD τ sig) → Buf (Elt Ideal) ℓ)

/-- The reference's result as a function of its arguments. -/
abbrev goal (x : FVec Ideal S4096x3072 .f32) (y : FVec Ideal S4096x2048 .f32) : FVec Ideal S3072x2048 .bf16 :=
  truncf .bf16 (transpose Cert.Reference9Ideal.S3072x2048 [1, 0] (transpose Cert.Reference9Ideal.S2048x3072 [1, 0] (Host.dotGeneral Cert.Reference9Ideal.dot_S4096x3072_S4096x2048_S3072x2048_0_0_1_1_n_n none x y) Cert.Reference9Ideal.Gen.transposes_S3072x2048_S2048x3072_1_0) Cert.Reference9Ideal.Gen.transposes_S2048x3072_S3072x2048_1_0) Cert.Reference9Ideal.Gen.bitsLt_bf16_f32

/-- The block each window holds at each grid point. -/
theorem idx : ∀ t : Fin cfg0.N, win0_0.index t = ![0, (grid0.coords t 0).val] ∧ win0_1.index t = ![0, 0] ∧ win0_2.index t = ![(grid0.coords t 0).val, 0] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference9Ideal := fun m ρ _ =>
  θ_run_mono (Cert.Reference9Ideal.Value.run m ρ) fun _ h => ⟨fun c => (h c).2, funext fun g => match g with | (_, .reg s) => s.elim0 | (_, .dma s) => s.elim0⟩

theorem algebraic : Cert.algebraic_Kernel9Ideal_Reference9Ideal := by
  pair_intro
  · run_from Cert.Kernel9Ideal.Value.run_blocks m g
  · run_from Cert.Reference9Ideal.Value.run m' g'
    exact (final m c).symm

end Cert.Proof.Product9

end
-- ==== Proof.Product10.lean ====
/- The input projection: the product computed tile by tile is the whole product. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product10

open Cert.Kernel10Ideal Cert.Kernel10Ideal.Gen

variable (m : (ℓ : Loc nD τ sig) → Buf (Elt Ideal) ℓ)

/-- The reference's result as a function of its arguments. -/
abbrev goal (x : FVec Ideal S4096x2048 .f32) (y : FVec Ideal S2048x3072 .f32) : FVec Ideal S4096x3072 .f32 :=
  Host.dotGeneral Cert.Reference10Ideal.dot_S4096x2048_S2048x3072_S4096x3072_1_0_0_1_n_n none x y

/-- The block each window holds at each grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference10Ideal := fun m ρ _ =>
  θ_run_mono (Cert.Reference10Ideal.Value.run m ρ) fun _ h => ⟨fun c => (h c).2, funext fun g => match g with | (_, .reg s) => s.elim0 | (_, .dma s) => s.elim0⟩

theorem algebraic : Cert.algebraic_Kernel10Ideal_Reference10Ideal := by
  pair_intro
  · run_from Cert.Kernel10Ideal.Value.run_blocks m g
  · run_from Cert.Reference10Ideal.Value.run m' g'
    exact (final m c).symm

end Cert.Proof.Product10

end
-- ==== Proof.Product11.lean ====
/- The output projection with the residual: the product computed tile by tile is the whole product. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product11

open Cert.Kernel11Ideal Cert.Kernel11Ideal.Gen

variable (m : (ℓ : Loc nD τ sig) → Buf (Elt Ideal) ℓ)

/-- The reference's result as a function of its arguments. -/
abbrev goal (x : FVec Ideal S4096x2048 .f32) (y : FVec Ideal S4096x2048 .f32) (z : FVec Ideal S2048x2048 .f32) : FVec Ideal S4096x2048 .f32 :=
  addf x (Host.dotGeneral Cert.Reference11Ideal.dot_S4096x2048_S2048x2048_S4096x2048_1_0_0_1_n_n none y z)

/-- The block each window holds at each grid point. -/
theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- The result's blocks cover the result. -/
theorem covers : (cfg0.win 3).Covers := by decide +kernel

/-- A tile of the result is that tile of the whole product. -/
theorem point (c : Dev nD) (t : Fin cfg0.N) (j) : k0_pay1 (iblk m c 0 t) (iblk m c 1 t) (iblk m c 2 t) j
    = goal (m ((c : Thread nD τ).loc main_arg0)) (m ((c : Thread nD τ).loc main_arg1)) (m ((c : Thread nD τ).loc main_arg2)) (((cfg0.win 3).blk t).view.emb j) := by
  pointwise [k0_pay1, goal]
  blk_point [iblk, V, idx t]

/-- The result's array after the run is the whole product. -/
theorem final (c : Dev nD) : (dats m 0 c).arrAt 3 (cfgs 0).N
    = goal (m ((c : Thread nD τ).loc main_arg0)) (m ((c : Thread nD τ).loc main_arg1)) (m ((c : Thread nD τ).loc main_arg2)) := by
  generalize hG : goal (m ((c : Thread nD τ).loc main_arg0)) (m ((c : Thread nD τ).loc main_arg1)) (m ((c : Thread nD τ).loc main_arg2)) = G
  refine (dats m 0 c).arrAt_eq_of_covers 3 _ covers fun t _ j => ?_
  blk_simp
  rw [after0_3]; unfold outsAt0; frame_out
  rw [← hG]
  exact point m c t j

theorem reference_frame : Cert.quiescent_Reference11Ideal := fun m ρ _ =>
  θ_run_mono (Cert.Reference11Ideal.Value.run m ρ) fun _ h => ⟨fun c => (h c).2, funext fun g => match g with | (_, .reg s) => s.elim0 | (_, .dma s) => s.elim0⟩

theorem algebraic : Cert.algebraic_Kernel11Ideal_Reference11Ideal := by
  pair_intro
  · run_from Cert.Kernel11Ideal.Value.run_blocks m g
  · run_from Cert.Reference11Ideal.Value.run m' g'
    exact (final m c).symm

end Cert.Proof.Product11

end
-- ==== Proof.Product12.lean ====
/- The feed-forward network's first product: the product computed tile by tile is the whole product. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product12

open Cert.Kernel12Ideal Cert.Kernel12Ideal.Gen

variable (m : (ℓ : Loc nD τ sig) → Buf (Elt Ideal) ℓ)

/-- The reference's result as a function of its arguments. -/
abbrev goal (x : FVec Ideal S4096x2048 .f32) (y : FVec Ideal S2048x11008 .f32) : FVec Ideal S4096x11008 .bf16 :=
  truncf .bf16 (Host.dotGeneral Cert.Reference12Ideal.dot_S4096x2048_S2048x11008_S4096x11008_1_0_0_1_n_n none x y) Cert.Reference12Ideal.Gen.bitsLt_bf16_f32

/-- The block each window holds at each grid point. -/
theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- The result's blocks cover the result. -/
theorem covers : (cfg0.win 2).Covers := by decide +kernel

/-- A tile of the result is that tile of the whole product. -/
theorem point (c : Dev nD) (t : Fin cfg0.N) (j) : k0_pay1 (iblk m c 0 t) (iblk m c 1 t) j
    = goal (m ((c : Thread nD τ).loc main_arg0)) (m ((c : Thread nD τ).loc main_arg1)) (((cfg0.win 2).blk t).view.emb j) := by
  pointwise [k0_pay1, goal]
  blk_point [iblk, V, idx t]

/-- The result's array after the run is the whole product. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  exact point m c t j

theorem reference_frame : Cert.quiescent_Reference12Ideal := fun m ρ _ =>
  θ_run_mono (Cert.Reference12Ideal.Value.run m ρ) fun _ h => ⟨fun c => (h c).2, funext fun g => match g with | (_, .reg s) => s.elim0 | (_, .dma s) => s.elim0⟩

theorem algebraic : Cert.algebraic_Kernel12Ideal_Reference12Ideal := by
  pair_intro
  · run_from Cert.Kernel12Ideal.Value.run_blocks m g
  · run_from Cert.Reference12Ideal.Value.run m' g'
    exact (final m c).symm

end Cert.Proof.Product12

end
-- ==== Proof.Product13.lean ====
/- The feed-forward network's second product with the residual: the product computed tile by tile is the whole product. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Product13

open Cert.Kernel13Ideal Cert.Kernel13Ideal.Gen

variable (m : (ℓ : Loc nD τ sig) → Buf (Elt Ideal) ℓ)

/-- The reference's result as a function of its arguments. -/
abbrev goal (x : FVec Ideal S4096x2048 .f32) (y : FVec Ideal S4096x5504 .f32) (z : FVec Ideal S5504x2048 .f32) : FVec Ideal S4096x2048 .f32 :=
  addf x (Host.dotGeneral Cert.Reference13Ideal.dot_S4096x5504_S5504x2048_S4096x2048_1_0_0_1_n_n none y z)

/-- The block each window holds at each grid point. -/
theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- The result's blocks cover the result. -/
theorem covers : (cfg0.win 3).Covers := by decide +kernel

/-- A tile of the result is that tile of the whole product. -/
theorem point (c : Dev nD) (t : Fin cfg0.N) (j) : k0_pay1 (iblk m c 0 t) (iblk m c 1 t) (iblk m c 2 t) j
    = goal (m ((c : Thread nD τ).loc main_arg0)) (m ((c : Thread nD τ).loc main_arg1)) (m ((c : Thread nD τ).loc main_arg2)) (((cfg0.win 3).blk t).view.emb j) := by
  pointwise [k0_pay1, goal]
  blk_point [iblk, V, idx t]

/-- The result's array after the run is the whole product. -/
theorem final (c : Dev nD) : (dats m 0 c).arrAt 3 (cfgs 0).N
    = goal (m ((c : Thread nD τ).loc main_arg0)) (m ((c : Thread nD τ).loc main_arg1)) (m ((c : Thread nD τ).loc main_arg2)) := by
  generalize hG : goal (m ((c : Thread nD τ).loc main_arg0)) (m ((c : Thread nD τ).loc main_arg1)) (m ((c : Thread nD τ).loc main_arg2)) = G
  refine (dats m 0 c).arrAt_eq_of_covers 3 _ covers fun t _ j => ?_
  blk_simp
  rw [after0_3]; unfold outsAt0; frame_out
  rw [← hG]
  exact point m c t j

theorem reference_frame : Cert.quiescent_Reference13Ideal := fun m ρ _ =>
  θ_run_mono (Cert.Reference13Ideal.Value.run m ρ) fun _ h => ⟨fun c => (h c).2, funext fun g => match g with | (_, .reg s) => s.elim0 | (_, .dma s) => s.elim0⟩

theorem algebraic : Cert.algebraic_Kernel13Ideal_Reference13Ideal := by
  pair_intro
  · run_from Cert.Kernel13Ideal.Value.run_blocks m g
  · run_from Cert.Reference13Ideal.Value.run m' g'
    exact (final m c).symm

end Cert.Proof.Product13

end
-- ==== Proof.Norm14Loop.lean ====
/- The norm's gradient, the loop over a block's rows: what its stores leave does not depend on what the result's buffers held before. -/
module

public import proofs.«01_k».proof.Proof.Gen.Kernel14Ideal.Frame.Runs
public import Idealize.ShloMosaic.Lib.Pipeline.ReadBack
public import Idealize.ShloMosaic.Lib.VecWindow
public import Idealize.ShloMosaic.Lib.WholeRead
public import Idealize.ShloMosaic.Lib.Claim

@[expose] public section

set_option maxRecDepth 16384

noncomputable section

namespace Cert.Kernel14Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

/-! ## What the loop computes -/

theorem trip_lt (k : Fin k0_t1_loop.trips) : k.val < 32 := Nat.lt_of_lt_of_le k.isLt k0_t1_abs.2.1

theorem trips_eq : k0_t1_loop.trips = 32 := by decide

/-- Index `(a, b)` of the sixteen rows that a trip takes. -/
def in16 (a b : ℕ) (ha : a < 16) (hb : b < 2048) : S16x2048.Idx := fun d => match d with
  | ⟨0, _⟩ => ⟨a, ha⟩
  | ⟨1, _⟩ => ⟨b, hb⟩

/-- The sixteen rows of a block that trip `k` takes. -/
def rows {e : EltTy} (X : Vec F S512x2048 e) (k : Fin k0_t1_loop.trips) : Vec F S16x2048 e := fun j =>
  X ((Rect.unit (s := S512x2048) (k0_off1 k) S16x2048.size (k0_off1_inb k)).toLoadRect.idx j)

/-- The block that the trips' rows make up. -/
def join {e : EltTy} (p : Fin k0_t1_loop.trips → Vec F S16x2048 e) : Vec F S512x2048 e := fun y =>
  p ⟨(y 0).val / 16, by rw [trips_eq]; have h : (y 0).val < 512 := (y 0).isLt; omega⟩
    (in16 ((y 0).val % 16) (y 1).val (Nat.mod_lt _ (by decide)) (y 1).isLt)

theorem emb_val (k : Fin k0_t1_loop.trips) (j : S16x2048.Idx) :
    (((Rect.unit (s := S512x2048) (k0_off1 k) S16x2048.size (k0_off1_inb k)).emb j) 0).val = 16 * k.val + (j 0).val
    ∧ (((Rect.unit (s := S512x2048) (k0_off1 k) S16x2048.size (k0_off1_inb k)).emb j) 1).val = (j 1).val := by
  have e := k0_off1_eq k
  constructor
  · show k0_off1 k 0 + 1 * (j 0).val = 16 * k.val + (j 0).val; rw [e, Nat.one_mul]; rfl
  · show k0_off1 k 1 + 1 * (j 1).val = (j 1).val; rw [e, Nat.one_mul]; exact Nat.zero_add _

/-- Where trip `k` stores its rows, the block that the rows make up has them. -/
theorem join_emb {e : EltTy} (p : Fin k0_t1_loop.trips → Vec F S16x2048 e) (k : Fin k0_t1_loop.trips) (j : S16x2048.Idx) :
    p k j = join p ((Rect.unit (s := S512x2048) (k0_off1 k) S16x2048.size (k0_off1_inb k)).emb j) := by
  obtain ⟨h0, h1⟩ := emb_val k j
  have hj : (j 0).val < 16 := (j 0).isLt
  unfold join
  generalize (Rect.unit (s := S512x2048) (k0_off1 k) S16x2048.size (k0_off1_inb k)).emb j = y at h0 h1
  have ek : (⟨(y 0).val / 16, by rw [trips_eq]; have h : (y 0).val < 512 := (y 0).isLt; omega⟩ : Fin k0_t1_loop.trips) = k := Fin.ext (by show (y 0).val / 16 = k.val; omega)
  have ej : in16 ((y 0).val % 16) (y 1).val (Nat.mod_lt _ (by decide)) (y 1).isLt = j := funext fun d => Fin.ext (match d with
    | ⟨0, _⟩ => by show (y 0).val % 16 = (j 0).val; omega
    | ⟨1, _⟩ => h1)
  rw [ek, ej]

/-- Trip `k`'s rows of the gradient. -/
def dxRows (x0 : Vec F S512x2048 .f32) (x1 : Vec F S512x2048 .f32) (x2 : Vec F S512x2048 .f32) (x3 : Vec F S1x2048 .f32) (k : Fin k0_t1_loop.trips) : Vec F S16x2048 .f32 :=
  k0_pay2 (k0_pay7 (rows x2 k) (rows x1 k) x3 (rows x0 k)) (k0_pay8 (rows x2 k)) (k0_pay9 (rows x2 k) (rows x1 k) x3)

/-- The same rows, rounded. -/
def dxbRows (x0 : Vec F S512x2048 .f32) (x1 : Vec F S512x2048 .f32) (x2 : Vec F S512x2048 .f32) (x3 : Vec F S1x2048 .f32) (k : Fin k0_t1_loop.trips) : Vec F S16x2048 .bf16 :=
  k0_pay3 (k0_pay7 (rows x2 k) (rows x1 k) x3 (rows x0 k)) (k0_pay8 (rows x2 k)) (k0_pay9 (rows x2 k) (rows x1 k) x3)

/-- The gain's gradient after the first `n` trips, from `z`. -/
def dgAfter (x1 x2 : Vec F S512x2048 .f32) (z : Vec F S8x2048 .f32) : ℕ → Vec F S8x2048 .f32
  | 0 => z
  | n + 1 => if h : n < k0_t1_loop.trips then k0_pay5 (rows x2 ⟨n, h⟩) (rows x1 ⟨n, h⟩) (dgAfter x1 x2 z n) else dgAfter x1 x2 z n

/-! ## What the loop's stores leave -/

section
variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole)
  (x0 : Vec F S512x2048 .f32) (x1 : Vec F S512x2048 .f32) (x2 : Vec F S512x2048 .f32) (x3 : Vec F S1x2048 .f32)

/-- What one trip stores, from what it finds in the gain's gradient. -/
theorem trip_eq (k : Fin k0_t1_loop.trips) (f5 : BufTy.Contents (Elt F) arg5.view.ty) (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 (harg1.unread x0) (harg2.unread x1) (harg3.unread x2) (harg4.unread x3) k f5 f6 f7
      = ([⟨Rect.unit (s := S512x2048) (k0_off1 k) S16x2048.size (k0_off1_inb k), dxRows x0 x1 x2 x3 k⟩],
        [⟨Rect.unit (s := S512x2048) (k0_off1 k) S16x2048.size (k0_off1_inb k), dxbRows x0 x1 x2 x3 k⟩],
        [⟨Rect.unit (s := S8x2048) ![0, 0] S8x2048.size inb_S8x2048_S8x2048_0_0, k0_pay5 (rows x2 k) (rows x1 k) (arg7.view.read (Elt F) f7)⟩]) := by
  have e0 : View.readAt (Elt F) arg1.view (Rect.unit (s := S512x2048) (k0_off1 k) S16x2048.size (k0_off1_inb k)).toLoadRect (harg1.unread x0) = rows x0 k := funext fun j => harg1.readAt_unread x0 _ j
  have e1 : View.readAt (Elt F) arg2.view (Rect.unit (s := S512x2048) (k0_off1 k) S16x2048.size (k0_off1_inb k)).toLoadRect (harg2.unread x1) = rows x1 k := funext fun j => harg2.readAt_unread x1 _ j
  have e2 : View.readAt (Elt F) arg3.view (Rect.unit (s := S512x2048) (k0_off1 k) S16x2048.size (k0_off1_inb k)).toLoadRect (harg3.unread x2) = rows x2 k := funext fun j => harg3.readAt_unread x2 _ j
  have e3 : View.readAt (Elt F) arg4.view (Rect.unit (s := S1x2048) ![0, 0] S1x2048.size inb_S1x2048_S1x2048_0_0).toLoadRect (harg4.unread x3) = x3 := (View.readAt_full arg4.view _ _).trans (harg4.read_unread x3)
  have e7 : View.readAt (Elt F) arg7.view (Rect.unit (s := S8x2048) ![0, 0] S8x2048.size inb_S8x2048_S8x2048_0_0).toLoadRect f7 = arg7.view.read (Elt F) f7 := View.readAt_full arg7.view _ _
  rw [← e7]
  unfold dxRows dxbRows
  rw [← e0, ← e1, ← e2]
  conv_rhs => rw [← e3]
  unfold tripL_k0_t1 trip_k0_t1
  rfl

/-- The first `n` trips leave their rows of the two results, and the gain's gradient so far. -/
theorem loop_eq (z : Vec F S8x2048 .f32) (f5 : BufTy.Contents (Elt F) arg5.view.ty) (f6 : BufTy.Contents (Elt F) arg6.view.ty) (f7 : BufTy.Contents (Elt F) arg7.view.ty)
    (hz : arg7.view.read (Elt F) f7 = z) (n : ℕ) (hn : n ≤ k0_t1_loop.trips) :
    View.PiecesOf (join (dxRows x0 x1 x2 x3)) (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n).1
    ∧ View.PiecesOf (join (dxbRows x0 x1 x2 x3)) (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n).2.1
    ∧ (∀ y : S512x2048.Idx, (y 0).val < 16 * n → ∃ p ∈ (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n).1, y ∈ p.1.set)
    ∧ (∀ y : S512x2048.Idx, (y 0).val < 16 * n → ∃ p ∈ (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n).2.1, y ∈ p.1.set)
    ∧ arg7.view.read (Elt F) (arg7.view.writes (Elt F) f7 (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n).2.2) = dgAfter x1 x2 z n := by
  induction n with
  | zero => exact ⟨trivial, trivial, fun _ h => absurd h (Nat.not_lt_zero _), fun _ h => absurd h (Nat.not_lt_zero _), hz⟩
  | succ n ih =>
    obtain ⟨h1, h2, h3, h4, h5⟩ := ih (Nat.le_of_succ_le hn)
    have e := pb_k0_t1_succ (F := F) Variants.none c none i arg1 harg1 arg2 harg2 arg3 harg3 arg4 harg4 arg5 harg5 arg6 harg6 arg7 harg7 (harg1.unread x0) (harg2.unread x1) (harg3.unread x2) (harg4.unread x3) f5 f6 f7 ⟨n, hn⟩
    rw [trip_eq] at e
    dsimp only at e
    rw [e]
    generalize pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 n = L at h1 h2 h3 h4 h5
    have hm : ∀ y : S512x2048.Idx, (y 0).val < 16 * (n + 1) → ¬ (y 0).val < 16 * n →
        y ∈ (Rect.unit (s := S512x2048) (k0_off1 ⟨n, hn⟩) S16x2048.size (k0_off1_inb ⟨n, hn⟩)).set := fun y hy hy' => by
      rw [Rect.mem_set_unit]
      have e := k0_off1_eq ⟨n, hn⟩
      have hb : (y 1).val < 2048 := (y 1).isLt
      intro a
      match a with
      | ⟨0, _⟩ => rw [e]; show 16 * n ≤ (y 0).val ∧ (y 0).val < 16 * n + 16; omega
      | ⟨1, _⟩ => rw [e]; show 0 ≤ (y 1).val ∧ (y 1).val < 0 + 2048; omega
    refine ⟨⟨fun j => join_emb (dxRows x0 x1 x2 x3) ⟨n, hn⟩ j, h1⟩, ⟨fun j => join_emb (dxbRows x0 x1 x2 x3) ⟨n, hn⟩ j, h2⟩, fun y hy => ?_, fun y hy => ?_, ?_⟩
    · by_cases hy' : (y 0).val < 16 * n
      · obtain ⟨p, hp, hm⟩ := h3 y hy'
        exact ⟨p, List.mem_append_right _ hp, hm⟩
      · exact ⟨_, List.mem_append_left _ (List.mem_singleton.mpr rfl), hm y hy hy'⟩
    · by_cases hy' : (y 0).val < 16 * n
      · obtain ⟨p, hp, hm⟩ := h4 y hy'
        exact ⟨p, List.mem_append_right _ hp, hm⟩
      · exact ⟨_, List.mem_append_left _ (List.mem_singleton.mpr rfl), hm y hy hy'⟩
    · dsimp only [List.cons_append, List.nil_append]
      rw [View.read_writes_full, h5]
      rw [dgAfter.eq_2, dif_pos (Nat.lt_of_succ_le hn)]

/-- The whole loop's rows read back as the block. -/
theorem loop_dx (f5 : BufTy.Contents (Elt F) arg5.view.ty) (f6 : BufTy.Contents (Elt F) arg6.view.ty) (f7 : BufTy.Contents (Elt F) arg7.view.ty) :
    arg5.view.read (Elt F) (arg5.view.writes (Elt F) f5 (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 k0_t1_loop.trips).1) = join (dxRows x0 x1 x2 x3) := by
  obtain ⟨h1, _, h3, _⟩ := loop_eq c i arg1 harg1 arg2 harg2 arg3 harg3 arg4 harg4 arg5 harg5 arg6 harg6 arg7 harg7 x0 x1 x2 x3 _ f5 f6 f7 rfl k0_t1_loop.trips le_rfl
  exact funext fun y => View.read_writes_apply_of_pieces _ _ _ _ h1.mem y (h3 y (by rw [trips_eq]; exact (y 0).isLt))

theorem loop_dxb (f5 : BufTy.Contents (Elt F) arg5.view.ty) (f6 : BufTy.Contents (Elt F) arg6.view.ty) (f7 : BufTy.Contents (Elt F) arg7.view.ty) :
    arg6.view.read (Elt F) (arg6.view.writes (Elt F) f6 (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 k0_t1_loop.trips).2.1) = join (dxbRows x0 x1 x2 x3) := by
  obtain ⟨_, h2, _, h4, _⟩ := loop_eq c i arg1 harg1 arg2 harg2 arg3 harg3 arg4 harg4 arg5 harg5 arg6 harg6 arg7 harg7 x0 x1 x2 x3 _ f5 f6 f7 rfl k0_t1_loop.trips le_rfl
  exact funext fun y => View.read_writes_apply_of_pieces _ _ _ _ h2.mem y (h4 y (by rw [trips_eq]; exact (y 0).isLt))

theorem loop_dg (f5 : BufTy.Contents (Elt F) arg5.view.ty) (f6 : BufTy.Contents (Elt F) arg6.view.ty) (f7 : BufTy.Contents (Elt F) arg7.view.ty) :
    arg7.view.read (Elt F) (arg7.view.writes (Elt F) f7 (pb_k0_t1 (F := F) Variants.none c none i arg1 harg1 arg2 harg2 arg3 harg3 arg4 harg4 arg5 harg5 arg6 harg6 arg7 harg7 (harg1.unread x0) (harg2.unread x1) (harg3.unread x2) (harg4.unread x3) f5 f6 f7 k0_t1_loop.trips).2.2) = dgAfter x1 x2 (arg7.view.read (Elt F) f7) k0_t1_loop.trips :=
  (loop_eq c i arg1 harg1 arg2 harg2 arg3 harg3 arg4 harg4 arg5 harg5 arg6 harg6 arg7 harg7 x0 x1 x2 x3 _ f5 f6 f7 rfl k0_t1_loop.trips le_rfl).2.2.2.2

end

end Cert.Kernel14Ideal.Norm

end
-- ==== Proof.Norm14Frame.lean ====
/- The norm's gradient, the call as a whole: its body at each grid point, what the results hold after it, and that every run ends with its arguments unchanged. -/
module

public import proofs.«01_k».proof.Proof.Norm14Loop

@[expose] public section

set_option maxRecDepth 16384

noncomputable section

namespace Cert.Kernel14Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

/-! ## The body's two cases -/

set_option maxHeartbeats 1000000 in
/-- The body at the first point, which clears the gain's gradient first. -/
theorem run_A (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : cond0_0 i)
    (x0 : Vec F S512x2048 .f32) (x1 : Vec F S512x2048 .f32) (x2 : Vec F S512x2048 .f32) (x3 : Vec F S1x2048 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (join (dxRows x0 x1 x2 x3)) ∗ owns (c : Thread nD τ) arg6 fullShare (join (dxbRows x0 x1 x2 x3)) ∗ owns (c : Thread nD τ) arg7 fullShare (dgAfter x1 x2 k0_pay1 k0_t1_loop.trips)) -∗ K ⟨⟩))
      ⊢ wp frame (wpE (defs₀ (F := F)) Variants.none c none) E (cc0_norm_bwd i arg1 harg1 arg2 harg2 arg3 harg3 arg4 harg4 arg5 harg5 arg6 harg6 arg7 harg7) K := by
  simp only [cc0_norm_bwd_eq_skeleton]; unfold cc0_norm_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact loop_dx ..
  isplitl [H5]
  · iexists _; isplitr
    swap; · iexact H5
    ipureintro; exact loop_dxb ..
  iexists _; isplitr
  swap; · iexact H6
  ipureintro; exact (congrArg (arg7.view.read (Elt F)) (View.writes_append ..)).trans ((loop_dg ..).trans (congrArg (fun z => dgAfter x1 x2 z k0_t1_loop.trips) (View.read_writes_full ..)))

set_option maxHeartbeats 1000000 in
/-- The body at a later point, which adds to the gain's gradient `z` it finds. -/
theorem run_B (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S8x2048 .f32) (harg7 : arg7.IsWhole) (hc0 : ¬cond0_0 i)
    (x0 : Vec F S512x2048 .f32) (x1 : Vec F S512x2048 .f32) (x2 : Vec F S512x2048 .f32) (x3 : Vec F S1x2048 .f32) (z : Vec F S8x2048 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (join (dxRows x0 x1 x2 x3)) ∗ owns (c : Thread nD τ) arg6 fullShare (join (dxbRows x0 x1 x2 x3)) ∗ owns (c : Thread nD τ) arg7 fullShare (dgAfter x1 x2 z k0_t1_loop.trips)) -∗ K ⟨⟩))
      ⊢ wp frame (wpE (defs₀ (F := F)) Variants.none c none) E (cc0_norm_bwd i arg1 harg1 arg2 harg2 arg3 harg3 arg4 harg4 arg5 harg5 arg6 harg6 arg7 harg7) K := by
  simp only [cc0_norm_bwd_eq_skeleton]; unfold cc0_norm_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact loop_dx ..
  isplitl [H5]
  · iexists _; isplitr
    swap; · iexact H5
    ipureintro; exact loop_dxb ..
  iexists _; isplitr
  swap; · iexact H6
  ipureintro; exact (loop_dg ..).trans (congrArg (fun z => dgAfter x1 x2 z k0_t1_loop.trips) hf6)

variable (m : (ℓ : Loc nD τ sig) → Buf (Elt F) ℓ) (ρ : Dev nD → PrngReg)

/-! ## What the results hold after each point -/

/-- The gain's gradient after point `n`. -/
def dgAt (c : Dev nD) : (n : ℕ) → n < cfg0.N → Vec F S8x2048 .f32
  | 0, hn => dgAfter (iblk m c 1 ⟨0, hn⟩) (iblk m c 2 ⟨0, hn⟩) k0_pay1 k0_t1_loop.trips
  | n + 1, hn => dgAfter (iblk m c 1 ⟨n + 1, hn⟩) (iblk m c 2 ⟨n + 1, hn⟩) (dgAt c n (Nat.lt_of_succ_lt hn)) k0_t1_loop.trips

theorem dgAt_A (c : Dev nD) (t : Fin cfg0.N) (h0 : t.val % 8 = 0) :
    dgAt m c t.val t.isLt = dgAfter (iblk m c 1 t) (iblk m c 2 t) k0_pay1 k0_t1_loop.trips := by
  have hN : t.val < 8 := lt_of_lt_of_eq t.isLt (show cfg0.N = 8 from N_0)
  obtain ⟨n, hn⟩ := t
  cases n with
  | zero => exact rfl
  | succ n => exact absurd h0 (by dsimp only at hN ⊢; omega)

theorem dgAt_B (c : Dev nD) (t : Fin cfg0.N) (h0 : ¬t.val % 8 = 0) :
    dgAt m c t.val t.isLt = dgAfter (iblk m c 1 t) (iblk m c 2 t) (dgAt m c (t.val - 1) (Nat.lt_of_le_of_lt (Nat.sub_le _ _) t.isLt)) k0_t1_loop.trips := by
  obtain ⟨n, hn⟩ := t
  cases n with
  | zero => exact absurd (Nat.zero_mod _) h0
  | succ n => exact rfl

/-! ## The pipeline's proof data -/

/-- The pipeline's proof data on core `c`: the arrays as the region finds them; after the body at point `t` each input's
    buffer at its block and the results' at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => join (dxRows (iblk m c 0 t) (iblk m c 1 t) (iblk m c 2 t) (iblk m c 3 t))
    | ⟨5, _⟩ => join (dxbRows (iblk m c 0 t) (iblk m c 1 t) (iblk m c 2 t) (iblk m c 3 t))
    | ⟨6, _⟩ => dgAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = join (dxRows (iblk m c 0 t) (iblk m c 1 t) (iblk m c 2 t) (iblk m c 3 t)) := by dsimp only [dats]
theorem after0_5 (c : Dev nD) (t : Fin cfg0.N) : (dats m 0 c).after 5 t = join (dxbRows (iblk m c 0 t) (iblk m c 1 t) (iblk m c 2 t) (iblk m c 3 t)) := by dsimp only [dats]
theorem after0_6 (c : Dev nD) (t : Fin cfg0.N) : (dats m 0 c).after 6 t = dgAt m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the gain's gradient is what the point before left. -/
theorem before0_6 (c : Dev nD) (t : Fin cfg0.N) (h0 : ¬t.val % 8 = 0) (d) :
    (dats m 0 c).before 6 t d = dgAt m c (t.val - 1) (Nat.lt_of_le_of_lt (Nat.sub_le _ _) t.isLt) := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' buffers hold their blocks, and the point is the first or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [dgAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [dgAt_B m c t h0]
    simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ (fun h => h0 ((hcond0_0 t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel14Ideal.Norm

end
-- ==== Proof.Norm14Bits.lean ====
/- The norm's gradient, the frame on machine numbers. The two programs have one text, and `Norm14Frame`'s run holds over any numbers. -/
module

public import proofs.«01_k».proof.Defs
public import proofs.«01_k».proof.Proof.Norm14Frame
public import proofs.«01_k».proof.Proof.Gen.Kernel14

@[expose] public section

noncomputable section

open Idealize.ShloMosaic Idealize.ShloMosaic.TcCoe Idealize.SL.Sem

namespace Cert.Proof.Norm14

/-- The two programs' kernels run the same body. -/
theorem bodies_eq : Cert.Kernel14.defs₀ (F := Bits) = Cert.Kernel14Ideal.defs₀ (F := Bits) := by
  unfold Cert.Kernel14.defs₀ Cert.Kernel14Ideal.defs₀
  refine congrArg Defs.onTc (funext fun l => funext fun a => ?_)
  match l, a with
  | 0, (_, _) => rfl

/-- Every run of the kernel ends with its arguments unchanged and every counter at zero. -/
theorem frame_bits : Cert.quiescent_Kernel14 := fun m ρ _ => by
  have e : Cert.Kernel14.defs (F := Bits) = Cert.Kernel14Ideal.defs (F := Bits) :=
    congrArg (Pipeline.defs Cert.Kernel14Ideal.pcfgs) bodies_eq
  rw [e]
  exact Cert.Kernel14Ideal.Norm.frame (F := Bits) m ρ

end Cert.Proof.Norm14

end
-- ==== Proof.Norm15.lean ====
/- The norm: the rows normalised sixteen at a time are the whole array normalised. -/
module

public import proofs.«01_k».proof.Defs
public import proofs.«01_k».proof.Proof.Buf
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Proof.Norm15

open Cert.Kernel15Ideal Cert.Kernel15Ideal.Gen Cert.Proof.Pool

/-- One over the root mean square of a row. -/
def rms (f : Fin 2048 → EReal) : EReal :=
  Ideal.rsqrt (Ideal.div (∑ k : Fin 2048, f k * f k) (Ideal.ofBits .f32 0x45000000#32) + Ideal.ofBits .f32 0x358637BD#32)

/-- A block of rows, normalised and multiplied by the gain. -/
def block (x0 : Vec Ideal S512x2048 .f32) (x1 : Vec Ideal S1x2048 .f32) : Vec Ideal S512x2048 .bf16 := fun y =>
  x0 y * rms (fun k => x0 (ix2 ⟨(y 0).val, (y 0).isLt⟩ k)) * x1 (ix2 0 ⟨(y 1).val, (y 1).isLt⟩)

section
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
  (x0 : Vec Ideal S512x2048 .f32) (x1 : Vec Ideal S1x2048 .f32)

/-- Sixteen rows of a block, as one trip of the loop computes them. -/
theorem rows (v4 : Vec Ideal S16x2048 .f32) (r : Fin 16 → Fin 512) (h4 : ∀ a b, v4 (ix2 a b) = x0 (ix2 (r a) b)) (a : Fin 16) (b : Fin 2048) :
    k0_pay1 v4 x1 (ix2 a b) = block x0 x1 (ix2 (r a) b) := by
  pointwise [k0_pay1, h4]
  rfl

theorem off_lt (k : Fin k0_t1_loop.trips) : k.val < 32 := Nat.lt_of_lt_of_le k.isLt k0_t1_abs.2.1

/-- The row of the block that the `k`-th trip's row `a` is. -/
def row (k : Fin k0_t1_loop.trips) (a : Fin 16) : Fin 512 := ⟨16 * k.val + a.val, by have := off_lt k; omega⟩

theorem emb_eq (k : Fin k0_t1_loop.trips) (inb) (a : Fin 16) (b : Fin 2048) :
    (Rect.unit (s := S512x2048) (k0_off1 k) S16x2048.size inb).emb (ix2 a b) = ix2 (row k a) b := by
  refine funext fun d => Fin.ext ?_
  have e := k0_off1_eq k
  match d with
  | ⟨0, _⟩ => show k0_off1 k 0 + 1 * a.val = 16 * k.val + a.val; rw [e, Nat.one_mul]; rfl
  | ⟨1, _⟩ => show k0_off1 k 1 + 1 * b.val = b.val; rw [e, Nat.one_mul]; exact Nat.zero_add _

/-- Sixteen rows that are rows of an array are that array's where the trip stores them. -/
theorem piece {e : EltTy} (k : Fin k0_t1_loop.trips) (inb) (p : S16x2048.Idx → Elt Ideal e) (G : S512x2048.Idx → Elt Ideal e)
    (h : ∀ a b, p (ix2 a b) = G (ix2 (row k a) b)) (j : S16x2048.Idx) :
    p j = G ((Rect.unit (s := S512x2048) (k0_off1 k) S16x2048.size inb).emb j) := by
  obtain ⟨a, b, rfl⟩ : ∃ a b, j = ix2 a b := ⟨j 0, j 1, eq_ix2 j⟩
  exact (h a b).trans (congrArg G (emb_eq k inb a b).symm)

/-- The pieces the first `n` trips write are rows of the block. -/
theorem pieces (n : ℕ) (hn : n ≤ k0_t1_loop.trips) : View.PiecesOf (block x0 x1) (pb_k0_t1 Variants.none c none i arg1 harg1 arg2 harg2 arg3 harg3 (harg1.unread x0) (harg2.unread x1) n) := by
  induction n with
  | zero => trivial
  | succ n ih =>
    have e := pb_k0_t1_succ (F := Ideal) Variants.none c none i arg1 harg1 arg2 harg2 arg3 harg3 (harg1.unread x0) (harg2.unread x1) ⟨n, hn⟩
    dsimp only at e
    rw [e]
    unfold tripL_k0_t1 trip_k0_t1
    dsimp only [List.cons_append, List.nil_append]
    refine ⟨piece ⟨n, hn⟩ (k0_off1_inb ⟨n, hn⟩) _ _ fun a b => ?_, ih (Nat.le_of_succ_le hn)⟩
    have h1 : View.readAt (Elt Ideal) arg2.view (Rect.unit ![0, 0] ![1, 2048] inb_S1x2048_S1x2048_0_0).toLoadRect (harg2.unread x1) = x1 := by
      refine ext2 fun a b => ?_
      rw [harg2.readAt_unread]
      pointwise
      rw [Subsingleton.elim a 0]
    rw [h1]
    refine rows x0 x1 _ (row ⟨n, hn⟩) (fun a b => ?_) a b
    rw [harg1.readAt_unread]
    exact congrArg x0 (emb_eq ⟨n, hn⟩ (k0_off1_inb ⟨n, hn⟩) a b)

end

variable (m : (ℓ : Loc nD τ sig) → Buf (Elt Ideal) ℓ)

/-- The reference's result as a function of its arguments. -/
abbrev goal (x : FVec Ideal S4096x2048 .f32) (g : FVec Ideal S2048 .f32) : FVec Ideal S4096x2048 .bf16 :=
  Cert.Reference15Ideal.Read.val_main_v13 (F := Ideal) x g

/-- The block each window holds at each grid point. -/
theorem idx : ∀ t : Fin cfg0.N, win0_0.index t = ![t.val, 0] ∧ win0_1.index t = ![0, 0] ∧ win0_2.index t = ![t.val, 0] :=
  (by decide +kernel : ∀ t : Fin grid0.N, _)

/-- The result's blocks cover the result. -/
theorem covers : (cfg0.win 2).Covers := by decide +kernel

theorem pt_lt (t : Fin cfg0.N) : t.val < 8 := lt_of_lt_of_eq t.isLt (show cfg0.N = 8 from N_0)

theorem blk0 (c : Dev nD) (t : Fin cfg0.N) (a : Fin 512) (b : Fin 2048) :
    iblk m c 0 t (ix2 a b) = m ((c : Thread nD τ).loc main_arg0) (ix2 ⟨512 * t.val + a.val, by have := pt_lt t; omega⟩ b) := by
  blk_ext [iblk, V, idx t]

theorem blk1 (c : Dev nD) (t : Fin cfg0.N) (a : Fin 1) (b : Fin 2048) :
    iblk m c 1 t (ix2 a b) = m ((c : Thread nD τ).loc main_arg1) (ix1 b) := by
  have e : iblk m c 1 t (ix2 a b) = V m c main_v0 (ix2 a b) := by
    blk_ext [iblk, V, idx t]
  rw [e]
  simp only [V, List.flatten_cons, List.flatten_nil, List.append_nil]
  after_results
  pointwise

/-- A row of the reference's result. -/
theorem goal_apply (x : FVec Ideal S4096x2048 .f32) (g : FVec Ideal S2048 .f32) (a : Fin 4096) (b : Fin 2048) :
    goal x g (ix2 a b) = x (ix2 a b) * rms (fun k => x (ix2 a k)) * g (ix1 b) := by
  pointwise [goal, Cert.Reference15Ideal.Read.val_main_v13, Cert.Reference15Ideal.Read.val_main_v12, Cert.Reference15Ideal.Read.val_main_v11, Cert.Reference15Ideal.Read.val_main_v10, Cert.Reference15Ideal.Read.val_main_v9, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_v2, Cert.Reference15Ideal.Read.val_main_v1, Cert.Reference15Ideal.Read.val_main_v0, Cert.Reference15Ideal.Read.val_main_cst, Cert.Reference15Ideal.Read.val_main_cst_0, Cert.Reference15Ideal.Read.val_main_cst_1]
  rfl

/-- Where the result's block lies. -/
theorem emb2 (t : Fin cfg0.N) (a : Fin 512) (b : Fin 2048) :
    ((cfg0.win 2).blk t).view.emb (ix2 a b) = ix2 ⟨512 * t.val + a.val, by have := pt_lt t; omega⟩ b := by
  refine funext fun d => Fin.ext ?_
  blk_simp
  rw [(idx t).2.2]
  match d with
  | ⟨0, _⟩ => exact congrArg (· + a.val) (Nat.mul_comm t.val 512)
  | ⟨1, _⟩ => exact (congrArg (· + b.val) (Nat.zero_mul 2048)).trans (Nat.zero_add _)

/-- A block of the result is that block of the whole normalised array. -/
theorem point (c : Dev nD) (t : Fin cfg0.N) (j : S512x2048.Idx) : block (iblk m c 0 t) (iblk m c 1 t) j
    = goal (m ((c : Thread nD τ).loc main_arg0)) (m ((c : Thread nD τ).loc main_arg1)) (((cfg0.win 2).blk t).view.emb j) := by
  obtain ⟨a, b, rfl⟩ : ∃ a b, j = ix2 a b := ⟨j 0, j 1, eq_ix2 j⟩
  rw [emb2, goal_apply, ← blk0 m c t a b, ← blk1 m c t 0 b]
  simp only [← blk0 m c t a]
  rfl

/-- The result's array after the run is the whole array normalised. -/
theorem final (c : Dev nD) : (dats m 0 c).arrAt 2 (cfgs 0).N
    = goal (m ((c : Thread nD τ).loc main_arg0)) (m ((c : Thread nD τ).loc main_arg1)) := by
  generalize hG : goal (m ((c : Thread nD τ).loc main_arg0)) (m ((c : Thread nD τ).loc main_arg1)) = G
  refine (dats m 0 c).arrAt_eq_of_covers 2 _ covers fun t _ j => ?_
  blk_simp
  rw [after0_2]; unfold outsAt0; frame_out
  rw [← hG]
  refine Eq.trans ?_ (point m c t j)
  have h := canon_of (block (iblk m c 0 t) (iblk m c 1 t)) _ [] (pieces c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (iblk m c 0 t) (iblk m c 1 t) k0_t1_loop.trips le_rfl) j (cover0_A_2 c _ _ _ _ _ _ _ _ _ j)
  rw [List.append_nil] at h
  exact h

theorem reference_frame : Cert.quiescent_Reference15Ideal := fun m ρ _ =>
  θ_run_mono (Cert.Reference15Ideal.Value.run m ρ) fun _ h => ⟨fun c => (h c).2, funext fun g => match g with | (_, .reg s) => s.elim0 | (_, .dma s) => s.elim0⟩

theorem algebraic : Cert.algebraic_Kernel15Ideal_Reference15Ideal := by
  pair_intro
  · run_from Cert.Kernel15Ideal.Value.run_blocks m g
  · run_from Cert.Reference15Ideal.Value.run m' g'
    exact (final m c).symm

end Cert.Proof.Norm15

end
-- ==== Proof.Norm14Row.lean ====
/- The norm's gradient, row by row: the kernel's formula and the reference's are one, over any numbers. -/
module

public import proofs.«01_k».proof.Proof.Norm15

@[expose] public section

noncomputable section

open Idealize.ShloMosaic
open Cert.Proof.Norm15 (rms)

namespace Cert.Proof.Norm14

theorem ofBits_n : Ideal.ofBits .f32 0x45000000#32 = ((2048 : ℝ) : EReal) := by
  simp [Ideal.ofBits, Ideal.ieee, -EReal.coe_mul]; norm_num

theorem ofBits_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A square is not negative, of an infinite number too. -/
theorem sq_nonneg' (x : EReal) : 0 ≤ x * x := by
  induction x with
  | bot => simp
  | top => simp
  | coe r => exact_mod_cast mul_self_nonneg r

/-- The mean of the squares, plus the small constant. -/
def ms (f : Fin 2048 → EReal) : EReal := Ideal.div (∑ k : Fin 2048, f k * f k) (Ideal.ofBits .f32 0x45000000#32) + Ideal.ofBits .f32 0x358637BD#32

theorem rms_eq (f : Fin 2048 → EReal) : rms f = Ideal.rsqrt (ms f) := rfl

theorem ms_cases (f : Fin 2048 → EReal) : ms f = ⊤ ∨ ∃ s : ℝ, 0 < s ∧ ms f = (s : EReal) := by
  obtain ⟨e, he, hb⟩ := ofBits_eps
  have h0 : (0 : EReal) ≤ ∑ k : Fin 2048, f k * f k := Finset.sum_nonneg fun k _ => sq_nonneg' (f k)
  unfold ms
  rw [ofBits_n, hb, Ideal.div_coe (by norm_num)]
  generalize ∑ k : Fin 2048, f k * f k = S at h0
  induction S with
  | bot => exact absurd h0 (by simp)
  | top =>
    left
    rw [EReal.top_mul_coe_of_pos (by norm_num)]
    exact EReal.top_add_coe e
  | coe r =>
    right
    have hr : 0 ≤ r := by exact_mod_cast h0
    exact ⟨r * (1 / 2048) + e, by positivity, by push_cast; rfl⟩

/-- One over the root mean square, divided by the mean square, is its cube, and a number. -/
theorem cube (f : Fin 2048 → EReal) : ∃ q : ℝ, Ideal.div (rms f) (ms f) = (q : EReal) ∧ rms f * rms f * rms f = (q : EReal) := by
  rw [rms_eq]
  rcases ms_cases f with h | ⟨s, hs, h⟩
  · rw [h]
    have hr : Ideal.rsqrt ⊤ = 0 := rfl
    rw [hr]
    refine ⟨0, ?_, ?_⟩ <;> simp [Ideal.div]
  · rw [h]
    have hr : Ideal.rsqrt (s : EReal) = (((Real.sqrt s)⁻¹ : ℝ) : EReal) := by
      show (if s < 0 then ⊥ else if s = 0 then ⊤ else (((Real.sqrt s)⁻¹ : ℝ) : EReal)) = _
      rw [if_neg (not_lt.mpr hs.le), if_neg hs.ne']
    rw [hr, Ideal.div_coe hs.ne']
    refine ⟨(Real.sqrt s)⁻¹ * (1 / s), by norm_cast, ?_⟩
    have h2 : (Real.sqrt s)⁻¹ * (Real.sqrt s)⁻¹ = 1 / s := by rw [← mul_inv, Real.mul_self_sqrt hs.le, one_div]
    rw [← h2]
    push_cast
    rw [mul_assoc]

theorem two_halves (T : EReal) (a : ℝ) : T * (a : EReal) + T * (a : EReal) = T * ((2 * a : ℝ) : EReal) := by
  have h : ∀ y : EReal, y + y = y * ((2 : ℝ) : EReal) := fun y => by
    induction y with
    | bot => rw [EReal.bot_mul_coe_of_pos (by norm_num)]; rfl
    | top => rw [EReal.top_mul_coe_of_pos (by norm_num)]; rfl
    | coe r => norm_cast; ring
  rw [h, mul_assoc, ← EReal.coe_mul, mul_comm a 2]

/-- The two formulas of a row's gradient, at one place. `p` is the row of the gradient that comes in times the gain, `f` the row
    that was normalised, `d` what the gradient is added to. -/
theorem row (f p : Fin 2048 → EReal) (d : EReal) (b : Fin 2048) :
    d + ((p b * rms f + f b * Ideal.div ((∑ k : Fin 2048, f k * p k) * (Ideal.ofBits .f32 0xBF000000#32 * Ideal.div (rms f) (ms f))) (Ideal.ofBits .f32 0x45000000#32))
        + Ideal.div ((∑ k : Fin 2048, f k * p k) * (Ideal.ofBits .f32 0xBF000000#32 * Ideal.div (rms f) (ms f))) (Ideal.ofBits .f32 0x45000000#32) * f b)
      = d + rms f * p b - f b * (rms f * rms f * rms f) * Ideal.div (∑ k : Fin 2048, p k * f k) (Ideal.ofBits .f32 0x45000000#32) := by
  obtain ⟨q, h1, h2⟩ := cube f
  have hs : ∑ k : Fin 2048, p k * f k = ∑ k : Fin 2048, f k * p k := Finset.sum_congr rfl fun k _ => mul_comm _ _
  rw [h1, h2, hs, ofBits_n, ofBits_half, Ideal.div_coe (by norm_num), Ideal.div_coe (by norm_num)]
  generalize (∑ k : Fin 2048, f k * p k) = S
  have e : f b * (S * (((-(1 / 2) : ℝ) : EReal) * (q : EReal)) * ((1 / 2048 : ℝ) : EReal)) = f b * S * ((-(1 / 2) * q * (1 / 2048) : ℝ) : EReal) := by
    rw [EReal.coe_mul, EReal.coe_mul]; simp only [mul_assoc]
  have e' : -(f b * (q : EReal) * (S * ((1 / 2048 : ℝ) : EReal))) = f b * S * ((2 * (-(1 / 2) * q * (1 / 2048)) : ℝ) : EReal) := by
    rw [show (2 * (-(1 / 2) * q * (1 / 2048)) : ℝ) = -(q * (1 / 2048)) by ring, EReal.coe_neg, EReal.coe_mul, mul_neg]
    exact congrArg Neg.neg (mul_mul_mul_comm _ _ _ _)
  rw [mul_comm _ (f b), e, add_assoc (p b * rms f), two_halves, ← e', ← add_assoc, mul_comm (p b)]
  rfl

/-- A sum over `n` blocks of `k` is a sum over `k * n`. -/
theorem sum_blocks (k : ℕ) (f : ℕ → EReal) (n : ℕ) : ∑ u ∈ Finset.range n, ∑ r ∈ Finset.range k, f (k * u + r) = ∑ t ∈ Finset.range (k * n), f t := by
  induction n with
  | zero => simp
  | succ n ih => rw [Finset.sum_range_succ, ih, Nat.mul_succ, Finset.sum_range_add]

/-- The rows summed in the kernel's order: eight at a time within sixteen, sixteen within a block, the blocks, and last the eight. -/
theorem sum_rows (f : ℕ → EReal) : ∑ s ∈ Finset.range 8, ∑ t ∈ Finset.range 8, ∑ k ∈ Finset.range 32, ∑ h ∈ Finset.range 2, f (512 * t + (16 * k + (8 * h + s)))
    = ∑ a ∈ Finset.range 4096, f a := by
  rw [Finset.sum_comm, ← sum_blocks 512 f 8]
  refine Finset.sum_congr rfl fun t _ => ?_
  rw [Finset.sum_comm, ← sum_blocks 16 (fun r => f (512 * t + r)) 32]
  refine Finset.sum_congr rfl fun k _ => ?_
  rw [Finset.sum_comm, ← sum_blocks 8 (fun r => f (512 * t + (16 * k + r))) 2]

end Cert.Proof.Norm14

end
-- ==== Proof.Norm14Trip.lean ====
/- The norm's gradient: the rows that one trip of the kernel's loop computes. -/
module

public import proofs.«01_k».proof.Defs
public import proofs.«01_k».proof.Proof.Norm14Loop
public import proofs.«01_k».proof.Proof.Norm14Row
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Norm14

open Cert.Kernel14Ideal Cert.Kernel14Ideal.Gen Cert.Kernel14Ideal.Norm Cert.Proof.Pool

/-! ## A trip's rows -/

/-- The kernel's formula of a row's gradient. -/
def dxAt (d : EReal) (f h g : Fin 2048 → EReal) (b : Fin 2048) : EReal :=
  d + rms f * (h b * g b) - f b * (rms f * rms f * rms f) * Ideal.div (∑ k : Fin 2048, h k * g k * f k) (Ideal.ofBits .f32 0x45000000#32)

theorem dx_trip (x0 x1 x2 : Vec Ideal S16x2048 .f32) (x3 : Vec Ideal S1x2048 .f32) (a : Fin 16) (b : Fin 2048) :
    k0_pay2 (F := Ideal) (k0_pay7 x2 x1 x3 x0) (k0_pay8 x2) (k0_pay9 x2 x1 x3) (ix2 a b)
      = dxAt (x0 (ix2 a b)) (fun k => x2 (ix2 a k)) (fun k => x1 (ix2 a k)) (fun k => x3 (ix2 0 k)) b := by
  pointwise [k0_pay2, k0_pay7, k0_pay8, k0_pay9, k0_pay6, k0_pay4]
  rfl

theorem dxb_trip (x0 x1 x2 : Vec Ideal S16x2048 .f32) (x3 : Vec Ideal S1x2048 .f32) (a : Fin 16) (b : Fin 2048) :
    k0_pay3 (F := Ideal) (k0_pay7 x2 x1 x3 x0) (k0_pay8 x2) (k0_pay9 x2 x1 x3) (ix2 a b)
      = dxAt (x0 (ix2 a b)) (fun k => x2 (ix2 a k)) (fun k => x1 (ix2 a k)) (fun k => x3 (ix2 0 k)) b := by
  pointwise [k0_pay3, k0_pay2, k0_pay7, k0_pay8, k0_pay9, k0_pay6, k0_pay4]
  rfl

theorem dg_trip (x1 x2 : Vec Ideal S16x2048 .f32) (z : Vec Ideal S8x2048 .f32) (s : Fin 8) (b : Fin 2048) :
    k0_pay5 (F := Ideal) x2 x1 z (ix2 s b)
      = z (ix2 s b) + ∑ h : Fin 2, x1 (ix2 ⟨h.val * 8 + s.val, by omega⟩ b) * x2 (ix2 ⟨h.val * 8 + s.val, by omega⟩ b) * rms (fun k => x2 (ix2 ⟨h.val * 8 + s.val, by omega⟩ k)) := by
  pointwise [k0_pay5, k0_pay4]
  rfl

end Cert.Proof.Norm14

end
-- ==== Proof.Norm14Ref.lean ====
/- The norm's gradient: the reference's results, row by row. -/
module

public import proofs.«01_k».proof.Defs
public import proofs.«01_k».proof.Proof.Buf
public import proofs.«01_k».proof.Proof.Norm14Row
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Norm14

open Cert.Reference14Ideal Cert.Proof.Pool

/-! ## The reference -/

/-- A row of the reference's gradient. -/
def refAt (d : EReal) (f h g : Fin 2048 → EReal) (b : Fin 2048) : EReal :=
  d + ((h b * g b * rms f + f b * Ideal.div ((∑ k : Fin 2048, f k * (h k * g k)) * (Ideal.ofBits .f32 0xBF000000#32 * Ideal.div (rms f) (ms f))) (Ideal.ofBits .f32 0x45000000#32))
    + Ideal.div ((∑ k : Fin 2048, f k * (h k * g k)) * (Ideal.ofBits .f32 0xBF000000#32 * Ideal.div (rms f) (ms f))) (Ideal.ofBits .f32 0x45000000#32) * f b)

theorem ref_dx (d h x : FVec Ideal S4096x2048 .f32) (g : FVec Ideal S2048 .f32) (a : Fin 4096) (b : Fin 2048) :
    Cert.Reference14Ideal.Read.val_main_v36 (F := Ideal) d h x g (ix2 a b)
      = refAt (d (ix2 a b)) (fun k => x (ix2 a k)) (fun k => h (ix2 a k)) (fun k => g (ix1 k)) b := by
  pointwise [Cert.Reference14Ideal.Read.val_main_v36, Cert.Reference14Ideal.Read.val_main_v35, Cert.Reference14Ideal.Read.val_main_v34, Cert.Reference14Ideal.Read.val_main_v33, Cert.Reference14Ideal.Read.val_main_v32, Cert.Reference14Ideal.Read.val_main_v31, Cert.Reference14Ideal.Read.val_main_v30, Cert.Reference14Ideal.Read.val_main_v29, Cert.Reference14Ideal.Read.val_main_v28, Cert.Reference14Ideal.Read.val_main_v27, Cert.Reference14Ideal.Read.val_main_v26, Cert.Reference14Ideal.Read.val_main_v25, Cert.Reference14Ideal.Read.val_main_v24, Cert.Reference14Ideal.Read.val_main_v23, Cert.Reference14Ideal.Read.val_main_v22, Cert.Reference14Ideal.Read.val_main_v20, Cert.Reference14Ideal.Read.val_main_v19, Cert.Reference14Ideal.Read.val_main_v14, Cert.Reference14Ideal.Read.val_main_v13, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]
  simp only [Finset.univ_unique, Finset.sum_singleton]
  rfl

theorem ref_dg (h x : FVec Ideal S4096x2048 .f32) (b : Fin 2048) :
    Cert.Reference14Ideal.Read.val_main_v21 (F := Ideal) h x (ix1 b)
      = ∑ a : Fin 4096, x (ix2 a b) * rms (fun k => x (ix2 a k)) * h (ix2 a b) := by
  pointwise [Cert.Reference14Ideal.Read.val_main_v21, Cert.Reference14Ideal.Read.val_main_v18, Cert.Reference14Ideal.Read.val_main_v17, Cert.Reference14Ideal.Read.val_main_v16, Cert.Reference14Ideal.Read.val_main_v12, Cert.Reference14Ideal.Read.val_main_v11, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]
  simp only [Finset.univ_unique, Finset.sum_singleton]
  rfl

end Cert.Proof.Norm14

end
-- ==== Proof.Norm14.lean ====
/- The norm's gradient: the kernel's three results are the reference's. -/
module

public import proofs.«01_k».proof.Defs
public import proofs.«01_k».proof.Proof.Norm14Frame
public import proofs.«01_k».proof.Proof.Norm14Trip
public import proofs.«01_k».proof.Proof.Norm14Ref
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Norm14

open Cert.Kernel14Ideal Cert.Kernel14Ideal.Gen Cert.Kernel14Ideal.Norm Cert.Proof.Pool

/-! ## A block's rows -/

theorem rows_apply (X : Vec Ideal S512x2048 .f32) (k : Fin k0_t1_loop.trips) (a : Fin 16) (b : Fin 2048) :
    rows X k (ix2 a b) = X (ix2 ⟨16 * k.val + a.val, by have := trip_lt k; omega⟩ b) := by
  obtain ⟨h0, h1⟩ := emb_val k (ix2 a b)
  exact congrArg X (funext fun d => Fin.ext (match d with | ⟨0, _⟩ => h0 | ⟨1, _⟩ => h1))

theorem join_apply {e : EltTy} (p : Fin k0_t1_loop.trips → Vec Ideal S16x2048 e) (a : Fin 512) (b : Fin 2048) :
    join p (ix2 a b) = p ⟨a.val / 16, by rw [trips_eq]; omega⟩ (ix2 ⟨a.val % 16, by omega⟩ b) :=
  congrArg (p _) (funext fun d => Fin.ext (match d with | ⟨0, _⟩ => rfl | ⟨1, _⟩ => rfl))

section
variable (x0 x1 x2 : Vec Ideal S512x2048 .f32) (x3 : Vec Ideal S1x2048 .f32)

theorem rows_join (X : Vec Ideal S512x2048 .f32) (a : Fin 512) (b : Fin 2048) :
    rows X ⟨a.val / 16, by rw [trips_eq]; omega⟩ (ix2 ⟨a.val % 16, by omega⟩ b) = X (ix2 a b) := by
  rw [rows_apply]
  exact congrArg (fun r => X (ix2 r b)) (Fin.ext (Nat.div_add_mod a.val 16))

theorem dx_block (a : Fin 512) (b : Fin 2048) : join (dxRows x0 x1 x2 x3) (ix2 a b)
    = dxAt (x0 (ix2 a b)) (fun k => x2 (ix2 a k)) (fun k => x1 (ix2 a k)) (fun k => x3 (ix2 0 k)) b := by
  rw [join_apply, dxRows, dx_trip]
  simp only [rows_join]

theorem dxb_block (a : Fin 512) (b : Fin 2048) : join (dxbRows x0 x1 x2 x3) (ix2 a b)
    = dxAt (x0 (ix2 a b)) (fun k => x2 (ix2 a k)) (fun k => x1 (ix2 a k)) (fun k => x3 (ix2 0 k)) b := by
  rw [join_apply, dxbRows, dxb_trip]
  simp only [rows_join]

/-- What row `n` of a block adds to the gain's gradient. -/
def term (b : Fin 2048) (n : ℕ) : EReal :=
  if h : n < 512 then x1 (ix2 ⟨n, h⟩ b) * x2 (ix2 ⟨n, h⟩ b) * rms (fun k => x2 (ix2 ⟨n, h⟩ k)) else 0

theorem dgAfter_apply (z : Vec Ideal S8x2048 .f32) (s : Fin 8) (b : Fin 2048) (n : ℕ) (hn : n ≤ 32) :
    dgAfter x1 x2 z n (ix2 s b) = z (ix2 s b) + ∑ k ∈ Finset.range n, ∑ h ∈ Finset.range 2, term x1 x2 b (16 * k + (8 * h + s.val)) := by
  induction n with
  | zero => rw [dgAfter.eq_1, Finset.sum_range_zero, add_zero]
  | succ n ih =>
    have ht : n < k0_t1_loop.trips := by rw [trips_eq]; omega
    rw [dgAfter.eq_2, dif_pos ht, dg_trip, ih (by omega), Finset.sum_range_succ, add_assoc]
    refine congrArg (z (ix2 s b) + ·) (congrArg (_ + ·) ?_)
    rw [Finset.sum_range]
    refine Finset.sum_congr rfl fun h _ => ?_
    have hr : 16 * n + (8 * h.val + s.val) < 512 := by omega
    rw [term, dif_pos hr]
    simp only [rows_apply]
    have e : ∀ p, (⟨16 * n + (h.val * 8 + s.val), p⟩ : Fin 512) = ⟨16 * n + (8 * h.val + s.val), hr⟩ := fun p => Fin.ext (by dsimp only; omega)
    simp only [e]

end

variable (m : (ℓ : Loc nD τ sig) → Buf (Elt Ideal) ℓ)

/-! ## The blocks -/

/-- The block each window holds at each grid point. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem pt_lt (t : Fin cfg0.N) : t.val < 8 := lt_of_lt_of_eq t.isLt (show cfg0.N = 8 from N_0)

/-- Row `a` of grid point `t`'s block. -/
def at_ (t : Fin cfg0.N) (a : Fin 512) : Fin 4096 := ⟨512 * t.val + a.val, by have := pt_lt t; omega⟩

theorem blk0 (c : Dev nD) (t : Fin cfg0.N) (a : Fin 512) (b : Fin 2048) :
    iblk m c 0 t (ix2 a b) = m ((c : Thread nD τ).loc main_arg0) (ix2 (at_ t a) b) := by
  blk_ext [iblk, V, at_, idx t]

theorem blk1 (c : Dev nD) (t : Fin cfg0.N) (a : Fin 512) (b : Fin 2048) :
    iblk m c 1 t (ix2 a b) = m ((c : Thread nD τ).loc main_arg1) (ix2 (at_ t a) b) := by
  blk_ext [iblk, V, at_, idx t]

theorem blk2 (c : Dev nD) (t : Fin cfg0.N) (a : Fin 512) (b : Fin 2048) :
    iblk m c 2 t (ix2 a b) = m ((c : Thread nD τ).loc main_arg2) (ix2 (at_ t a) b) := by
  blk_ext [iblk, V, at_, idx t]

theorem blk3 (c : Dev nD) (t : Fin cfg0.N) (a : Fin 1) (b : Fin 2048) :
    iblk m c 3 t (ix2 a b) = m ((c : Thread nD τ).loc main_arg3) (ix1 b) := by
  have e : iblk m c 3 t (ix2 a b) = V m c main_v0 (ix2 a b) := by
    blk_ext [iblk, V, idx t]
  rw [e]
  simp only [V, V0, List.flatten_cons, List.flatten_nil, List.append_nil]
  after_results
  pointwise

/-- Where the results' blocks lie. -/
theorem emb4 (t : Fin cfg0.N) (a : Fin 512) (b : Fin 2048) : ((cfg0.win 4).blk t).view.emb (ix2 a b) = ix2 (at_ t a) b := by
  refine funext fun d => Fin.ext ?_
  blk_simp
  rw [(idx t).2.2.2.2.1]
  match d with
  | ⟨0, _⟩ => exact congrArg (· + a.val) (Nat.mul_comm t.val 512)
  | ⟨1, _⟩ => exact (congrArg (· + b.val) (Nat.zero_mul 2048)).trans (Nat.zero_add _)

theorem emb5 (t : Fin cfg0.N) (a : Fin 512) (b : Fin 2048) : ((cfg0.win 5).blk t).view.emb (ix2 a b) = ix2 (at_ t a) b := by
  refine funext fun d => Fin.ext ?_
  blk_simp
  rw [(idx t).2.2.2.2.2.1]
  match d with
  | ⟨0, _⟩ => exact congrArg (· + a.val) (Nat.mul_comm t.val 512)
  | ⟨1, _⟩ => exact (congrArg (· + b.val) (Nat.zero_mul 2048)).trans (Nat.zero_add _)

theorem emb6 (t : Fin cfg0.N) (j : S8x2048.Idx) : ((cfg0.win 6).blk t).view.emb j = j := by
  refine funext fun d => Fin.ext ?_
  blk_simp
  rw [(idx t).2.2.2.2.2.2]
  match d with
  | ⟨0, _⟩ => exact (congrArg (· + (j 0).val) (Nat.zero_mul 8)).trans (Nat.zero_add _)
  | ⟨1, _⟩ => exact (congrArg (· + (j 1).val) (Nat.zero_mul 2048)).trans (Nat.zero_add _)

/-! ## The results -/

/-- The reference's first result as a function of its arguments, and its second, the same rounded: one number here. -/
abbrev goal (d h x : FVec Ideal S4096x2048 .f32) (g : FVec Ideal S2048 .f32) : FVec Ideal S4096x2048 .f32 :=
  Cert.Reference14Ideal.Read.val_main_v36 (F := Ideal) d h x g

theorem goal_apply (d h x : FVec Ideal S4096x2048 .f32) (g : FVec Ideal S2048 .f32) (a : Fin 4096) (b : Fin 2048) :
    goal d h x g (ix2 a b) = dxAt (d (ix2 a b)) (fun k => x (ix2 a k)) (fun k => h (ix2 a k)) (fun k => g (ix1 k)) b :=
  (ref_dx d h x g a b).trans (row (fun k => x (ix2 a k)) (fun k => h (ix2 a k) * g (ix1 k)) (d (ix2 a b)) b)

theorem point (c : Dev nD) (t : Fin cfg0.N) (a : Fin 512) (b : Fin 2048) :
    dxAt (iblk m c 0 t (ix2 a b)) (fun k => iblk m c 2 t (ix2 a k)) (fun k => iblk m c 1 t (ix2 a k)) (fun k => iblk m c 3 t (ix2 0 k)) b
      = goal (m ((c : Thread nD τ).loc main_arg0)) (m ((c : Thread nD τ).loc main_arg1)) (m ((c : Thread nD τ).loc main_arg2)) (m ((c : Thread nD τ).loc main_arg3)) (ix2 (at_ t a) b) := by
  rw [goal_apply]
  simp only [blk0, blk1, blk2, blk3]

theorem final4 (c : Dev nD) : (dats m 0 c).arrAt 4 (cfgs 0).N
    = goal (m ((c : Thread nD τ).loc main_arg0)) (m ((c : Thread nD τ).loc main_arg1)) (m ((c : Thread nD τ).loc main_arg2)) (m ((c : Thread nD τ).loc main_arg3)) := by
  generalize hG : goal (m ((c : Thread nD τ).loc main_arg0)) (m ((c : Thread nD τ).loc main_arg1)) (m ((c : Thread nD τ).loc main_arg2)) (m ((c : Thread nD τ).loc main_arg3)) = G
  refine (dats m 0 c).arrAt_eq_of_covers 4 _ (by decide +kernel) fun t _ j => ?_
  blk_simp
  rw [after0_4, ← hG]
  obtain ⟨a, b, rfl⟩ : ∃ a b, j = ix2 a b := ⟨j 0, j 1, eq_ix2 j⟩
  rw [emb4]
  exact (dx_block _ _ _ _ a b).trans (point m c t a b)

theorem final5 (c : Dev nD) : (dats m 0 c).arrAt 5 (cfgs 0).N
    = (Cert.Reference14Ideal.Read.val_main_v37 (F := Ideal) (m ((c : Thread nD τ).loc main_arg0)) (m ((c : Thread nD τ).loc main_arg1)) (m ((c : Thread nD τ).loc main_arg2)) (m ((c : Thread nD τ).loc main_arg3)) : FVec Ideal S4096x2048 .bf16) := by
  generalize hG : (Cert.Reference14Ideal.Read.val_main_v37 (F := Ideal) (m ((c : Thread nD τ).loc main_arg0)) (m ((c : Thread nD τ).loc main_arg1)) (m ((c : Thread nD τ).loc main_arg2)) (m ((c : Thread nD τ).loc main_arg3)) : FVec Ideal S4096x2048 .bf16) = G
  refine (dats m 0 c).arrAt_eq_of_covers 5 _ (by decide +kernel) fun t _ j => ?_
  blk_simp
  rw [after0_5, ← hG]
  obtain ⟨a, b, rfl⟩ : ∃ a b, j = ix2 a b := ⟨j 0, j 1, eq_ix2 j⟩
  rw [emb5]
  exact (dxb_block _ _ _ _ a b).trans (point m c t a b)

/-- What row `n` of the arrays adds to the gain's gradient. -/
def termAll (h x : FVec Ideal S4096x2048 .f32) (b : Fin 2048) (n : ℕ) : EReal :=
  if p : n < 4096 then h (ix2 ⟨n, p⟩ b) * x (ix2 ⟨n, p⟩ b) * rms (fun k => x (ix2 ⟨n, p⟩ k)) else 0

theorem term_eq (c : Dev nD) (t : Fin cfg0.N) (b : Fin 2048) (r : ℕ) (hr : r < 512) :
    term (iblk m c 1 t) (iblk m c 2 t) b r = termAll (m ((c : Thread nD τ).loc main_arg1)) (m ((c : Thread nD τ).loc main_arg2)) b (512 * t.val + r) := by
  have ht := pt_lt t
  rw [term, dif_pos hr, termAll, dif_pos (show 512 * t.val + r < 4096 by omega)]
  simp only [blk1, blk2]
  rfl

theorem pay1_apply (s : Fin 8) (b : Fin 2048) : k0_pay1 (F := Ideal) (ix2 s b) = 0 := by
  pointwise [k0_pay1]

/-- The gain's gradient after the first points, eight sums still apart. -/
theorem dgAt_apply (c : Dev nD) (s : Fin 8) (b : Fin 2048) (n : ℕ) : ∀ hn : n < cfg0.N, dgAt m c n hn (ix2 s b)
    = ∑ t ∈ Finset.range (n + 1), ∑ k ∈ Finset.range 32, ∑ h ∈ Finset.range 2,
        termAll (m ((c : Thread nD τ).loc main_arg1)) (m ((c : Thread nD τ).loc main_arg2)) b (512 * t + (16 * k + (8 * h + s.val))) := by
  have key : ∀ (t : Fin cfg0.N), ∑ k ∈ Finset.range 32, ∑ h ∈ Finset.range 2, term (iblk m c 1 t) (iblk m c 2 t) b (16 * k + (8 * h + s.val))
      = ∑ k ∈ Finset.range 32, ∑ h ∈ Finset.range 2, termAll (m ((c : Thread nD τ).loc main_arg1)) (m ((c : Thread nD τ).loc main_arg2)) b (512 * t.val + (16 * k + (8 * h + s.val))) := fun t =>
    Finset.sum_congr rfl fun k hk => Finset.sum_congr rfl fun h hh => term_eq m c t b _ (by have := Finset.mem_range.mp hk; have := Finset.mem_range.mp hh; omega)
  induction n with
  | zero =>
    intro hn
    have e := dgAfter_apply (iblk m c 1 ⟨0, hn⟩) (iblk m c 2 ⟨0, hn⟩) (k0_pay1 (F := Ideal)) s b 32 le_rfl
    rw [pay1_apply, zero_add, key] at e
    rw [Finset.sum_range_one]
    exact (congrFun (congrArg (dgAfter _ _ _) trips_eq) _).trans e
  | succ n ih =>
    intro hn
    have e := dgAfter_apply (iblk m c 1 ⟨n + 1, hn⟩) (iblk m c 2 ⟨n + 1, hn⟩) (dgAt m c n (Nat.lt_of_succ_lt hn)) s b 32 le_rfl
    rw [ih, key] at e
    rw [Finset.sum_range_succ _ (n + 1)]
    exact (congrFun (congrArg (dgAfter _ _ _) trips_eq) _).trans e

theorem seven : 7 < cfg0.N := by decide

theorem final6 (c : Dev nD) : (dats m 0 c).arrAt 6 (cfgs 0).N = dgAt m c 7 seven := by
  refine (dats m 0 c).arrAt_eq_of_covers 6 _ (by decide +kernel) fun t hf j => ?_
  have h7 : t.val = 7 := by have := (flush0_6 t).mp hf; have := pt_lt t; omega
  blk_simp
  rw [after0_6]
  refine Eq.trans ?_ (congrArg (dgAt m c 7 seven) (emb6 t j).symm)
  obtain ⟨n, hn⟩ := t
  obtain rfl : n = 7 := h7
  rfl

theorem tail (c : Dev nD) :
    Host.reduceAdd (F := Ideal) (dgAt m c 7 seven : Vec Ideal S8x2048 .f32) (constant S_ .f32 0x00000000#32) reducesTo_S8x2048_S2048_d0 h_S_
      = (Cert.Reference14Ideal.Read.val_main_v21 (F := Ideal) (m ((c : Thread nD τ).loc main_arg1)) (m ((c : Thread nD τ).loc main_arg2)) : FVec Ideal S2048 .f32) := by
  refine ext1 fun b => ?_
  refine Eq.trans ?_ (ref_dg (m ((c : Thread nD τ).loc main_arg1)) (m ((c : Thread nD τ).loc main_arg2)) b).symm
  pointwise
  simp only [dgAt_apply]
  rw [← Finset.sum_range (fun s => ∑ t ∈ Finset.range (7 + 1), ∑ k ∈ Finset.range 32, ∑ h ∈ Finset.range 2,
        termAll (m ((c : Thread nD τ).loc main_arg1)) (m ((c : Thread nD τ).loc main_arg2)) b (512 * t + (16 * k + (8 * h + s))))]
  refine (sum_rows (termAll (m ((c : Thread nD τ).loc main_arg1)) (m ((c : Thread nD τ).loc main_arg2)) b)).trans ?_
  rw [Finset.sum_range]
  refine Finset.sum_congr rfl fun a _ => ?_
  rw [termAll, dif_pos a.isLt]
  exact (mul_assoc _ _ _).trans (mul_comm _ _)

theorem arr_inj : Function.Injective (Pipeline.arrRef spec0) := by decide +kernel

/-- The host's sum after the kernel reads the third window's array. -/
theorem after_v2 (c : Dev nD) : Pipeline.afterTail₀ cfgs (dats m) 0 (V0 m) [hostOps1] c main_v2
    = Host.reduceAdd (F := Ideal) ((dats m 0 c).arrAt 6 cfg0.N : Vec Ideal S8x2048 .f32) (constant S_ .f32 0x00000000#32) reducesTo_S8x2048_S2048_d0 h_S_ := by
  have e := Pipeline.withArrays_arr (cfgs 0).spec arr_inj c (V0 m c) (fun w => (dats m 0 c).arrAt w (cfgs 0).N) 6
  unfold Pipeline.afterTail₀
  simp only [List.flatten_cons, List.flatten_nil, List.append_nil, hostOps1]
  after_results
  exact congrArg (fun A : Vec Ideal S8x2048 .f32 => Host.reduceAdd (F := Ideal) A (constant S_ .f32 0x00000000#32) reducesTo_S8x2048_S2048_d0 h_S_) e

/-- What the kernel's program ends holding. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v2) = Host.reduceAdd (F := Ideal) ((dats m 0 c).arrAt 6 cfg0.N : Vec Ideal S8x2048 .f32) (constant S_ .f32 0x00000000#32) reducesTo_S8x2048_S2048_d0 h_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  run_from run_main m g
  · exact after_v2 m c
  · exact W_main_arg3 m (dats m) c

theorem reference_frame : Cert.quiescent_Reference14Ideal := fun m ρ _ =>
  θ_run_mono (Cert.Reference14Ideal.Value.run m ρ) fun _ h => ⟨fun c => (h c).2.2.2, funext fun g => match g with | (_, .reg s) => s.elim0 | (_, .dma s) => s.elim0⟩

theorem algebraic : Cert.algebraic_Kernel14Ideal_Reference14Ideal := by
  intro m g m' g' _ hagree
  refine ⟨_, _, _, kernel_run m g, θ_run_mono (Cert.Reference14Ideal.Value.run m' g') fun _ h c => ?_⟩
  obtain ⟨a0, a1, a2, a3⟩ := hagree c
  obtain ⟨h0, h1, h2, h3⟩ := h c
  refine ⟨h0.trans ?_, h1.trans ?_, h2.trans ?_, h3⟩
  · rw [a0, a1, a2, a3]
    exact (Cert.Reference14Ideal.Read.val_main_v36_eq _ _ _ _).trans (final4 m c).symm
  · rw [a0, a1, a2, a3]
    exact (Cert.Reference14Ideal.Read.val_main_v37_eq _ _ _ _).trans (final5 m c).symm
  · rw [a1, a2]
    refine (Cert.Reference14Ideal.Read.val_main_v21_eq _ _).trans ((tail m c).symm.trans ?_)
    exact congrArg (fun A : Vec Ideal S8x2048 .f32 => Host.reduceAdd (F := Ideal) A (constant S_ .f32 0x00000000#32) reducesTo_S8x2048_S2048_d0 h_S_) (final6 m c).symm

end Cert.Proof.Norm14

end
-- ==== Proof.Loss16Loop.lean ====
/- The loss and its gradient, the loop over a block's rows: what its stores leave does not depend on what the results' buffers held before. -/
module

public import proofs.«01_k».proof.Proof.Gen.Kernel16Ideal.Frame.Runs
public import Idealize.ShloMosaic.Lib.Pipeline.ReadBack
public import Idealize.ShloMosaic.Lib.VecWindow
public import Idealize.ShloMosaic.Lib.WholeRead
public import Idealize.ShloMosaic.Lib.Claim

@[expose] public section

set_option maxRecDepth 16384

noncomputable section

namespace Cert.Kernel16Ideal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal.Gen

variable {F : FTy → Type} [FloatOps F]

/-! ## What the loop computes -/

theorem trip_lt (k : Fin k0_t1_loop.trips) : k.val < 16 := Nat.lt_of_lt_of_le k.isLt k0_t1_abs.2.1

theorem trips_eq : k0_t1_loop.trips = 16 := by decide

/-- Index `(a, b)` of the sixteen rows that a trip takes. -/
def in16 (a b : ℕ) (ha : a < 16) (hb : b < 2048) : S16x2048.Idx := fun d => match d with
  | ⟨0, _⟩ => ⟨a, ha⟩
  | ⟨1, _⟩ => ⟨b, hb⟩

/-- The sixteen rows of a block that trip `k` takes. -/
def rows {e : EltTy} (X : Vec F S256x2048 e) (k : Fin k0_t1_loop.trips) : Vec F S16x2048 e := fun j =>
  X ((Rect.unit (s := S256x2048) (k0_off1 k) S16x2048.size (k0_off1_inb k)).toLoadRect.idx j)

/-- The block that the trips' rows make up. -/
def join {e : EltTy} (p : Fin k0_t1_loop.trips → Vec F S16x2048 e) : Vec F S256x2048 e := fun y =>
  p ⟨(y 0).val / 16, by rw [trips_eq]; have h : (y 0).val < 256 := (y 0).isLt; omega⟩
    (in16 ((y 0).val % 16) (y 1).val (Nat.mod_lt _ (by decide)) (y 1).isLt)

theorem emb_val (k : Fin k0_t1_loop.trips) (j : S16x2048.Idx) :
    (((Rect.unit (s := S256x2048) (k0_off1 k) S16x2048.size (k0_off1_inb k)).emb j) 0).val = 16 * k.val + (j 0).val
    ∧ (((Rect.unit (s := S256x2048) (k0_off1 k) S16x2048.size (k0_off1_inb k)).emb j) 1).val = (j 1).val := by
  have e := k0_off1_eq k
  constructor
  · show k0_off1 k 0 + 1 * (j 0).val = 16 * k.val + (j 0).val; rw [e, Nat.one_mul]; rfl
  · show k0_off1 k 1 + 1 * (j 1).val = (j 1).val; rw [e, Nat.one_mul]; exact Nat.zero_add _

/-- Where trip `k` stores its rows, the block that the rows make up has them. -/
theorem join_emb {e : EltTy} (p : Fin k0_t1_loop.trips → Vec F S16x2048 e) (k : Fin k0_t1_loop.trips) (j : S16x2048.Idx) :
    p k j = join p ((Rect.unit (s := S256x2048) (k0_off1 k) S16x2048.size (k0_off1_inb k)).emb j) := by
  obtain ⟨h0, h1⟩ := emb_val k j
  have hj : (j 0).val < 16 := (j 0).isLt
  unfold join
  generalize (Rect.unit (s := S256x2048) (k0_off1 k) S16x2048.size (k0_off1_inb k)).emb j = y at h0 h1
  have ek : (⟨(y 0).val / 16, by rw [trips_eq]; have h : (y 0).val < 256 := (y 0).isLt; omega⟩ : Fin k0_t1_loop.trips) = k := Fin.ext (by show (y 0).val / 16 = k.val; omega)
  have ej : in16 ((y 0).val % 16) (y 1).val (Nat.mod_lt _ (by decide)) (y 1).isLt = j := funext fun d => Fin.ext (match d with
    | ⟨0, _⟩ => by show (y 0).val % 16 = (j 0).val; omega
    | ⟨1, _⟩ => h1)
  rw [ek, ej]

/-- Trip `k`'s rows of the gradient. -/
def dxRows (x0 : Vec F S256x2048 .f32) (x1 : Vec F S1x2048 .f32) (x2 : Vec F S256x2048 .f32) (k : Fin k0_t1_loop.trips) : Vec F S16x2048 .f32 :=
  k0_pay3 (rows x0 k) (k0_pay5 (rows x0 k)) (k0_pay6 x1) (k0_pay9 (rows x0 k) x1 (rows x2 k))

/-- The same rows, rounded. -/
def dxbRows (x0 : Vec F S256x2048 .f32) (x1 : Vec F S1x2048 .f32) (x2 : Vec F S256x2048 .f32) (k : Fin k0_t1_loop.trips) : Vec F S16x2048 .bf16 :=
  k0_pay4 (rows x0 k) (k0_pay5 (rows x0 k)) (k0_pay6 x1) (k0_pay9 (rows x0 k) x1 (rows x2 k))

/-- The gain's gradient after the first `n` trips, from `z`. -/
def dgAfter (x0 : Vec F S256x2048 .f32) (x1 : Vec F S1x2048 .f32) (x2 : Vec F S256x2048 .f32) (z : Vec F S8x2048 .f32) : ℕ → Vec F S8x2048 .f32
  | 0 => z
  | n + 1 => if h : n < k0_t1_loop.trips then k0_pay10 (rows x0 ⟨n, h⟩) x1 (rows x2 ⟨n, h⟩) (dgAfter x0 x1 x2 z n) else dgAfter x0 x1 x2 z n

/-- The squared errors' sums after the first `n` trips, from `z`. -/
def seAfter (x0 : Vec F S256x2048 .f32) (x1 : Vec F S1x2048 .f32) (x2 : Vec F S256x2048 .f32) (z : Vec F S8x2048 .f32) : ℕ → Vec F S8x2048 .f32
  | 0 => z
  | n + 1 => if h : n < k0_t1_loop.trips then k0_pay8 (rows x0 ⟨n, h⟩) x1 (rows x2 ⟨n, h⟩) (seAfter x0 x1 x2 z n) else seAfter x0 x1 x2 z n

/-! ## What the loop's stores leave -/

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S8x2048 .f32) (harg6 : arg6.IsWhole) (arg7 : Memref sig .tc .vmem S8x2048 .f32) (harg7 : arg7.IsWhole)
  (x0 : Vec F S256x2048 .f32) (x1 : Vec F S1x2048 .f32) (x2 : Vec F S256x2048 .f32)

/-- What one trip stores, from what it finds in the two sums. -/
theorem trip_eq (k : Fin k0_t1_loop.trips) (f4 : BufTy.Contents (Elt F) arg4.view.ty) (f5 : BufTy.Contents (Elt F) arg5.view.ty) (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 (harg1.unread x0) (harg2.unread x1) (harg3.unread x2) k f4 f5 f6 f7
      = ([⟨Rect.unit (s := S256x2048) (k0_off1 k) S16x2048.size (k0_off1_inb k), dxRows x0 x1 x2 k⟩],
        [⟨Rect.unit (s := S256x2048) (k0_off1 k) S16x2048.size (k0_off1_inb k), dxbRows x0 x1 x2 k⟩],
        [⟨Rect.unit (s := S8x2048) ![0, 0] S8x2048.size inb_S8x2048_S8x2048_0_0, k0_pay10 (rows x0 k) x1 (rows x2 k) (arg6.view.read (Elt F) f6)⟩],
        [⟨Rect.unit (s := S8x2048) ![0, 0] S8x2048.size inb_S8x2048_S8x2048_0_0, k0_pay8 (rows x0 k) x1 (rows x2 k) (arg7.view.read (Elt F) f7)⟩]) := by
  have e0 : View.readAt (Elt F) arg1.view (Rect.unit (s := S256x2048) (k0_off1 k) S16x2048.size (k0_off1_inb k)).toLoadRect (harg1.unread x0) = rows x0 k := funext fun j => harg1.readAt_unread x0 _ j
  have e2 : View.readAt (Elt F) arg3.view (Rect.unit (s := S256x2048) (k0_off1 k) S16x2048.size (k0_off1_inb k)).toLoadRect (harg3.unread x2) = rows x2 k := funext fun j => harg3.readAt_unread x2 _ j
  have e1 : View.readAt (Elt F) arg2.view (Rect.unit (s := S1x2048) ![0, 0] S1x2048.size inb_S1x2048_S1x2048_0_0).toLoadRect (harg2.unread x1) = x1 := (View.readAt_full arg2.view _ _).trans (harg2.read_unread x1)
  have e6 : View.readAt (Elt F) arg6.view (Rect.unit (s := S8x2048) ![0, 0] S8x2048.size inb_S8x2048_S8x2048_0_0).toLoadRect f6 = arg6.view.read (Elt F) f6 := View.readAt_full arg6.view _ _
  have e7 : View.readAt (Elt F) arg7.view (Rect.unit (s := S8x2048) ![0, 0] S8x2048.size inb_S8x2048_S8x2048_0_0).toLoadRect f7 = arg7.view.read (Elt F) f7 := View.readAt_full arg7.view _ _
  rw [← e6, ← e7]
  unfold dxRows dxbRows
  rw [← e0, ← e2]
  conv_rhs => rw [← e1]
  unfold tripL_k0_t1 trip_k0_t1
  rfl

/-- The first `n` trips leave their rows of the two results, and the two sums so far. -/
theorem loop_eq (z w : Vec F S8x2048 .f32) (f4 : BufTy.Contents (Elt F) arg4.view.ty) (f5 : BufTy.Contents (Elt F) arg5.view.ty) (f6 : BufTy.Contents (Elt F) arg6.view.ty) (f7 : BufTy.Contents (Elt F) arg7.view.ty)
    (hz : arg6.view.read (Elt F) f6 = z) (hw : arg7.view.read (Elt F) f7 = w) (n : ℕ) (hn : n ≤ k0_t1_loop.trips) :
    View.PiecesOf (join (dxRows x0 x1 x2)) (pb_k0_t1 (F := F) Variants.none c none i arg1 harg1 arg2 harg2 arg3 harg3 arg4 harg4 arg5 harg5 arg6 harg6 arg7 harg7 (harg1.unread x0) (harg2.unread x1) (harg3.unread x2) f4 f5 f6 f7 n).1
    ∧ View.PiecesOf (join (dxbRows x0 x1 x2)) (pb_k0_t1 (F := F) Variants.none c none i arg1 harg1 arg2 harg2 arg3 harg3 arg4 harg4 arg5 harg5 arg6 harg6 arg7 harg7 (harg1.unread x0) (harg2.unread x1) (harg3.unread x2) f4 f5 f6 f7 n).2.1
    ∧ (∀ y : S256x2048.Idx, (y 0).val < 16 * n → ∃ p ∈ (pb_k0_t1 (F := F) Variants.none c none i arg1 harg1 arg2 harg2 arg3 harg3 arg4 harg4 arg5 harg5 arg6 harg6 arg7 harg7 (harg1.unread x0) (harg2.unread x1) (harg3.unread x2) f4 f5 f6 f7 n).1, y ∈ p.1.set)
    ∧ (∀ y : S256x2048.Idx, (y 0).val < 16 * n → ∃ p ∈ (pb_k0_t1 (F := F) Variants.none c none i arg1 harg1 arg2 harg2 arg3 harg3 arg4 harg4 arg5 harg5 arg6 harg6 arg7 harg7 (harg1.unread x0) (harg2.unread x1) (harg3.unread x2) f4 f5 f6 f7 n).2.1, y ∈ p.1.set)
    ∧ arg6.view.read (Elt F) (arg6.view.writes (Elt F) f6 (pb_k0_t1 (F := F) Variants.none c none i arg1 harg1 arg2 harg2 arg3 harg3 arg4 harg4 arg5 harg5 arg6 harg6 arg7 harg7 (harg1.unread x0) (harg2.unread x1) (harg3.unread x2) f4 f5 f6 f7 n).2.2.1) = dgAfter x0 x1 x2 z n
    ∧ arg7.view.read (Elt F) (arg7.view.writes (Elt F) f7 (pb_k0_t1 (F := F) Variants.none c none i arg1 harg1 arg2 harg2 arg3 harg3 arg4 harg4 arg5 harg5 arg6 harg6 arg7 harg7 (harg1.unread x0) (harg2.unread x1) (harg3.unread x2) f4 f5 f6 f7 n).2.2.2) = seAfter x0 x1 x2 w n := by
  induction n with
  | zero => exact ⟨trivial, trivial, fun _ h => absurd h (Nat.not_lt_zero _), fun _ h => absurd h (Nat.not_lt_zero _), hz, hw⟩
  | succ n ih =>
    obtain ⟨h1, h2, h3, h4, h5, h6⟩ := ih (Nat.le_of_succ_le hn)
    have e := pb_k0_t1_succ (F := F) Variants.none c none i arg1 harg1 arg2 harg2 arg3 harg3 arg4 harg4 arg5 harg5 arg6 harg6 arg7 harg7 (harg1.unread x0) (harg2.unread x1) (harg3.unread x2) f4 f5 f6 f7 ⟨n, hn⟩
    rw [trip_eq] at e
    dsimp only at e
    rw [e]
    generalize pb_k0_t1 (F := F) Variants.none c none i arg1 harg1 arg2 harg2 arg3 harg3 arg4 harg4 arg5 harg5 arg6 harg6 arg7 harg7 (harg1.unread x0) (harg2.unread x1) (harg3.unread x2) f4 f5 f6 f7 n = L at h1 h2 h3 h4 h5 h6
    have hm : ∀ y : S256x2048.Idx, (y 0).val < 16 * (n + 1) → ¬ (y 0).val < 16 * n →
        y ∈ (Rect.unit (s := S256x2048) (k0_off1 ⟨n, hn⟩) S16x2048.size (k0_off1_inb ⟨n, hn⟩)).set := fun y hy hy' => by
      rw [Rect.mem_set_unit]
      have e := k0_off1_eq ⟨n, hn⟩
      have hb : (y 1).val < 2048 := (y 1).isLt
      intro a
      match a with
      | ⟨0, _⟩ => rw [e]; show 16 * n ≤ (y 0).val ∧ (y 0).val < 16 * n + 16; omega
      | ⟨1, _⟩ => rw [e]; show 0 ≤ (y 1).val ∧ (y 1).val < 0 + 2048; omega
    refine ⟨⟨fun j => join_emb (dxRows x0 x1 x2) ⟨n, hn⟩ j, h1⟩, ⟨fun j => join_emb (dxbRows x0 x1 x2) ⟨n, hn⟩ j, h2⟩, fun y hy => ?_, fun y hy => ?_, ?_, ?_⟩
    · by_cases hy' : (y 0).val < 16 * n
      · obtain ⟨p, hp, hm⟩ := h3 y hy'
        exact ⟨p, List.mem_append_right _ hp, hm⟩
      · exact ⟨_, List.mem_append_left _ (List.mem_singleton.mpr rfl), hm y hy hy'⟩
    · by_cases hy' : (y 0).val < 16 * n
      · obtain ⟨p, hp, hm⟩ := h4 y hy'
        exact ⟨p, List.mem_append_right _ hp, hm⟩
      · exact ⟨_, List.mem_append_left _ (List.mem_singleton.mpr rfl), hm y hy hy'⟩
    · dsimp only [List.cons_append, List.nil_append]
      rw [View.read_writes_full, h5]
      rw [dgAfter.eq_2, dif_pos (Nat.lt_of_succ_le hn)]
    · dsimp only [List.cons_append, List.nil_append]
      rw [View.read_writes_full, h6]
      rw [seAfter.eq_2, dif_pos (Nat.lt_of_succ_le hn)]

/-- The whole loop's rows read back as the block. -/
theorem loop_dx (f4 : BufTy.Contents (Elt F) arg4.view.ty) (f5 : BufTy.Contents (Elt F) arg5.view.ty) (f6 : BufTy.Contents (Elt F) arg6.view.ty) (f7 : BufTy.Contents (Elt F) arg7.view.ty) :
    arg4.view.read (Elt F) (arg4.view.writes (Elt F) f4 (pb_k0_t1 (F := F) Variants.none c none i arg1 harg1 arg2 harg2 arg3 harg3 arg4 harg4 arg5 harg5 arg6 harg6 arg7 harg7 (harg1.unread x0) (harg2.unread x1) (harg3.unread x2) f4 f5 f6 f7 k0_t1_loop.trips).1) = join (dxRows x0 x1 x2) := by
  obtain ⟨h1, _, h3, _⟩ := loop_eq c i arg1 harg1 arg2 harg2 arg3 harg3 arg4 harg4 arg5 harg5 arg6 harg6 arg7 harg7 x0 x1 x2 _ _ f4 f5 f6 f7 rfl rfl k0_t1_loop.trips le_rfl
  exact funext fun y => View.read_writes_apply_of_pieces _ _ _ _ h1.mem y (h3 y (by rw [trips_eq]; exact (y 0).isLt))

theorem loop_dxb (f4 : BufTy.Contents (Elt F) arg4.view.ty) (f5 : BufTy.Contents (Elt F) arg5.view.ty) (f6 : BufTy.Contents (Elt F) arg6.view.ty) (f7 : BufTy.Contents (Elt F) arg7.view.ty) :
    arg5.view.read (Elt F) (arg5.view.writes (Elt F) f5 (pb_k0_t1 (F := F) Variants.none c none i arg1 harg1 arg2 harg2 arg3 harg3 arg4 harg4 arg5 harg5 arg6 harg6 arg7 harg7 (harg1.unread x0) (harg2.unread x1) (harg3.unread x2) f4 f5 f6 f7 k0_t1_loop.trips).2.1) = join (dxbRows x0 x1 x2) := by
  obtain ⟨_, h2, _, h4, _⟩ := loop_eq c i arg1 harg1 arg2 harg2 arg3 harg3 arg4 harg4 arg5 harg5 arg6 harg6 arg7 harg7 x0 x1 x2 _ _ f4 f5 f6 f7 rfl rfl k0_t1_loop.trips le_rfl
  exact funext fun y => View.read_writes_apply_of_pieces _ _ _ _ h2.mem y (h4 y (by rw [trips_eq]; exact (y 0).isLt))

theorem loop_dg (f4 : BufTy.Contents (Elt F) arg4.view.ty) (f5 : BufTy.Contents (Elt F) arg5.view.ty) (f6 : BufTy.Contents (Elt F) arg6.view.ty) (f7 : BufTy.Contents (Elt F) arg7.view.ty) :
    arg6.view.read (Elt F) (arg6.view.writes (Elt F) f6 (pb_k0_t1 (F := F) Variants.none c none i arg1 harg1 arg2 harg2 arg3 harg3 arg4 harg4 arg5 harg5 arg6 harg6 arg7 harg7 (harg1.unread x0) (harg2.unread x1) (harg3.unread x2) f4 f5 f6 f7 k0_t1_loop.trips).2.2.1) = dgAfter x0 x1 x2 (arg6.view.read (Elt F) f6) k0_t1_loop.trips :=
  (loop_eq c i arg1 harg1 arg2 harg2 arg3 harg3 arg4 harg4 arg5 harg5 arg6 harg6 arg7 harg7 x0 x1 x2 _ _ f4 f5 f6 f7 rfl rfl k0_t1_loop.trips le_rfl).2.2.2.2.1

theorem loop_se (f4 : BufTy.Contents (Elt F) arg4.view.ty) (f5 : BufTy.Contents (Elt F) arg5.view.ty) (f6 : BufTy.Contents (Elt F) arg6.view.ty) (f7 : BufTy.Contents (Elt F) arg7.view.ty) :
    arg7.view.read (Elt F) (arg7.view.writes (Elt F) f7 (pb_k0_t1 (F := F) Variants.none c none i arg1 harg1 arg2 harg2 arg3 harg3 arg4 harg4 arg5 harg5 arg6 harg6 arg7 harg7 (harg1.unread x0) (harg2.unread x1) (harg3.unread x2) f4 f5 f6 f7 k0_t1_loop.trips).2.2.2) = seAfter x0 x1 x2 (arg7.view.read (Elt F) f7) k0_t1_loop.trips :=
  (loop_eq c i arg1 harg1 arg2 harg2 arg3 harg3 arg4 harg4 arg5 harg5 arg6 harg6 arg7 harg7 x0 x1 x2 _ _ f4 f5 f6 f7 rfl rfl k0_t1_loop.trips le_rfl).2.2.2.2.2

end

end Cert.Kernel16Ideal.Loss

end
-- ==== Proof.Loss16Frame.lean ====
/- The loss and its gradient, the call as a whole: its body at each grid point, what the results hold after it, and that every run ends with its arguments unchanged. -/
module

public import proofs.«01_k».proof.Proof.Loss16Loop

@[expose] public section

set_option maxRecDepth 16384

noncomputable section

namespace Cert.Kernel16Ideal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal.Gen

variable {F : FTy → Type} [FloatOps F]

/-! ## The body's two cases -/

set_option maxHeartbeats 1000000 in
/-- The body at the first point, which clears the two sums first. -/
theorem run_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S8x2048 .f32) (harg6 : arg6.IsWhole) (arg7 : Memref sig .tc .vmem S8x2048 .f32) (harg7 : arg7.IsWhole) (hc0 : cond0_0 i)
    (x0 : Vec F S256x2048 .f32) (x1 : Vec F S1x2048 .f32) (x2 : Vec F S256x2048 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (join (dxRows x0 x1 x2)) ∗ owns (c : Thread nD τ) arg5 fullShare (join (dxbRows x0 x1 x2)) ∗ owns (c : Thread nD τ) arg6 fullShare (dgAfter x0 x1 x2 k0_pay1 k0_t1_loop.trips) ∗ owns (c : Thread nD τ) arg7 fullShare (seAfter x0 x1 x2 k0_pay2 k0_t1_loop.trips)) -∗ K ⟨⟩))
      ⊢ wp frame (wpE (defs₀ (F := F)) Variants.none c none) E (cc0_loss_head i arg1 harg1 arg2 harg2 arg3 harg3 arg4 harg4 arg5 harg5 arg6 harg6 arg7 harg7) K := by
  simp only [cc0_loss_head_eq_skeleton]; unfold cc0_loss_head_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact loop_dx ..
  isplitl [H4]
  · iexists _; isplitr
    swap; · iexact H4
    ipureintro; exact loop_dxb ..
  isplitl [H5]
  · iexists _; isplitr
    swap; · iexact H5
    ipureintro; exact (congrArg (arg6.view.read (Elt F)) (View.writes_append ..)).trans ((loop_dg ..).trans (congrArg (fun z => dgAfter x0 x1 x2 z k0_t1_loop.trips) (View.read_writes_full ..)))
  iexists _; isplitr
  swap; · iexact H6
  ipureintro; exact (congrArg (arg7.view.read (Elt F)) (View.writes_append ..)).trans ((loop_se ..).trans (congrArg (fun z => seAfter x0 x1 x2 z k0_t1_loop.trips) (View.read_writes_full ..)))

set_option maxHeartbeats 1000000 in
/-- The body at a later point, which adds to the sums `z` and `w` it finds. -/
theorem run_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S8x2048 .f32) (harg6 : arg6.IsWhole) (arg7 : Memref sig .tc .vmem S8x2048 .f32) (harg7 : arg7.IsWhole) (hc0 : ¬cond0_0 i)
    (x0 : Vec F S256x2048 .f32) (x1 : Vec F S1x2048 .f32) (x2 : Vec F S256x2048 .f32) (z w : Vec F S8x2048 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare z ∗ owns (c : Thread nD τ) arg7 fullShare w
        ∗ (iprop(owns (c : Thread nD τ) arg1 fullShare x0 ∗ owns (c : Thread nD τ) arg2 fullShare x1 ∗ owns (c : Thread nD τ) arg3 fullShare x2 ∗ owns (c : Thread nD τ) arg4 fullShare (join (dxRows x0 x1 x2)) ∗ owns (c : Thread nD τ) arg5 fullShare (join (dxbRows x0 x1 x2)) ∗ owns (c : Thread nD τ) arg6 fullShare (dgAfter x0 x1 x2 z k0_t1_loop.trips) ∗ owns (c : Thread nD τ) arg7 fullShare (seAfter x0 x1 x2 w k0_t1_loop.trips)) -∗ K ⟨⟩))
      ⊢ wp frame (wpE (defs₀ (F := F)) Variants.none c none) E (cc0_loss_head i arg1 harg1 arg2 harg2 arg3 harg3 arg4 harg4 arg5 harg5 arg6 harg6 arg7 harg7) K := by
  simp only [cc0_loss_head_eq_skeleton]; unfold cc0_loss_head_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact loop_dx ..
  isplitl [H4]
  · iexists _; isplitr
    swap; · iexact H4
    ipureintro; exact loop_dxb ..
  isplitl [H5]
  · iexists _; isplitr
    swap; · iexact H5
    ipureintro; exact (loop_dg ..).trans (congrArg (fun z => dgAfter x0 x1 x2 z k0_t1_loop.trips) hf5)
  iexists _; isplitr
  swap; · iexact H6
  ipureintro; exact (loop_se ..).trans (congrArg (fun z => seAfter x0 x1 x2 z k0_t1_loop.trips) hf6)

variable (m : (ℓ : Loc nD τ sig) → Buf (Elt F) ℓ) (ρ : Dev nD → PrngReg)

/-! ## What the results hold after each point -/

/-- The gain's gradient after point `n`. -/
def dgAt (c : Dev nD) : (n : ℕ) → n < cfg0.N → Vec F S8x2048 .f32
  | 0, hn => dgAfter (iblk m c 0 ⟨0, hn⟩) (iblk m c 1 ⟨0, hn⟩) (iblk m c 2 ⟨0, hn⟩) k0_pay1 k0_t1_loop.trips
  | n + 1, hn => dgAfter (iblk m c 0 ⟨n + 1, hn⟩) (iblk m c 1 ⟨n + 1, hn⟩) (iblk m c 2 ⟨n + 1, hn⟩) (dgAt c n (Nat.lt_of_succ_lt hn)) k0_t1_loop.trips

theorem dgAt_A (c : Dev nD) (t : Fin cfg0.N) (h0 : t.val % 16 = 0) :
    dgAt m c t.val t.isLt = dgAfter (iblk m c 0 t) (iblk m c 1 t) (iblk m c 2 t) k0_pay1 k0_t1_loop.trips := by
  have hN : t.val < 16 := lt_of_lt_of_eq t.isLt (show cfg0.N = 16 from N_0)
  obtain ⟨n, hn⟩ := t
  cases n with
  | zero => exact rfl
  | succ n => exact absurd h0 (by dsimp only at hN ⊢; omega)

theorem dgAt_B (c : Dev nD) (t : Fin cfg0.N) (h0 : ¬t.val % 16 = 0) :
    dgAt m c t.val t.isLt = dgAfter (iblk m c 0 t) (iblk m c 1 t) (iblk m c 2 t) (dgAt m c (t.val - 1) (Nat.lt_of_le_of_lt (Nat.sub_le _ _) t.isLt)) k0_t1_loop.trips := by
  obtain ⟨n, hn⟩ := t
  cases n with
  | zero => exact absurd (Nat.zero_mod _) h0
  | succ n => exact rfl

/-- The squared errors' sums after point `n`. -/
def seAt (c : Dev nD) : (n : ℕ) → n < cfg0.N → Vec F S8x2048 .f32
  | 0, hn => seAfter (iblk m c 0 ⟨0, hn⟩) (iblk m c 1 ⟨0, hn⟩) (iblk m c 2 ⟨0, hn⟩) k0_pay2 k0_t1_loop.trips
  | n + 1, hn => seAfter (iblk m c 0 ⟨n + 1, hn⟩) (iblk m c 1 ⟨n + 1, hn⟩) (iblk m c 2 ⟨n + 1, hn⟩) (seAt c n (Nat.lt_of_succ_lt hn)) k0_t1_loop.trips

theorem seAt_A (c : Dev nD) (t : Fin cfg0.N) (h0 : t.val % 16 = 0) :
    seAt m c t.val t.isLt = seAfter (iblk m c 0 t) (iblk m c 1 t) (iblk m c 2 t) k0_pay2 k0_t1_loop.trips := by
  have hN : t.val < 16 := lt_of_lt_of_eq t.isLt (show cfg0.N = 16 from N_0)
  obtain ⟨n, hn⟩ := t
  cases n with
  | zero => exact rfl
  | succ n => exact absurd h0 (by dsimp only at hN ⊢; omega)

theorem seAt_B (c : Dev nD) (t : Fin cfg0.N) (h0 : ¬t.val % 16 = 0) :
    seAt m c t.val t.isLt = seAfter (iblk m c 0 t) (iblk m c 1 t) (iblk m c 2 t) (seAt m c (t.val - 1) (Nat.lt_of_le_of_lt (Nat.sub_le _ _) t.isLt)) k0_t1_loop.trips := by
  obtain ⟨n, hn⟩ := t
  cases n with
  | zero => exact absurd (Nat.zero_mod _) h0
  | succ n => exact rfl

/-! ## The pipeline's proof data -/

/-- The pipeline's proof data on core `c`: the arrays as the region finds them; after the body at point `t` each input's
    buffer at its block and the results' at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => join (dxRows (iblk m c 0 t) (iblk m c 1 t) (iblk m c 2 t))
    | ⟨4, _⟩ => join (dxbRows (iblk m c 0 t) (iblk m c 1 t) (iblk m c 2 t))
    | ⟨5, _⟩ => dgAt m c t.val t.isLt
    | ⟨6, _⟩ => seAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = join (dxRows (iblk m c 0 t) (iblk m c 1 t) (iblk m c 2 t)) := by dsimp only [dats]
theorem after0_4 (c : Dev nD) (t : Fin cfg0.N) : (dats m 0 c).after 4 t = join (dxbRows (iblk m c 0 t) (iblk m c 1 t) (iblk m c 2 t)) := by dsimp only [dats]
theorem after0_5 (c : Dev nD) (t : Fin cfg0.N) : (dats m 0 c).after 5 t = dgAt m c t.val t.isLt := by dsimp only [dats]
theorem after0_6 (c : Dev nD) (t : Fin cfg0.N) : (dats m 0 c).after 6 t = seAt m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- After the first point the two sums are what the point before left. -/
theorem before0_5 (c : Dev nD) (t : Fin cfg0.N) (h0 : ¬t.val % 16 = 0) (d) :
    (dats m 0 c).before 5 t d = dgAt m c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

theorem before0_6 (c : Dev nD) (t : Fin cfg0.N) (h0 : ¬t.val % 16 = 0) (d) :
    (dats m 0 c).before 6 t d = seAt m c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' buffers hold their blocks, and the point is the first or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 16 = 0
  · rw [dgAt_A m c t h0, seAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [dgAt_B m c t h0, seAt_B m c t h0]
    simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ (fun h => h0 ((hcond0_0 t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel16Ideal.Loss

end
-- ==== Proof.Loss16Bits.lean ====
/- The loss and its gradient, the frame on machine numbers. The two programs have one text, and `Loss16Frame`'s run holds over any numbers. -/
module

public import proofs.«01_k».proof.Defs
public import proofs.«01_k».proof.Proof.Loss16Frame
public import proofs.«01_k».proof.Proof.Gen.Kernel16

@[expose] public section

noncomputable section

open Idealize.ShloMosaic Idealize.ShloMosaic.TcCoe Idealize.SL.Sem

namespace Cert.Proof.Loss16

/-- The two programs' kernels run the same body. -/
theorem bodies_eq : Cert.Kernel16.defs₀ (F := Bits) = Cert.Kernel16Ideal.defs₀ (F := Bits) := by
  unfold Cert.Kernel16.defs₀ Cert.Kernel16Ideal.defs₀
  refine congrArg Defs.onTc (funext fun l => funext fun a => ?_)
  match l, a with
  | 0, (_, _) => rfl

/-- Every run of the kernel ends with its arguments unchanged and every counter at zero. -/
theorem frame_bits : Cert.quiescent_Kernel16 := fun m ρ _ => by
  have e : Cert.Kernel16.defs (F := Bits) = Cert.Kernel16Ideal.defs (F := Bits) :=
    congrArg (Pipeline.defs Cert.Kernel16Ideal.pcfgs) bodies_eq
  rw [e]
  exact Cert.Kernel16Ideal.Loss.frame (F := Bits) m ρ

end Cert.Proof.Loss16

end
-- ==== Proof.Loss16Row.lean ====
/- The loss and its gradient, row by row: the kernel's formulas and the reference's are one, over any numbers. -/
module

public import proofs.«01_k».proof.Proof.Norm14Row

@[expose] public section

noncomputable section

open Idealize.ShloMosaic
open Cert.Proof.Norm15 (rms)
open Cert.Proof.Norm14 (ms ofBits_n sq_nonneg' row sum_blocks)

namespace Cert.Proof.Loss16

theorem ofBits_inv : Ideal.ofBits .f32 0x3A000000#32 = ((1 / 2048 : ℝ) : EReal) := by
  simp [Ideal.ofBits, Ideal.ieee, -EReal.coe_mul]; norm_num

theorem ofBits_inv2 : Ideal.ofBits .f32 0x39800000#32 = ((1 / 4096 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A row's error: `f` is the row that is normalised, `g` the gain, `t` the target. -/
def err (f g t : Fin 2048 → EReal) (b : Fin 2048) : EReal := f b * rms f * g b - t b

/-- The gradient at the norm's result, as the kernel has it, -/
def dy (f g t : Fin 2048 → EReal) (b : Fin 2048) : EReal := err f g t b * Ideal.ofBits .f32 0x3A000000#32

/-- and as the reference has it. -/
def dyRef (f g t : Fin 2048 → EReal) (b : Fin 2048) : EReal :=
  Ideal.div (Ideal.ofBits .f32 0x3F000000#32) (Ideal.ofBits .f32 0x45000000#32) * (Ideal.ofBits .f32 0x40000000#32 * err f g t b)

theorem dyRef_eq (f g t : Fin 2048 → EReal) (b : Fin 2048) : dyRef f g t b = dy f g t b := by
  unfold dyRef dy
  rw [ofBits_half, ofBits_two, ofBits_n, ofBits_inv, Ideal.div_coe (by norm_num), ← mul_assoc, mul_comm (err f g t b), ← EReal.coe_mul, ← EReal.coe_mul]
  norm_num

/-- The kernel's formula of a row's gradient, -/
def dxAt (f g t : Fin 2048 → EReal) (b : Fin 2048) : EReal :=
  rms f * (dy f g t b * g b) - f b * (rms f * rms f * rms f) * Ideal.div (∑ k : Fin 2048, dy f g t k * g k * f k) (Ideal.ofBits .f32 0x45000000#32)

/-- and the reference's. -/
def refAt (f g t : Fin 2048 → EReal) (b : Fin 2048) : EReal :=
  (dyRef f g t b * g b * rms f + f b * Ideal.div ((∑ k : Fin 2048, f k * (dyRef f g t k * g k)) * (Ideal.ofBits .f32 0xBF000000#32 * Ideal.div (rms f) (ms f))) (Ideal.ofBits .f32 0x45000000#32))
    + Ideal.div ((∑ k : Fin 2048, f k * (dyRef f g t k * g k)) * (Ideal.ofBits .f32 0xBF000000#32 * Ideal.div (rms f) (ms f))) (Ideal.ofBits .f32 0x45000000#32) * f b

theorem refAt_eq (f g t : Fin 2048 → EReal) (b : Fin 2048) : refAt f g t b = dxAt f g t b := by
  have e := row f (fun k => dy f g t k * g k) 0 b
  rw [zero_add, zero_add] at e
  unfold refAt
  simp only [dyRef_eq]
  exact e

/-- A sum of numbers that are not negative, each times one finite number, is the sum times it. -/
theorem sum_mul_coe {ι : Type} (s : Finset ι) (f : ι → EReal) (hf : ∀ i, 0 ≤ f i) (r : ℝ) : ∑ i ∈ s, f i * (r : EReal) = (∑ i ∈ s, f i) * (r : EReal) := by
  classical
  induction s using Finset.induction_on with
  | empty => simp
  | insert a s ha ih => rw [Finset.sum_insert ha, Finset.sum_insert ha, ih, EReal.right_distrib_of_nonneg (hf a) (Finset.sum_nonneg fun i _ => hf i)]

/-- Half the sum of the rows' means is the sum of all the squares over twice the row's length. -/
theorem means (q : Fin 4096 → Fin 2048 → EReal) (hq : ∀ a b, 0 ≤ q a b) :
    Ideal.ofBits .f32 0x3F000000#32 * ∑ a : Fin 4096, Ideal.div (∑ b : Fin 2048, q a b) (Ideal.ofBits .f32 0x45000000#32)
      = Ideal.ofBits .f32 0x39800000#32 * ∑ b : Fin 2048, ∑ a : Fin 4096, q a b := by
  rw [ofBits_half, ofBits_inv2, ofBits_n]
  simp only [Ideal.div_coe (show (2048 : ℝ) ≠ 0 by norm_num)]
  rw [sum_mul_coe _ _ fun a => Finset.sum_nonneg fun b _ => hq a b, mul_comm (Finset.sum _ _), ← mul_assoc, ← EReal.coe_mul, Finset.sum_comm]
  norm_num

/-- The rows summed in the kernel's order: eight at a time within sixteen, sixteen within a block, the blocks, and last the eight. -/
theorem sum_rows (f : ℕ → EReal) : ∑ s ∈ Finset.range 8, ∑ t ∈ Finset.range 16, ∑ k ∈ Finset.range 16, ∑ h ∈ Finset.range 2, f (256 * t + (16 * k + (8 * h + s)))
    = ∑ a ∈ Finset.range 4096, f a := by
  rw [Finset.sum_comm, ← sum_blocks 256 f 16]
  refine Finset.sum_congr rfl fun t _ => ?_
  rw [Finset.sum_comm, ← sum_blocks 16 (fun r => f (256 * t + r)) 16]
  refine Finset.sum_congr rfl fun k _ => ?_
  rw [Finset.sum_comm, ← sum_blocks 8 (fun r => f (256 * t + (16 * k + r))) 2]

end Cert.Proof.Loss16

end
-- ==== Proof.Loss16Trip.lean ====
/- The loss and its gradient: the rows that one trip of the kernel's loop computes. -/
module

public import proofs.«01_k».proof.Defs
public import proofs.«01_k».proof.Proof.Loss16Loop
public import proofs.«01_k».proof.Proof.Loss16Row
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Loss16

open Cert.Kernel16Ideal Cert.Kernel16Ideal.Gen Cert.Kernel16Ideal.Loss Cert.Proof.Pool

/-! ## A trip's rows -/

theorem dx_trip (x0 : Vec Ideal S16x2048 .f32) (x1 : Vec Ideal S1x2048 .f32) (x2 : Vec Ideal S16x2048 .f32) (a : Fin 16) (b : Fin 2048) :
    k0_pay3 (F := Ideal) x0 (k0_pay5 x0) (k0_pay6 x1) (k0_pay9 x0 x1 x2) (ix2 a b) = dxAt (fun k => x0 (ix2 a k)) (fun k => x1 (ix2 0 k)) (fun k => x2 (ix2 a k)) b := by
  pointwise [k0_pay3, k0_pay9, k0_pay7, k0_pay6, k0_pay5]
  rfl

theorem dxb_trip (x0 : Vec Ideal S16x2048 .f32) (x1 : Vec Ideal S1x2048 .f32) (x2 : Vec Ideal S16x2048 .f32) (a : Fin 16) (b : Fin 2048) :
    k0_pay4 (F := Ideal) x0 (k0_pay5 x0) (k0_pay6 x1) (k0_pay9 x0 x1 x2) (ix2 a b) = dxAt (fun k => x0 (ix2 a k)) (fun k => x1 (ix2 0 k)) (fun k => x2 (ix2 a k)) b := by
  pointwise [k0_pay4, k0_pay3, k0_pay9, k0_pay7, k0_pay6, k0_pay5]
  rfl

theorem se_trip (x0 : Vec Ideal S16x2048 .f32) (x1 : Vec Ideal S1x2048 .f32) (x2 : Vec Ideal S16x2048 .f32) (z : Vec Ideal S8x2048 .f32) (s : Fin 8) (b : Fin 2048) :
    k0_pay8 (F := Ideal) x0 x1 x2 z (ix2 s b)
      = z (ix2 s b) + ∑ h : Fin 2, err (fun k => x0 (ix2 ⟨h.val * 8 + s.val, by omega⟩ k)) (fun k => x1 (ix2 0 k)) (fun k => x2 (ix2 ⟨h.val * 8 + s.val, by omega⟩ k)) b * err (fun k => x0 (ix2 ⟨h.val * 8 + s.val, by omega⟩ k)) (fun k => x1 (ix2 0 k)) (fun k => x2 (ix2 ⟨h.val * 8 + s.val, by omega⟩ k)) b := by
  pointwise [k0_pay8, k0_pay7, k0_pay6, k0_pay5]
  rfl

theorem dg_trip (x0 : Vec Ideal S16x2048 .f32) (x1 : Vec Ideal S1x2048 .f32) (x2 : Vec Ideal S16x2048 .f32) (z : Vec Ideal S8x2048 .f32) (s : Fin 8) (b : Fin 2048) :
    k0_pay10 (F := Ideal) x0 x1 x2 z (ix2 s b)
      = z (ix2 s b) + ∑ h : Fin 2, dy (fun k => x0 (ix2 ⟨h.val * 8 + s.val, by omega⟩ k)) (fun k => x1 (ix2 0 k)) (fun k => x2 (ix2 ⟨h.val * 8 + s.val, by omega⟩ k)) b * x0 (ix2 ⟨h.val * 8 + s.val, by omega⟩ b) * rms (fun k => x0 (ix2 ⟨h.val * 8 + s.val, by omega⟩ k)) := by
  pointwise [k0_pay10, k0_pay9, k0_pay7, k0_pay6, k0_pay5]
  rfl

end Cert.Proof.Loss16

end
-- ==== Proof.Loss16Ref.lean ====
/- The loss and its gradient: the reference's results, row by row. -/
module

public import proofs.«01_k».proof.Defs
public import proofs.«01_k».proof.Proof.Buf
public import proofs.«01_k».proof.Proof.Loss16Row
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Loss16

open Cert.Reference16Ideal Cert.Proof.Pool

/-! ## The reference -/

theorem ref_dx (x : FVec Ideal S4096x2048 .f32) (g : FVec Ideal S2048 .f32) (t : FVec Ideal S4096x2048 .f32) (a : Fin 4096) (b : Fin 2048) :
    Cert.Reference16Ideal.Read.val_main_v50 (F := Ideal) x g t (ix2 a b) = refAt (fun k => x (ix2 a k)) (fun k => g (ix1 k)) (fun k => t (ix2 a k)) b := by
  pointwise [Cert.Reference16Ideal.Read.val_main_v50, Cert.Reference16Ideal.Read.val_main_v49, Cert.Reference16Ideal.Read.val_main_v48, Cert.Reference16Ideal.Read.val_main_v47, Cert.Reference16Ideal.Read.val_main_v46, Cert.Reference16Ideal.Read.val_main_v45, Cert.Reference16Ideal.Read.val_main_v44, Cert.Reference16Ideal.Read.val_main_v43, Cert.Reference16Ideal.Read.val_main_v42, Cert.Reference16Ideal.Read.val_main_v41, Cert.Reference16Ideal.Read.val_main_v40, Cert.Reference16Ideal.Read.val_main_v39, Cert.Reference16Ideal.Read.val_main_v38, Cert.Reference16Ideal.Read.val_main_v37, Cert.Reference16Ideal.Read.val_main_v35, Cert.Reference16Ideal.Read.val_main_v34, Cert.Reference16Ideal.Read.val_main_v30, Cert.Reference16Ideal.Read.val_main_v29, Cert.Reference16Ideal.Read.val_main_v28, Cert.Reference16Ideal.Read.val_main_v27, Cert.Reference16Ideal.Read.val_main_v26, Cert.Reference16Ideal.Read.val_main_v25, Cert.Reference16Ideal.Read.val_main_v19, Cert.Reference16Ideal.Read.val_main_v18, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_cst_11, Cert.Reference16Ideal.Read.val_main_cst_12, Cert.Reference16Ideal.Read.val_main_cst_13, Cert.Reference16Ideal.Read.val_main_cst_14, Cert.Reference16Ideal.Read.val_main_cst_15]
  simp only [Finset.univ_unique, Finset.sum_singleton]
  rfl

theorem ref_dg (x : FVec Ideal S4096x2048 .f32) (g : FVec Ideal S2048 .f32) (t : FVec Ideal S4096x2048 .f32) (b : Fin 2048) :
    Cert.Reference16Ideal.Read.val_main_v36 (F := Ideal) x g t (ix1 b)
      = ∑ a : Fin 4096, x (ix2 a b) * rms (fun k => x (ix2 a k)) * dyRef (fun k => x (ix2 a k)) (fun k => g (ix1 k)) (fun k => t (ix2 a k)) b := by
  pointwise [Cert.Reference16Ideal.Read.val_main_v36, Cert.Reference16Ideal.Read.val_main_v33, Cert.Reference16Ideal.Read.val_main_v32, Cert.Reference16Ideal.Read.val_main_v31, Cert.Reference16Ideal.Read.val_main_v30, Cert.Reference16Ideal.Read.val_main_v29, Cert.Reference16Ideal.Read.val_main_v28, Cert.Reference16Ideal.Read.val_main_v27, Cert.Reference16Ideal.Read.val_main_v26, Cert.Reference16Ideal.Read.val_main_v25, Cert.Reference16Ideal.Read.val_main_v19, Cert.Reference16Ideal.Read.val_main_v18, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_cst_11, Cert.Reference16Ideal.Read.val_main_cst_12, Cert.Reference16Ideal.Read.val_main_cst_13, Cert.Reference16Ideal.Read.val_main_cst_14, Cert.Reference16Ideal.Read.val_main_cst_15]
  simp only [Finset.univ_unique, Finset.sum_singleton]
  rfl

theorem ref_loss (x : FVec Ideal S4096x2048 .f32) (g : FVec Ideal S2048 .f32) (t : FVec Ideal S4096x2048 .f32) (i : S_.Idx) :
    Cert.Reference16Ideal.Read.val_main_v24 (F := Ideal) x g t i
      = Ideal.ofBits .f32 0x3F000000#32 * ∑ a : Fin 4096, Ideal.div (∑ b : Fin 2048, err (fun k => x (ix2 a k)) (fun k => g (ix1 k)) (fun k => t (ix2 a k)) b * err (fun k => x (ix2 a k)) (fun k => g (ix1 k)) (fun k => t (ix2 a k)) b) (Ideal.ofBits .f32 0x45000000#32) := by
  pointwise [Cert.Reference16Ideal.Read.val_main_v24, Cert.Reference16Ideal.Read.val_main_v23, Cert.Reference16Ideal.Read.val_main_v22, Cert.Reference16Ideal.Read.val_main_v21, Cert.Reference16Ideal.Read.val_main_v20, Cert.Reference16Ideal.Read.val_main_v17, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_cst_11, Cert.Reference16Ideal.Read.val_main_cst_12, Cert.Reference16Ideal.Read.val_main_cst_13, Cert.Reference16Ideal.Read.val_main_cst_14, Cert.Reference16Ideal.Read.val_main_cst_15]
  rfl

end Cert.Proof.Loss16

end
-- ==== Proof.Loss16.lean ====
/- The loss and its gradient: the kernel's four results are the reference's. -/
module

public import proofs.«01_k».proof.Defs
public import proofs.«01_k».proof.Proof.Loss16Frame
public import proofs.«01_k».proof.Proof.Loss16Trip
public import proofs.«01_k».proof.Proof.Loss16Ref
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.Proof.Norm15 (rms)

namespace Cert.Proof.Loss16

open Cert.Kernel16Ideal Cert.Kernel16Ideal.Gen Cert.Kernel16Ideal.Loss Cert.Proof.Pool

/-! ## A block's rows -/

theorem rows_apply (X : Vec Ideal S256x2048 .f32) (k : Fin k0_t1_loop.trips) (a : Fin 16) (b : Fin 2048) :
    rows X k (ix2 a b) = X (ix2 ⟨16 * k.val + a.val, by have := trip_lt k; omega⟩ b) := by
  obtain ⟨h0, h1⟩ := emb_val k (ix2 a b)
  exact congrArg X (funext fun d => Fin.ext (match d with | ⟨0, _⟩ => h0 | ⟨1, _⟩ => h1))

theorem join_apply {e : EltTy} (p : Fin k0_t1_loop.trips → Vec Ideal S16x2048 e) (a : Fin 256) (b : Fin 2048) :
    join p (ix2 a b) = p ⟨a.val / 16, by rw [trips_eq]; omega⟩ (ix2 ⟨a.val % 16, by omega⟩ b) :=
  congrArg (p _) (funext fun d => Fin.ext (match d with | ⟨0, _⟩ => rfl | ⟨1, _⟩ => rfl))

section
variable (x0 : Vec Ideal S256x2048 .f32) (x1 : Vec Ideal S1x2048 .f32) (x2 : Vec Ideal S256x2048 .f32)

theorem rows_join (X : Vec Ideal S256x2048 .f32) (a : Fin 256) (b : Fin 2048) :
    rows X ⟨a.val / 16, by rw [trips_eq]; omega⟩ (ix2 ⟨a.val % 16, by omega⟩ b) = X (ix2 a b) := by
  rw [rows_apply]
  exact congrArg (fun r => X (ix2 r b)) (Fin.ext (Nat.div_add_mod a.val 16))

theorem dx_block (a : Fin 256) (b : Fin 2048) : join (dxRows x0 x1 x2) (ix2 a b) = dxAt (fun k => x0 (ix2 a k)) (fun k => x1 (ix2 0 k)) (fun k => x2 (ix2 a k)) b := by
  rw [join_apply, dxRows, dx_trip]
  simp only [rows_join]

theorem dxb_block (a : Fin 256) (b : Fin 2048) : join (dxbRows x0 x1 x2) (ix2 a b) = dxAt (fun k => x0 (ix2 a k)) (fun k => x1 (ix2 0 k)) (fun k => x2 (ix2 a k)) b := by
  rw [join_apply, dxbRows, dxb_trip]
  simp only [rows_join]

/-- What row `n` of a block adds to the gain's gradient, -/
def dgTerm (b : Fin 2048) (n : ℕ) : EReal :=
  if h : n < 256 then dy (fun k => x0 (ix2 ⟨n, h⟩ k)) (fun k => x1 (ix2 0 k)) (fun k => x2 (ix2 ⟨n, h⟩ k)) b * x0 (ix2 ⟨n, h⟩ b) * rms (fun k => x0 (ix2 ⟨n, h⟩ k)) else 0

/-- and to the squared errors' sums. -/
def seTerm (b : Fin 2048) (n : ℕ) : EReal :=
  if h : n < 256 then err (fun k => x0 (ix2 ⟨n, h⟩ k)) (fun k => x1 (ix2 0 k)) (fun k => x2 (ix2 ⟨n, h⟩ k)) b * err (fun k => x0 (ix2 ⟨n, h⟩ k)) (fun k => x1 (ix2 0 k)) (fun k => x2 (ix2 ⟨n, h⟩ k)) b else 0

theorem dgAfter_apply (z : Vec Ideal S8x2048 .f32) (s : Fin 8) (b : Fin 2048) (n : ℕ) (hn : n ≤ 16) :
    dgAfter x0 x1 x2 z n (ix2 s b) = z (ix2 s b) + ∑ k ∈ Finset.range n, ∑ h ∈ Finset.range 2, dgTerm x0 x1 x2 b (16 * k + (8 * h + s.val)) := by
  induction n with
  | zero => rw [dgAfter.eq_1, Finset.sum_range_zero, add_zero]
  | succ n ih =>
    have ht : n < k0_t1_loop.trips := by rw [trips_eq]; omega
    rw [dgAfter.eq_2, dif_pos ht, dg_trip, ih (by omega), Finset.sum_range_succ, add_assoc]
    refine congrArg (z (ix2 s b) + ·) (congrArg (_ + ·) ?_)
    rw [Finset.sum_range]
    refine Finset.sum_congr rfl fun h _ => ?_
    have hr : 16 * n + (8 * h.val + s.val) < 256 := by omega
    rw [dgTerm, dif_pos hr]
    simp only [rows_apply]
    have e : ∀ p, (⟨16 * n + (h.val * 8 + s.val), p⟩ : Fin 256) = ⟨16 * n + (8 * h.val + s.val), hr⟩ := fun p => Fin.ext (by dsimp only; omega)
    simp only [e]

theorem seAfter_apply (z : Vec Ideal S8x2048 .f32) (s : Fin 8) (b : Fin 2048) (n : ℕ) (hn : n ≤ 16) :
    seAfter x0 x1 x2 z n (ix2 s b) = z (ix2 s b) + ∑ k ∈ Finset.range n, ∑ h ∈ Finset.range 2, seTerm x0 x1 x2 b (16 * k + (8 * h + s.val)) := by
  induction n with
  | zero => rw [seAfter.eq_1, Finset.sum_range_zero, add_zero]
  | succ n ih =>
    have ht : n < k0_t1_loop.trips := by rw [trips_eq]; omega
    rw [seAfter.eq_2, dif_pos ht, se_trip, ih (by omega), Finset.sum_range_succ, add_assoc]
    refine congrArg (z (ix2 s b) + ·) (congrArg (_ + ·) ?_)
    rw [Finset.sum_range]
    refine Finset.sum_congr rfl fun h _ => ?_
    have hr : 16 * n + (8 * h.val + s.val) < 256 := by omega
    rw [seTerm, dif_pos hr]
    simp only [rows_apply]
    have e : ∀ p, (⟨16 * n + (h.val * 8 + s.val), p⟩ : Fin 256) = ⟨16 * n + (8 * h.val + s.val), hr⟩ := fun p => Fin.ext (by dsimp only; omega)
    simp only [e]

end

variable (m : (ℓ : Loc nD τ sig) → Buf (Elt Ideal) ℓ)

/-! ## The blocks -/

/-- The block each window holds at each grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] :=
  (by decide +kernel : ∀ t : Fin grid0.N, _)

theorem pt_lt (t : Fin cfg0.N) : t.val < 16 := lt_of_lt_of_eq t.isLt (show cfg0.N = 16 from N_0)

/-- Row `a` of grid point `t`'s block. -/
def at_ (t : Fin cfg0.N) (a : Fin 256) : Fin 4096 := ⟨256 * t.val + a.val, by have := pt_lt t; omega⟩

theorem blk0 (c : Dev nD) (t : Fin cfg0.N) (a : Fin 256) (b : Fin 2048) :
    iblk m c 0 t (ix2 a b) = m ((c : Thread nD τ).loc main_arg0) (ix2 (at_ t a) b) := by
  blk_ext [iblk, V, at_, idx t]

theorem blk2 (c : Dev nD) (t : Fin cfg0.N) (a : Fin 256) (b : Fin 2048) :
    iblk m c 2 t (ix2 a b) = m ((c : Thread nD τ).loc main_arg2) (ix2 (at_ t a) b) := by
  blk_ext [iblk, V, at_, idx t]

theorem blk1 (c : Dev nD) (t : Fin cfg0.N) (a : Fin 1) (b : Fin 2048) :
    iblk m c 1 t (ix2 a b) = m ((c : Thread nD τ).loc main_arg1) (ix1 b) := by
  have e : iblk m c 1 t (ix2 a b) = V m c main_v0 (ix2 a b) := by
    blk_ext [iblk, V, idx t]
  rw [e]
  simp only [V, V0, List.flatten_cons, List.flatten_nil, List.append_nil]
  after_results
  pointwise

/-- Where the results' blocks lie. -/
theorem emb3 (t : Fin cfg0.N) (a : Fin 256) (b : Fin 2048) : ((cfg0.win 3).blk t).view.emb (ix2 a b) = ix2 (at_ t a) b := by
  refine funext fun d => Fin.ext ?_
  blk_simp
  rw [(idx t).2.2.2.1]
  match d with
  | ⟨0, _⟩ => exact congrArg (· + a.val) (Nat.mul_comm t.val 256)
  | ⟨1, _⟩ => exact (congrArg (· + b.val) (Nat.zero_mul 2048)).trans (Nat.zero_add _)

theorem emb4 (t : Fin cfg0.N) (a : Fin 256) (b : Fin 2048) : ((cfg0.win 4).blk t).view.emb (ix2 a b) = ix2 (at_ t a) b := by
  refine funext fun d => Fin.ext ?_
  blk_simp
  rw [(idx t).2.2.2.2.1]
  match d with
  | ⟨0, _⟩ => exact congrArg (· + a.val) (Nat.mul_comm t.val 256)
  | ⟨1, _⟩ => exact (congrArg (· + b.val) (Nat.zero_mul 2048)).trans (Nat.zero_add _)

theorem emb5 (t : Fin cfg0.N) (j : S8x2048.Idx) : ((cfg0.win 5).blk t).view.emb j = j := by
  refine funext fun d => Fin.ext ?_
  blk_simp
  rw [(idx t).2.2.2.2.2.1]
  match d with
  | ⟨0, _⟩ => exact (congrArg (· + (j 0).val) (Nat.zero_mul 8)).trans (Nat.zero_add _)
  | ⟨1, _⟩ => exact (congrArg (· + (j 1).val) (Nat.zero_mul 2048)).trans (Nat.zero_add _)

theorem emb6 (t : Fin cfg0.N) (j : S8x2048.Idx) : ((cfg0.win 6).blk t).view.emb j = j := by
  refine funext fun d => Fin.ext ?_
  blk_simp
  rw [(idx t).2.2.2.2.2.2]
  match d with
  | ⟨0, _⟩ => exact (congrArg (· + (j 0).val) (Nat.zero_mul 8)).trans (Nat.zero_add _)
  | ⟨1, _⟩ => exact (congrArg (· + (j 1).val) (Nat.zero_mul 2048)).trans (Nat.zero_add _)

/-! ## The results -/

/-- The reference's gradient as a function of its arguments. -/
abbrev goal (x : FVec Ideal S4096x2048 .f32) (g : FVec Ideal S2048 .f32) (t : FVec Ideal S4096x2048 .f32) : FVec Ideal S4096x2048 .f32 :=
  Cert.Reference16Ideal.Read.val_main_v50 (F := Ideal) x g t

theorem goal_apply (x : FVec Ideal S4096x2048 .f32) (g : FVec Ideal S2048 .f32) (t : FVec Ideal S4096x2048 .f32) (a : Fin 4096) (b : Fin 2048) :
    goal x g t (ix2 a b) = dxAt (fun k => x (ix2 a k)) (fun k => g (ix1 k)) (fun k => t (ix2 a k)) b :=
  (ref_dx x g t a b).trans (refAt_eq ..)

theorem point (c : Dev nD) (t : Fin cfg0.N) (a : Fin 256) (b : Fin 2048) :
    dxAt (fun k => iblk m c 0 t (ix2 a k)) (fun k => iblk m c 1 t (ix2 0 k)) (fun k => iblk m c 2 t (ix2 a k)) b = goal (m ((c : Thread nD τ).loc main_arg0)) (m ((c : Thread nD τ).loc main_arg1)) (m ((c : Thread nD τ).loc main_arg2)) (ix2 (at_ t a) b) := by
  rw [goal_apply]
  simp only [blk0, blk1, blk2]

theorem final3 (c : Dev nD) : (dats m 0 c).arrAt 3 (cfgs 0).N = goal (m ((c : Thread nD τ).loc main_arg0)) (m ((c : Thread nD τ).loc main_arg1)) (m ((c : Thread nD τ).loc main_arg2)) := by
  generalize hG : goal (m ((c : Thread nD τ).loc main_arg0)) (m ((c : Thread nD τ).loc main_arg1)) (m ((c : Thread nD τ).loc main_arg2)) = G
  refine (dats m 0 c).arrAt_eq_of_covers 3 _ (by decide +kernel) fun t _ j => ?_
  blk_simp
  rw [after0_3, ← hG]
  obtain ⟨a, b, rfl⟩ : ∃ a b, j = ix2 a b := ⟨j 0, j 1, eq_ix2 j⟩
  rw [emb3]
  exact (dx_block _ _ _ a b).trans (point m c t a b)

theorem final4 (c : Dev nD) : (dats m 0 c).arrAt 4 (cfgs 0).N
    = (Cert.Reference16Ideal.Read.val_main_v51 (F := Ideal) (m ((c : Thread nD τ).loc main_arg0)) (m ((c : Thread nD τ).loc main_arg1)) (m ((c : Thread nD τ).loc main_arg2)) : FVec Ideal S4096x2048 .bf16) := by
  generalize hG : (Cert.Reference16Ideal.Read.val_main_v51 (F := Ideal) (m ((c : Thread nD τ).loc main_arg0)) (m ((c : Thread nD τ).loc main_arg1)) (m ((c : Thread nD τ).loc main_arg2)) : FVec Ideal S4096x2048 .bf16) = G
  refine (dats m 0 c).arrAt_eq_of_covers 4 _ (by decide +kernel) fun t _ j => ?_
  blk_simp
  rw [after0_4, ← hG]
  obtain ⟨a, b, rfl⟩ : ∃ a b, j = ix2 a b := ⟨j 0, j 1, eq_ix2 j⟩
  rw [emb4]
  exact (dxb_block _ _ _ a b).trans (point m c t a b)

/-- What row `n` of the arrays adds to the gain's gradient, -/
def dgAll (x : FVec Ideal S4096x2048 .f32) (g : FVec Ideal S2048 .f32) (t : FVec Ideal S4096x2048 .f32) (b : Fin 2048) (n : ℕ) : EReal :=
  if p : n < 4096 then dy (fun k => x (ix2 ⟨n, p⟩ k)) (fun k => g (ix1 k)) (fun k => t (ix2 ⟨n, p⟩ k)) b * x (ix2 ⟨n, p⟩ b) * rms (fun k => x (ix2 ⟨n, p⟩ k)) else 0

/-- and to the squared errors' sums. -/
def seAll (x : FVec Ideal S4096x2048 .f32) (g : FVec Ideal S2048 .f32) (t : FVec Ideal S4096x2048 .f32) (b : Fin 2048) (n : ℕ) : EReal :=
  if p : n < 4096 then err (fun k => x (ix2 ⟨n, p⟩ k)) (fun k => g (ix1 k)) (fun k => t (ix2 ⟨n, p⟩ k)) b * err (fun k => x (ix2 ⟨n, p⟩ k)) (fun k => g (ix1 k)) (fun k => t (ix2 ⟨n, p⟩ k)) b else 0

theorem pay1_apply (s : Fin 8) (b : Fin 2048) : k0_pay1 (F := Ideal) (ix2 s b) = 0 := by
  pointwise [k0_pay1]

theorem pay2_apply (s : Fin 8) (b : Fin 2048) : k0_pay2 (F := Ideal) (ix2 s b) = 0 := by
  pointwise [k0_pay2]

theorem last : 15 < cfg0.N := by decide

theorem dgTerm_eq (c : Dev nD) (t : Fin cfg0.N) (b : Fin 2048) (r : ℕ) (hr : r < 256) :
    dgTerm (iblk m c 0 t) (iblk m c 1 t) (iblk m c 2 t) b r = dgAll (m ((c : Thread nD τ).loc main_arg0)) (m ((c : Thread nD τ).loc main_arg1)) (m ((c : Thread nD τ).loc main_arg2)) b (256 * t.val + r) := by
  have ht := pt_lt t
  rw [dgTerm, dif_pos hr, dgAll, dif_pos (show 256 * t.val + r < 4096 by omega)]
  simp only [blk0, blk1, blk2]
  rfl

/-- The gain's gradient after the first points, eight sums still apart. -/
theorem dgAt_apply (c : Dev nD) (s : Fin 8) (b : Fin 2048) (n : ℕ) : ∀ hn : n < cfg0.N, dgAt m c n hn (ix2 s b)
    = ∑ t ∈ Finset.range (n + 1), ∑ k ∈ Finset.range 16, ∑ h ∈ Finset.range 2, dgAll (m ((c : Thread nD τ).loc main_arg0)) (m ((c : Thread nD τ).loc main_arg1)) (m ((c : Thread nD τ).loc main_arg2)) b (256 * t + (16 * k + (8 * h + s.val))) := by
  have key : ∀ (t : Fin cfg0.N), ∑ k ∈ Finset.range 16, ∑ h ∈ Finset.range 2, dgTerm (iblk m c 0 t) (iblk m c 1 t) (iblk m c 2 t) b (16 * k + (8 * h + s.val))
      = ∑ k ∈ Finset.range 16, ∑ h ∈ Finset.range 2, dgAll (m ((c : Thread nD τ).loc main_arg0)) (m ((c : Thread nD τ).loc main_arg1)) (m ((c : Thread nD τ).loc main_arg2)) b (256 * t.val + (16 * k + (8 * h + s.val))) := fun t =>
    Finset.sum_congr rfl fun k hk => Finset.sum_congr rfl fun h hh => dgTerm_eq m c t b _ (by have := Finset.mem_range.mp hk; have := Finset.mem_range.mp hh; omega)
  induction n with
  | zero =>
    intro hn
    have e := dgAfter_apply (iblk m c 0 ⟨0, hn⟩) (iblk m c 1 ⟨0, hn⟩) (iblk m c 2 ⟨0, hn⟩) (k0_pay1 (F := Ideal)) s b 16 le_rfl
    rw [pay1_apply, zero_add, key] at e
    rw [Finset.sum_range_one]
    exact (congrFun (congrArg (dgAfter _ _ _ _) trips_eq) _).trans e
  | succ n ih =>
    intro hn
    have e := dgAfter_apply (iblk m c 0 ⟨n + 1, hn⟩) (iblk m c 1 ⟨n + 1, hn⟩) (iblk m c 2 ⟨n + 1, hn⟩) (dgAt m c n (Nat.lt_of_succ_lt hn)) s b 16 le_rfl
    rw [ih, key] at e
    rw [Finset.sum_range_succ _ (n + 1)]
    exact (congrFun (congrArg (dgAfter _ _ _ _) trips_eq) _).trans e

theorem final5 (c : Dev nD) : (dats m 0 c).arrAt 5 (cfgs 0).N = dgAt m c 15 last := by
  refine (dats m 0 c).arrAt_eq_of_covers 5 _ (by decide +kernel) fun t hf j => ?_
  have h15 : t.val = 15 := by have := (flush0_5 t).mp hf; have := pt_lt t; omega
  blk_simp
  rw [after0_5]
  refine Eq.trans ?_ (congrArg (dgAt m c 15 last) (emb5 t j).symm)
  obtain ⟨n, hn⟩ := t
  obtain rfl : n = 15 := h15
  rfl

/-- The eight sums together are the sum over all the rows. -/
theorem dg_rows (c : Dev nD) (b : Fin 2048) : ∑ s : Fin 8, dgAt m c 15 last (ix2 s b) = ∑ a ∈ Finset.range 4096, dgAll (m ((c : Thread nD τ).loc main_arg0)) (m ((c : Thread nD τ).loc main_arg1)) (m ((c : Thread nD τ).loc main_arg2)) b a := by
  simp only [dgAt_apply]
  rw [← Finset.sum_range (fun s => ∑ t ∈ Finset.range (15 + 1), ∑ k ∈ Finset.range 16, ∑ h ∈ Finset.range 2, dgAll (m ((c : Thread nD τ).loc main_arg0)) (m ((c : Thread nD τ).loc main_arg1)) (m ((c : Thread nD τ).loc main_arg2)) b (256 * t + (16 * k + (8 * h + s))))]
  exact sum_rows (dgAll (m ((c : Thread nD τ).loc main_arg0)) (m ((c : Thread nD τ).loc main_arg1)) (m ((c : Thread nD τ).loc main_arg2)) b)

theorem seTerm_eq (c : Dev nD) (t : Fin cfg0.N) (b : Fin 2048) (r : ℕ) (hr : r < 256) :
    seTerm (iblk m c 0 t) (iblk m c 1 t) (iblk m c 2 t) b r = seAll (m ((c : Thread nD τ).loc main_arg0)) (m ((c : Thread nD τ).loc main_arg1)) (m ((c : Thread nD τ).loc main_arg2)) b (256 * t.val + r) := by
  have ht := pt_lt t
  rw [seTerm, dif_pos hr, seAll, dif_pos (show 256 * t.val + r < 4096 by omega)]
  simp only [blk0, blk1, blk2]
  rfl

/-- The squared errors' sums after the first points, eight still apart. -/
theorem seAt_apply (c : Dev nD) (s : Fin 8) (b : Fin 2048) (n : ℕ) : ∀ hn : n < cfg0.N, seAt m c n hn (ix2 s b)
    = ∑ t ∈ Finset.range (n + 1), ∑ k ∈ Finset.range 16, ∑ h ∈ Finset.range 2, seAll (m ((c : Thread nD τ).loc main_arg0)) (m ((c : Thread nD τ).loc main_arg1)) (m ((c : Thread nD τ).loc main_arg2)) b (256 * t + (16 * k + (8 * h + s.val))) := by
  have key : ∀ (t : Fin cfg0.N), ∑ k ∈ Finset.range 16, ∑ h ∈ Finset.range 2, seTerm (iblk m c 0 t) (iblk m c 1 t) (iblk m c 2 t) b (16 * k + (8 * h + s.val))
      = ∑ k ∈ Finset.range 16, ∑ h ∈ Finset.range 2, seAll (m ((c : Thread nD τ).loc main_arg0)) (m ((c : Thread nD τ).loc main_arg1)) (m ((c : Thread nD τ).loc main_arg2)) b (256 * t.val + (16 * k + (8 * h + s.val))) := fun t =>
    Finset.sum_congr rfl fun k hk => Finset.sum_congr rfl fun h hh => seTerm_eq m c t b _ (by have := Finset.mem_range.mp hk; have := Finset.mem_range.mp hh; omega)
  induction n with
  | zero =>
    intro hn
    have e := seAfter_apply (iblk m c 0 ⟨0, hn⟩) (iblk m c 1 ⟨0, hn⟩) (iblk m c 2 ⟨0, hn⟩) (k0_pay2 (F := Ideal)) s b 16 le_rfl
    rw [pay2_apply, zero_add, key] at e
    rw [Finset.sum_range_one]
    exact (congrFun (congrArg (seAfter _ _ _ _) trips_eq) _).trans e
  | succ n ih =>
    intro hn
    have e := seAfter_apply (iblk m c 0 ⟨n + 1, hn⟩) (iblk m c 1 ⟨n + 1, hn⟩) (iblk m c 2 ⟨n + 1, hn⟩) (seAt m c n (Nat.lt_of_succ_lt hn)) s b 16 le_rfl
    rw [ih, key] at e
    rw [Finset.sum_range_succ _ (n + 1)]
    exact (congrFun (congrArg (seAfter _ _ _ _) trips_eq) _).trans e

theorem final6 (c : Dev nD) : (dats m 0 c).arrAt 6 (cfgs 0).N = seAt m c 15 last := by
  refine (dats m 0 c).arrAt_eq_of_covers 6 _ (by decide +kernel) fun t hf j => ?_
  have h15 : t.val = 15 := by have := (flush0_6 t).mp hf; have := pt_lt t; omega
  blk_simp
  rw [after0_6]
  refine Eq.trans ?_ (congrArg (seAt m c 15 last) (emb6 t j).symm)
  obtain ⟨n, hn⟩ := t
  obtain rfl : n = 15 := h15
  rfl

/-- The eight sums together are the sum over all the rows. -/
theorem se_rows (c : Dev nD) (b : Fin 2048) : ∑ s : Fin 8, seAt m c 15 last (ix2 s b) = ∑ a ∈ Finset.range 4096, seAll (m ((c : Thread nD τ).loc main_arg0)) (m ((c : Thread nD τ).loc main_arg1)) (m ((c : Thread nD τ).loc main_arg2)) b a := by
  simp only [seAt_apply]
  rw [← Finset.sum_range (fun s => ∑ t ∈ Finset.range (15 + 1), ∑ k ∈ Finset.range 16, ∑ h ∈ Finset.range 2, seAll (m ((c : Thread nD τ).loc main_arg0)) (m ((c : Thread nD τ).loc main_arg1)) (m ((c : Thread nD τ).loc main_arg2)) b (256 * t + (16 * k + (8 * h + s))))]
  exact sum_rows (seAll (m ((c : Thread nD τ).loc main_arg0)) (m ((c : Thread nD τ).loc main_arg1)) (m ((c : Thread nD τ).loc main_arg2)) b)

theorem dg_tail (c : Dev nD) : Host.reduceAdd (F := Ideal) (dgAt m c 15 last : Vec Ideal S8x2048 .f32) (constant S_ .f32 0x00000000#32) reducesTo_S8x2048_S2048_d0 h_S_
      = (Cert.Reference16Ideal.Read.val_main_v36 (F := Ideal) (m ((c : Thread nD τ).loc main_arg0)) (m ((c : Thread nD τ).loc main_arg1)) (m ((c : Thread nD τ).loc main_arg2)) : FVec Ideal S2048 .f32) := by
  refine ext1 fun b => ?_
  refine Eq.trans ?_ (ref_dg (m ((c : Thread nD τ).loc main_arg0)) (m ((c : Thread nD τ).loc main_arg1)) (m ((c : Thread nD τ).loc main_arg2)) b).symm
  pointwise
  rw [dg_rows, Finset.sum_range]
  refine Finset.sum_congr rfl fun a _ => ?_
  rw [dgAll, dif_pos a.isLt, dyRef_eq]
  exact (mul_assoc _ _ _).trans (mul_comm _ _)

theorem se_tail (c : Dev nD) : mulf (constant (F := Ideal) S_ .f32 0x39800000#32) (Host.reduceAdd (F := Ideal) (seAt m c 15 last : Vec Ideal S8x2048 .f32) (constant S_ .f32 0x00000000#32) reducesTo_S8x2048_S_d0_1 h_S_)
      = (Cert.Reference16Ideal.Read.val_main_v24 (F := Ideal) (m ((c : Thread nD τ).loc main_arg0)) (m ((c : Thread nD τ).loc main_arg1)) (m ((c : Thread nD τ).loc main_arg2)) : FVec Ideal S_ .f32) := by
  refine funext fun i => ?_
  refine Eq.trans ?_ ((ref_loss (m ((c : Thread nD τ).loc main_arg0)) (m ((c : Thread nD τ).loc main_arg1)) (m ((c : Thread nD τ).loc main_arg2)) i).trans (means _ fun a b => Cert.Proof.Norm14.sq_nonneg' _)).symm
  pointwise
  refine congrArg (Ideal.ofBits .f32 0x39800000#32 * ·) ?_
  rw [Finset.sum_comm]
  refine Finset.sum_congr rfl fun b _ => ?_
  rw [se_rows, Finset.sum_range]
  refine Finset.sum_congr rfl fun a _ => ?_
  rw [seAll, dif_pos a.isLt]

theorem arr_inj : Function.Injective (Pipeline.arrRef spec0) := by decide +kernel

/-- The host's sums after the kernel read the last two windows' arrays. -/
theorem after_v4 (c : Dev nD) : Pipeline.afterTail₀ cfgs (dats m) 0 (V0 m) [hostOps1] c main_v4
    = Host.reduceAdd (F := Ideal) ((dats m 0 c).arrAt 5 cfg0.N : Vec Ideal S8x2048 .f32) (constant S_ .f32 0x00000000#32) reducesTo_S8x2048_S2048_d0 h_S_ := by
  have e := Pipeline.withArrays_arr (cfgs 0).spec arr_inj c (V0 m c) (fun w => (dats m 0 c).arrAt w (cfgs 0).N) 5
  unfold Pipeline.afterTail₀
  simp only [List.flatten_cons, List.flatten_nil, List.append_nil, hostOps1]
  after_results
  exact congrArg (fun A : Vec Ideal S8x2048 .f32 => Host.reduceAdd (F := Ideal) (A : Vec Ideal S8x2048 .f32) (constant S_ .f32 0x00000000#32) reducesTo_S8x2048_S2048_d0 h_S_) e

theorem after_v3 (c : Dev nD) : Pipeline.afterTail₀ cfgs (dats m) 0 (V0 m) [hostOps1] c main_v3
    = mulf (constant (F := Ideal) S_ .f32 0x39800000#32) (Host.reduceAdd (F := Ideal) ((dats m 0 c).arrAt 6 cfg0.N : Vec Ideal S8x2048 .f32) (constant S_ .f32 0x00000000#32) reducesTo_S8x2048_S_d0_1 h_S_) := by
  have e := Pipeline.withArrays_arr (cfgs 0).spec arr_inj c (V0 m c) (fun w => (dats m 0 c).arrAt w (cfgs 0).N) 6
  unfold Pipeline.afterTail₀
  simp only [List.flatten_cons, List.flatten_nil, List.append_nil, hostOps1]
  after_results
  exact congrArg (fun A : Vec Ideal S8x2048 .f32 => mulf (constant (F := Ideal) S_ .f32 0x39800000#32) (Host.reduceAdd (F := Ideal) (A : Vec Ideal S8x2048 .f32) (constant S_ .f32 0x00000000#32) reducesTo_S8x2048_S_d0_1 h_S_)) e

/-- What the kernel's program ends holding. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = mulf (constant (F := Ideal) S_ .f32 0x39800000#32) (Host.reduceAdd (F := Ideal) ((dats m 0 c).arrAt 6 cfg0.N : Vec Ideal S8x2048 .f32) (constant S_ .f32 0x00000000#32) reducesTo_S8x2048_S_d0_1 h_S_)
      ∧ r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v4) = Host.reduceAdd (F := Ideal) ((dats m 0 c).arrAt 5 cfg0.N : Vec Ideal S8x2048 .f32) (constant S_ .f32 0x00000000#32) reducesTo_S8x2048_S2048_d0 h_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  run_from run_main m g
  · exact after_v3 m c
  · exact after_v4 m c
  · exact W_main_arg1 m (dats m) c

theorem reference_frame : Cert.quiescent_Reference16Ideal := fun m ρ _ =>
  θ_run_mono (Cert.Reference16Ideal.Value.run m ρ) fun _ h => ⟨fun c => (h c).2.2.2.2, funext fun g => match g with | (_, .reg s) => s.elim0 | (_, .dma s) => s.elim0⟩

theorem algebraic : Cert.algebraic_Kernel16Ideal_Reference16Ideal := by
  intro m g m' g' _ hagree
  refine ⟨_, _, _, _, kernel_run m g, θ_run_mono (Cert.Reference16Ideal.Value.run m' g') fun _ h c => ?_⟩
  obtain ⟨a0, a1, a2⟩ := hagree c
  obtain ⟨h0, h1, h2, h3, h4⟩ := h c
  refine ⟨h0.trans ?_, h1.trans ?_, h2.trans ?_, h3.trans ?_, h4⟩
  · rw [a0, a1, a2]
    refine (Cert.Reference16Ideal.Read.val_main_v24_eq _ _ _).trans ((se_tail m c).symm.trans ?_)
    exact congrArg (fun A : Vec Ideal S8x2048 .f32 => mulf (constant (F := Ideal) S_ .f32 0x39800000#32) (Host.reduceAdd (F := Ideal) (A : Vec Ideal S8x2048 .f32) (constant S_ .f32 0x00000000#32) reducesTo_S8x2048_S_d0_1 h_S_)) (final6 m c).symm
  · refine (Cert.Reference16Ideal.Read.val_main_v50_eq m' c).trans ?_
    rw [a0, a1, a2]
    exact (final3 m c).symm
  · refine (Cert.Reference16Ideal.Read.val_main_v51_eq m' c).trans ?_
    rw [a0, a1, a2]
    exact (final4 m c).symm
  · rw [a0, a1, a2]
    refine (Cert.Reference16Ideal.Read.val_main_v36_eq _ _ _).trans ((dg_tail m c).symm.trans ?_)
    exact congrArg (fun A : Vec Ideal S8x2048 .f32 => Host.reduceAdd (F := Ideal) (A : Vec Ideal S8x2048 .f32) (constant S_ .f32 0x00000000#32) reducesTo_S8x2048_S2048_d0 h_S_) (final5 m c).symm

end Cert.Proof.Loss16

end
-- ==== Proof.RSum.lean ====
/- The reference's running sums: a window of the whole height, padded before or after, over an array of reals. -/
module

public import proofs.«01_k».proof.Defs
public import proofs.«01_k».proof.Proof.Num
public import Idealize.ShloMosaic.Lib.Pipeline.Value
public import Idealize.ShloMosaic.Lib.ValueIdx
public import Idealize.ShloMosaic.Lib.Pointwise

@[expose] public section

noncomputable section

namespace Cert.Proof.Pool

open Cert.ReferenceIdeal Idealize.ShloMosaic Idealize.ShloMosaic.TcCoe Idealize.SL.Sem

/-- A left fold of additions of reals. -/
theorem foldl_coe {ι : Type} (l : List ι) (g : ι → EReal) (r : ι → ℝ) (h : ∀ n ∈ l, g n = ((r n : ℝ) : EReal)) (z : ℝ) :
    l.foldl (fun acc n => acc + g n) (z : EReal) = ((z + (l.map r).sum : ℝ) : EReal) := by
  induction l generalizing z with
  | nil => simp
  | cons n l ih =>
    rw [List.foldl_cons, h n (List.mem_cons_self ..), ← EReal.coe_add, ih (fun k hk => h k (List.mem_cons_of_mem _ hk)), List.map_cons, List.sum_cons, add_assoc]

/-- A column of height `R`. -/
abbrev col (R : ℕ) : Shape := ⟨3, ![1, R, 1]⟩

theorem numel_col (R : ℕ) : (col R).numel = R := by
  simp [Shape.numel, Fin.prod_univ_three]

theorem symm_col (R : ℕ) (n : Fin (col R).numel) : (col R).rowMajor.symm n = ix3 (0 : Fin 1) (n.cast (numel_col R)) (0 : Fin 1) := by
  rw [Equiv.symm_apply_eq]
  refine Fin.ext ?_
  rw [Shape.rowMajor_val_three]
  show n.val = (0 * R + n.val) * 1 + 0
  omega

theorem sum_col (R : ℕ) (r : ℕ → ℝ) : ((List.finRange (col R).numel).map fun n => r n.val).sum = ∑ k ∈ Finset.range R, r k := by
  rw [← Fin.sum_univ_def, Fin.sum_univ_eq_sum_range, numel_col]

/-- The window of `R` rows that begins `L` rows before each row. -/
theorem window_sum (R C L H : ℕ) (f : ℕ → ℕ → ℕ → ℝ) (u : Shape) (init : Vec Ideal u .f32) (hu : 0 < u.numel) (hi : init (Shape.Idx.first hu) = 0)
    (h : (⟨3, ![1, R, C]⟩ : Shape).ReduceWindows (![1, R, 1] : Fin 3 → Nat) ![1, 1, 1] ![0, L, 0] ![0, H, 0] ⟨3, ![1, R, C]⟩) :
    Host.reduceWindowAdd (F := Ideal) (φ := .f32) ![1, R, 1] ![1, 1, 1] ![0, L, 0] ![0, H, 0] (cv3 f : Vec Ideal ⟨3, ![1, R, C]⟩ .f32) init h hu
      = cv3 fun _ t c => ∑ k ∈ Finset.range R, if L ≤ t + k ∧ t + k - L < R then f 0 (t + k - L) c else 0 := by
  refine ext3 fun z t c => ?_
  have ht := t.isLt
  have hc := c.isLt
  have hz : z.val = 0 := by omega
  show Host.reduceWindow (fun a b : EReal => a + b) _ _ _ _ _ _ h hu _ = _
  unfold Host.reduceWindow
  dsimp only
  rw [hi]
  refine (foldl_coe _ _ (fun n => if L ≤ t.val + n.val ∧ t.val + n.val - L < R then f 0 (t.val + n.val - L) c.val else 0) (fun n _ => ?_) 0).trans ?_
  · have hw0 : ((col R).rowMajor.symm n 0).val = 0 := by rw [symm_col]; rfl
    have hw1 : ((col R).rowMajor.symm n 1).val = n.val := by rw [symm_col]; rfl
    have hw2 : ((col R).rowMajor.symm n 2).val = 0 := by rw [symm_col]; rfl
    split
    · next hin =>
      have h1 := hin 1
      change L ≤ t.val * 1 + ((col R).rowMajor.symm n 1).val ∧ t.val * 1 + ((col R).rowMajor.symm n 1).val - L < R at h1
      rw [hw1, Nat.mul_one] at h1
      rw [if_pos h1]
      show ((f (z.val * 1 + ((col R).rowMajor.symm n 0).val - 0) (t.val * 1 + ((col R).rowMajor.symm n 1).val - L)
        (c.val * 1 + ((col R).rowMajor.symm n 2).val - 0) : ℝ) : EReal) = _
      rw [hw0, hw1, hw2, hz]
      simp only [Nat.mul_one, Nat.add_zero, Nat.sub_zero]
    · next hin =>
      rw [if_neg fun hle => hin fun a => by
        match a with
        | ⟨0, _⟩ =>
          show 0 ≤ z.val * 1 + ((col R).rowMajor.symm n 0).val ∧ z.val * 1 + ((col R).rowMajor.symm n 0).val - 0 < 1
          rw [hw0]; omega
        | ⟨1, _⟩ =>
          show L ≤ t.val * 1 + ((col R).rowMajor.symm n 1).val ∧ t.val * 1 + ((col R).rowMajor.symm n 1).val - L < R
          rw [hw1, Nat.mul_one]; exact hle
        | ⟨2, _⟩ =>
          show 0 ≤ c.val * 1 + ((col R).rowMajor.symm n 2).val ∧ c.val * 1 + ((col R).rowMajor.symm n 2).val - 0 < C
          rw [hw2]; omega]
      rw [EReal.coe_zero]
  · rw [zero_add, sum_col R fun k => if L ≤ t.val + k ∧ t.val + k - L < R then f 0 (t.val + k - L) c.val else 0]
    rfl

/-- Of a window that ends at row `t`, the rows are those up to `t`. -/
theorem sum_up (n t : ℕ) (ht : t < n + 1) (g : ℕ → ℝ) :
    (∑ k ∈ Finset.range (n + 1), if n ≤ t + k ∧ t + k - n < n + 1 then g (t + k - n) else 0) = ∑ u ∈ Finset.range (t + 1), g u := by
  rw [show n + 1 = (n - t) + (t + 1) by omega, Finset.sum_range_add, Finset.sum_eq_zero, zero_add]
  · refine Finset.sum_congr rfl fun k hk => ?_
    have := Finset.mem_range.mp hk
    rw [if_pos (by omega), show t + (n - t + k) - n = k by omega]
  · intro k hk
    have := Finset.mem_range.mp hk
    rw [if_neg (by omega)]

/-- Of a window that begins at row `t`, the rows are those from `t` on. -/
theorem sum_down (R t : ℕ) (ht : t ≤ R) (g : ℕ → ℝ) :
    (∑ k ∈ Finset.range R, if t + k < R then g (t + k) else 0) = ∑ k ∈ Finset.range (R - t), g (t + k) := by
  rw [show R = (R - t) + t by omega, Finset.sum_range_add, Nat.add_sub_cancel, Finset.sum_congr rfl fun k hk => ?_, add_eq_left]
  · refine Finset.sum_eq_zero fun k hk => ?_
    rw [if_neg (by omega)]
  · have := Finset.mem_range.mp hk
    rw [if_pos (by omega)]

end Cert.Proof.Pool

end
-- ==== Proof.RVal.lean ====
/- The reference's results, read from its operations one by one: each is the real function the kernel computes. -/
module

public import proofs.«01_k».proof.Proof.RSum
public import proofs.«01_k».proof.Proof.Gen.ReferenceIdeal.Read

@[expose] public section

noncomputable section

namespace Cert.Proof.Pool

open Cert.ReferenceIdeal Cert.ReferenceIdeal.Gen Cert.ReferenceIdeal.Read Idealize.ShloMosaic Idealize.ShloMosaic.TcCoe Idealize.SL.Sem Idealize.ShloMosaic.StableHlo

/-! ## Facts about real sums -/

/-- The sum of the rows up to `t` that a window of `W` rows holds. -/
theorem window_rows (y : ℕ → ℝ) (t W : ℕ) :
    (∑ j ∈ Finset.range W, if j ≤ t then y (t - j) else 0) = ∑ u ∈ Finset.range (t + 1), y u - ∑ u ∈ Finset.range (t + 1 - W), y u := by
  induction W with
  | zero => simp
  | succ W ih =>
    rw [Finset.sum_range_succ, ih]
    by_cases h : W ≤ t
    · rw [if_pos h, show t + 1 - W = (t + 1 - (W + 1)) + 1 by omega, Finset.sum_range_succ (n := t + 1 - (W + 1)), show t + 1 - (W + 1) = t - W by omega]
      ring
    · rw [if_neg h, show t + 1 - W = 0 by omega, show t + 1 - (W + 1) = 0 by omega, add_zero]

/-- Differences `W` apart, added up from `t` on, leave the first `W` terms less the last `W`. -/
theorem window_diff (q : ℕ → ℝ) (t W n : ℕ) :
    ∑ k ∈ Finset.range n, (q (t + k) - q (t + k + W)) = ∑ j ∈ Finset.range W, q (t + j) - ∑ j ∈ Finset.range W, q (t + n + j) := by
  induction n with
  | zero => simp
  | succ n ih =>
    have e : ∑ j ∈ Finset.range W, q (t + n + j) + q (t + n + W) = ∑ j ∈ Finset.range W, q (t + (n + 1) + j) + q (t + n) := by
      rw [← Finset.sum_range_succ, Finset.sum_range_succ']
      simp only [Nat.add_zero]
      refine congrArg (· + _) (Finset.sum_congr rfl fun j _ => congrArg q (by omega))
    rw [Finset.sum_range_succ, ih]
    linarith

section
variable (x ct : ℕ → ℕ → ℝ) (w : ℕ → ℕ → ℕ → ℝ) (sc : ℕ → ℝ)

/-- The sum over a window is the difference of two running sums. -/
theorem ps_diff (g t a W col : ℕ) (hW : 2 ^ (g + 1) = W) (h16 : W ≤ 16) (hc : 128 * g + a = col) :
    ps x g t a = ∑ u ∈ Finset.range (t + 1), x u col - ∑ u ∈ Finset.range (t + 1 - W), x u col := by
  rw [ps, hW, hc, ← window_rows]
  refine Finset.sum_congr rfl fun j hj => ?_
  have := Finset.mem_range.mp hj
  by_cases h : j ≤ t
  · rw [if_pos h, xz, if_pos (by omega), show t + (16 - j) - 16 = t - j by omega]
  · rw [if_neg h, xz, if_neg (by omega)]

theorem sitofp_row (t : ℕ) (h : t < 4096) : FloatOps.sitofp (F := Ideal) .f32 (BitVec.ofNat 32 t) = ((t : ℝ) : EReal) := by
  show (((BitVec.ofNat 32 t).toInt : ℝ) : EReal) = _
  rw [show (BitVec.ofNat 32 t).toInt = (t : ℤ) by
    rw [BitVec.toInt_eq_toNat_of_lt (by rw [BitVec.toNat_ofNat]; omega), BitVec.toNat_ofNat, Nat.mod_eq_of_lt (by omega)]]
  simp

/-- How many rows the window holds, as the reference writes it. -/
theorem count_eq (g t : ℕ) (W : ℝ) (hW : (2 : ℝ) ^ (g + 1) = W) (h : t < 4096) :
    min (FloatOps.sitofp (F := Ideal) .f32 (BitVec.ofNat 32 t) + 1) (W : EReal) = ((cnt g t : ℝ) : EReal) := by
  rw [sitofp_row t h, ← EReal.coe_one, ← EReal.coe_add, ← EReal.coe_strictMono.monotone.map_min, cnt, hW]

/-- The window's mean less the input itself, as the reference writes it. -/
theorem mean_eq (g t a W col : ℕ) (hW : 2 ^ (g + 1) = W) (h16 : W ≤ 16) (hc : 128 * g + a = col) (A B C : EReal)
    (hA : A = ((∑ u ∈ Finset.range (t + 1), x u col : ℝ) : EReal))
    (hB : B = if t < W - 1 then 0 else ((∑ u ∈ Finset.range (t - (W - 1)), x u col : ℝ) : EReal))
    (hC : C = ((cnt g t : ℝ) : EReal)) : Ideal.div (A - B) C - ((x t col : ℝ) : EReal) = ((df x g t a : ℝ) : EReal) := by
  have hB' : B = ((∑ u ∈ Finset.range (t + 1 - W), x u col : ℝ) : EReal) := by
    have h1 : 1 ≤ W := hW ▸ Nat.one_le_two_pow
    rw [hB]
    by_cases h : t < W - 1
    · rw [if_pos h, show t + 1 - W = 0 by omega, Finset.sum_range_zero, EReal.coe_zero]
    · rw [if_neg h, show t + 1 - W = t - (W - 1) by omega]
  rw [hA, hB', hC, Ideal.div_coe (cnt_ne g t), ← EReal.coe_sub, ← EReal.coe_mul, ← EReal.coe_sub, df, ps_diff x g t a W col hW h16 hc, hc]

end

/-! ## The arrays, in the order of the program -/

variable (D E : ℕ → ℕ → ℝ) (w : ℕ → ℕ → ℕ → ℝ) (s : ℕ → ℝ)

theorem v1_eq : val_main_v1 (F := Ideal) (cv2 E) = cv3 (fun _ t c => E t (2560 + c)) := by
  refine ext3 fun z t c => ?_
  unfold val_main_v1 val_main_v0
  pointwise
  rfl

theorem v3_eq : val_main_v3 (F := Ideal) (cv2 D) = cv3 (fun _ t c => D t (1536 + c)) := by
  refine ext3 fun z t c => ?_
  unfold val_main_v3 val_main_v2
  pointwise
  rfl

theorem v4_eq : val_main_v4 (F := Ideal) (cv2 E) = cv3 (fun _ t c => ∑ u ∈ Finset.range (t + 1), E u (2560 + c)) := by
  unfold val_main_v4
  rw [v1_eq]
  refine (window_sum 4096 512 4095 0 _ _ _ _ ?_ _).trans ?_
  · unfold val_main_call0_call0_v0 val_main_call0_call0_cst
    pointwise
  · refine ext3 fun z t c => ?_
    rw [cv3_ix, cv3_ix, sum_up 4095 t.val t.isLt fun u => E u (2560 + c.val)]

theorem v6_eq : val_main_v6 (F := Ideal) (cv2 E) = cv3 (fun _ t c => ∑ u ∈ Finset.range t, E u (2560 + c)) := by
  refine ext3 fun z t c => ?_
  unfold val_main_v6 val_main_v5 val_main_cst
  rw [v4_eq]
  pointwise
  simp only [cv3_ix]
  by_cases h : t.val < 1
  · rw [dif_pos h, show t.val = 0 by omega, Finset.sum_range_zero, EReal.coe_zero]
  · rw [dif_neg h, show t.val - 1 + 1 = t.val by omega]

theorem v18_eq (z : Fin 1) (t : Fin 4096) (o : Fin 1) : val_main_v18 (F := Ideal) (ix3 z t o) = ((cnt 0 t.val : ℝ) : EReal) := by
  unfold val_main_v18 val_main_v17 val_main_v16 val_main_cst_4 val_main_v10 val_main_v9 val_main_v8 val_main_cst_1
  pointwise
  rw [bits_two]
  exact count_eq 0 t.val 2 (by norm_num) t.isLt

theorem v23_eq : val_main_v23 (F := Ideal) (cv2 E) = cv3 (fun _ t a => df (fun t d => E t (2560 + d)) 0 t a) := by
  refine ext3 fun z t a => ?_
  unfold val_main_v23 val_main_v21 val_main_v22 val_main_v19 val_main_v20 val_main_v11 val_main_v14 val_main_v12 val_main_v13 val_main_cst_2
  rw [v6_eq, v1_eq]
  pointwise
  simp only [cv3_ix, dite_eq_ite, v18_eq]
  exact mean_eq (fun t d => E t (2560 + d)) 0 t.val a.val 2 a.val (by norm_num) (by norm_num) (by omega) _ _ _ (by rw [Nat.add_comm]) rfl rfl

theorem v31_eq (z : Fin 1) (t : Fin 4096) (o : Fin 1) : val_main_v31 (F := Ideal) (ix3 z t o) = ((cnt 1 t.val : ℝ) : EReal) := by
  unfold val_main_v31 val_main_v30 val_main_v29 val_main_cst_7 val_main_v10 val_main_v9 val_main_v8 val_main_cst_1
  pointwise
  rw [bits_four]
  exact count_eq 1 t.val 4 (by norm_num) t.isLt

theorem v36_eq : val_main_v36 (F := Ideal) (cv2 E) = cv3 (fun _ t a => df (fun t d => E t (2560 + d)) 1 t a) := by
  refine ext3 fun z t a => ?_
  unfold val_main_v36 val_main_v34 val_main_v35 val_main_v32 val_main_v33 val_main_v24 val_main_v27 val_main_v25 val_main_v26 val_main_cst_5
  rw [v6_eq, v1_eq]
  pointwise
  simp only [cv3_ix, dite_eq_ite, v31_eq]
  exact mean_eq (fun t d => E t (2560 + d)) 1 t.val a.val 4 (128 + a.val) (by norm_num) (by norm_num) (by omega) _ _ _ (by rw [Nat.add_comm]) rfl rfl

theorem v44_eq (z : Fin 1) (t : Fin 4096) (o : Fin 1) : val_main_v44 (F := Ideal) (ix3 z t o) = ((cnt 2 t.val : ℝ) : EReal) := by
  unfold val_main_v44 val_main_v43 val_main_v42 val_main_cst_10 val_main_v10 val_main_v9 val_main_v8 val_main_cst_1
  pointwise
  rw [bits_eight]
  exact count_eq 2 t.val 8 (by norm_num) t.isLt

theorem v49_eq : val_main_v49 (F := Ideal) (cv2 E) = cv3 (fun _ t a => df (fun t d => E t (2560 + d)) 2 t a) := by
  refine ext3 fun z t a => ?_
  unfold val_main_v49 val_main_v47 val_main_v48 val_main_v45 val_main_v46 val_main_v37 val_main_v40 val_main_v38 val_main_v39 val_main_cst_8
  rw [v6_eq, v1_eq]
  pointwise
  simp only [cv3_ix, dite_eq_ite, v44_eq]
  exact mean_eq (fun t d => E t (2560 + d)) 2 t.val a.val 8 (256 + a.val) (by norm_num) (by norm_num) (by omega) _ _ _ (by rw [Nat.add_comm]) rfl rfl

theorem v57_eq (z : Fin 1) (t : Fin 4096) (o : Fin 1) : val_main_v57 (F := Ideal) (ix3 z t o) = ((cnt 3 t.val : ℝ) : EReal) := by
  unfold val_main_v57 val_main_v56 val_main_v55 val_main_cst_13 val_main_v10 val_main_v9 val_main_v8 val_main_cst_1
  pointwise
  rw [bits_sixteen]
  exact count_eq 3 t.val 16 (by norm_num) t.isLt

theorem v62_eq : val_main_v62 (F := Ideal) (cv2 E) = cv3 (fun _ t a => df (fun t d => E t (2560 + d)) 3 t a) := by
  refine ext3 fun z t a => ?_
  unfold val_main_v62 val_main_v60 val_main_v61 val_main_v58 val_main_v59 val_main_v50 val_main_v53 val_main_v51 val_main_v52 val_main_cst_11
  rw [v6_eq, v1_eq]
  pointwise
  simp only [cv3_ix, dite_eq_ite, v57_eq]
  exact mean_eq (fun t d => E t (2560 + d)) 3 t.val a.val 16 (384 + a.val) (by norm_num) (by norm_num) (by omega) _ _ _ (by rw [Nat.add_comm]) rfl rfl

theorem v67_eq (z : Fin 1) (t : Fin 4096) (g : Fin 4) (a : Fin 128) :
    val_main_v67 (F := Ideal) (cv2 E) (ix4 z t g a) = ((df (fun t d => E t (2560 + d)) g.val t.val a.val : ℝ) : EReal) := by
  unfold val_main_v67 val_main_v63 val_main_v64 val_main_v65 val_main_v66
  pointwise
  rw [v23_eq, v36_eq, v49_eq, v62_eq]
  match g with
  | ⟨0, _⟩ => rfl
  | ⟨1, _⟩ => rfl
  | ⟨2, _⟩ => rfl
  | ⟨3, _⟩ => rfl

/-- The mixer's output before its scale. -/
theorem v70_eq (z : Fin 1) (t : Fin 4096) (c : Fin 512) : val_main_v70 (F := Ideal) (cv2 E) (cv3 w) (ix3 z t c)
    = ((∑ a ∈ Finset.range 128, df (fun t d => E t (2560 + d)) (c.val / 128) t.val a * w (c.val / 128) a (c.val % 128) : ℝ) : EReal) := by
  unfold val_main_v70 val_main_v69 val_main_v68
  pointwise
  simp only [v67_eq, cv3_ix, ← EReal.coe_mul, coe_sum]
  rw [fin_range 128 fun a => w (c.val / 128) a (c.val % 128) * df (fun t d => E t (2560 + d)) (c.val / 128) t.val a]
  simp only [mul_comm]

/-- A sum over two axes of extent one is the one element there. -/
theorem sum_ones (h : S1x1x512.ReducesTo [0, 1] S512) (v : S1x1x512.Idx → EReal) (c : Fin 512) :
    Ideal.hostReduceAdd h v 0 (ix1 c) = v (ix3 0 0 c) := by
  unfold Ideal.hostReduceAdd
  rw [zero_add]
  refine Finset.sum_eq_single_of_mem _ (Finset.mem_filter.mpr ⟨Finset.mem_univ _, ?_⟩) fun i hi hne => ?_
  · refine funext fun b => Fin.ext ?_
    match b with
    | ⟨0, _⟩ => rfl
  · refine absurd ?_ hne
    have e := congrArg Fin.val (congrFun (Finset.mem_filter.mp hi).2 0)
    have e2 : (i 2).val = c.val := e
    refine funext fun b => Fin.ext ?_
    match b with
    | ⟨0, _⟩ => have : (i 0).val < 1 := (i 0).isLt; show (i 0).val = 0; omega
    | ⟨1, _⟩ => have : (i 1).val < 1 := (i 1).isLt; show (i 1).val = 0; omega
    | ⟨2, _⟩ => exact e2

theorem v79_eq : val_main_v79 (F := Ideal) (cv2 D) (cv2 E) (cv3 w) = cv1 (fun c => dsv (fun t d => E t (2560 + d)) (fun t d => D t (1536 + d)) w (c / 128) (c % 128)) := by
  refine ext1 fun c => ?_
  unfold val_main_v79 val_main_v76 val_main_v75 val_main_v74 val_main_cst_15 val_main_cst_14
  pointwise
  rw [sum_ones]
  pointwise
  rw [v3_eq]
  simp only [v70_eq, cv3_ix, ← EReal.coe_mul, coe_sum]
  rw [fin_range 4096 fun t => (∑ a ∈ Finset.range 128, df (fun t d => E t (2560 + d)) (c.val / 128) t a * w (c.val / 128) a (c.val % 128)) * D t (1536 + c.val)]
  rw [cv1_ix, dsv]
  refine congrArg _ (Finset.sum_congr rfl fun t _ => ?_)
  rw [tm, mul_comm, Nat.div_add_mod]

/-- The cotangent times the scale, in groups. -/
theorem v81_eq (g : Fin 4) (b : Fin 128) (z : Fin 1) (t : Fin 4096) :
    val_main_v81 (F := Ideal) (cv2 D) (cv1 s) (ix4 g b z t) = ((dy (fun t d => D t (1536 + d)) s g.val t.val b.val : ℝ) : EReal) := by
  unfold val_main_v81 val_main_v80 val_main_v78 val_main_v77 val_main_v71
  pointwise
  rw [v3_eq]
  simp only [cv3_ix, cv1_ix, ← EReal.coe_mul]
  rw [dy, Nat.mul_comm g.val 128]

theorem v83_eq (z : Fin 1) (t : Fin 4096) (g : Fin 4) (a : Fin 128) :
    val_main_v83 (F := Ideal) (cv2 D) (cv3 w) (cv1 s) (ix4 z t g a) = ((dd (fun t d => D t (1536 + d)) w s g.val t.val a.val : ℝ) : EReal) := by
  unfold val_main_v83 val_main_v82
  pointwise
  simp only [v81_eq, cv3_ix, ← EReal.coe_mul, coe_sum]
  rw [fin_range 128 fun b => dy (fun t d => D t (1536 + d)) s g.val t.val b * w g.val a.val b, dd]

theorem v85_eq : val_main_v85 (F := Ideal) (cv2 D) (cv2 E) (cv1 s) = cv3 (dwv (fun t d => E t (2560 + d)) (fun t d => D t (1536 + d)) s) := by
  refine ext3 fun g a b => ?_
  unfold val_main_v85 val_main_v84
  pointwise
  simp only [v81_eq, v67_eq, ← EReal.coe_mul, coe_sum]
  rw [Finset.univ_unique, Finset.sum_singleton, fin_range 4096 fun t => dy (fun t d => D t (1536 + d)) s g.val t b.val * df (fun t d => E t (2560 + d)) g.val t a.val, cv3_ix, dwv]
  simp only [mul_comm]

theorem v132_eq : val_main_v132 (F := Ideal) (cv2 D) (cv3 w) (cv1 s) = cv3 (fun _ t a => qq (fun t d => D t (1536 + d)) w s 0 t a) := by
  refine ext3 fun z t a => ?_
  unfold val_main_v132 val_main_v87 val_main_v86 val_main_v131
  pointwise
  rw [v18_eq, v83_eq, Ideal.div_coe (cnt_ne 0 t.val), ← EReal.coe_mul]
  rfl

theorem v120_eq : val_main_v120 (F := Ideal) (cv2 D) (cv3 w) (cv1 s) = cv3 (fun _ t a => qq (fun t d => D t (1536 + d)) w s 1 t a) := by
  refine ext3 fun z t a => ?_
  unfold val_main_v120 val_main_v89 val_main_v88 val_main_v119
  pointwise
  rw [v31_eq, v83_eq, Ideal.div_coe (cnt_ne 1 t.val), ← EReal.coe_mul]
  rfl

theorem v108_eq : val_main_v108 (F := Ideal) (cv2 D) (cv3 w) (cv1 s) = cv3 (fun _ t a => qq (fun t d => D t (1536 + d)) w s 2 t a) := by
  refine ext3 fun z t a => ?_
  unfold val_main_v108 val_main_v91 val_main_v90 val_main_v107
  pointwise
  rw [v44_eq, v83_eq, Ideal.div_coe (cnt_ne 2 t.val), ← EReal.coe_mul]
  rfl

theorem v97_eq : val_main_v97 (F := Ideal) (cv2 D) (cv3 w) (cv1 s) = cv3 (fun _ t a => qq (fun t d => D t (1536 + d)) w s 3 t a) := by
  refine ext3 fun z t a => ?_
  unfold val_main_v97 val_main_v93 val_main_v92 val_main_v96
  pointwise
  rw [v57_eq, v83_eq, Ideal.div_coe (cnt_ne 3 t.val), ← EReal.coe_mul]
  rfl

theorem qq_zero (hD : ∀ t, 4096 ≤ t → ∀ d, D t d = 0) (g t a : ℕ) (ht : 4096 ≤ t) : qq (fun t d => D t (1536 + d)) w s g t a = 0 := by
  have e : ∀ b, dy (fun t d => D t (1536 + d)) s g t b = 0 := fun b => by rw [dy, hD t ht, zero_mul]
  simp only [qq, dd, e, zero_mul, Finset.sum_const_zero]

theorem v130_eq (z : Fin 1) (t : Fin 4096) (c : Fin 512) : val_main_v130 (F := Ideal) (cv2 D) (cv3 w) (cv1 s) (ix3 z t c)
    = ((-atG (dd (fun t d => D t (1536 + d)) w s) t.val c.val : ℝ) : EReal) := by
  unfold val_main_v130 val_main_v129 val_main_v128 val_main_cst_25 val_main_v87 val_main_v86 val_main_v118 val_main_v117 val_main_v116 val_main_cst_22 val_main_v89 val_main_v88 val_main_v106 val_main_v105 val_main_v104 val_main_cst_19 val_main_v91 val_main_v90 val_main_v95 val_main_v94 val_main_cst_16 val_main_v93 val_main_v92
  pointwise
  simp only [v83_eq]
  simp only [dite_eq_ite]
  have hc := c.isLt
  rcases (by omega : c.val < 128 ∨ (128 ≤ c.val ∧ c.val < 256) ∨ (256 ≤ c.val ∧ c.val < 384) ∨ 384 ≤ c.val) with h | h | h | h
  · rw [if_neg (by omega : ¬(384 ≤ c.val ∧ c.val - 384 < 128)), if_neg (by omega : ¬(256 ≤ c.val ∧ c.val - 256 < 128)), if_neg (by omega : ¬(128 ≤ c.val ∧ c.val - 128 < 128)), if_pos (by omega : c.val < 128)]
    simp only [zero_add, add_zero]
    rw [atG, show c.val / 128 = 0 by omega, show c.val % 128 = c.val by omega, EReal.coe_neg]
    try rfl
  · rw [if_neg (by omega : ¬(384 ≤ c.val ∧ c.val - 384 < 128)), if_neg (by omega : ¬(256 ≤ c.val ∧ c.val - 256 < 128)), if_pos (by omega : 128 ≤ c.val ∧ c.val - 128 < 128), if_neg (by omega : ¬(c.val < 128))]
    simp only [zero_add, add_zero]
    rw [atG, show c.val / 128 = 1 by omega, show c.val % 128 = c.val - 128 by omega, EReal.coe_neg]
    try rfl
  · rw [if_neg (by omega : ¬(384 ≤ c.val ∧ c.val - 384 < 128)), if_pos (by omega : 256 ≤ c.val ∧ c.val - 256 < 128), if_neg (by omega : ¬(128 ≤ c.val ∧ c.val - 128 < 128)), if_neg (by omega : ¬(c.val < 128))]
    simp only [zero_add, add_zero]
    rw [atG, show c.val / 128 = 2 by omega, show c.val % 128 = c.val - 256 by omega, EReal.coe_neg]
    try rfl
  · rw [if_pos (by omega : 384 ≤ c.val ∧ c.val - 384 < 128), if_neg (by omega : ¬(256 ≤ c.val ∧ c.val - 256 < 128)), if_neg (by omega : ¬(128 ≤ c.val ∧ c.val - 128 < 128)), if_neg (by omega : ¬(c.val < 128))]
    simp only [zero_add, add_zero]
    rw [atG, show c.val / 128 = 3 by omega, show c.val % 128 = c.val - 384 by omega, EReal.coe_neg]
    try rfl

theorem v141_eq (hD : ∀ t, 4096 ≤ t → ∀ d, D t d = 0) : val_main_v141 (F := Ideal) (cv2 D) (cv3 w) (cv1 s)
    = cv3 (fun _ t c => qq (fun t d => D t (1536 + d)) w s (c / 128) t (c % 128) - qq (fun t d => D t (1536 + d)) w s (c / 128) (t + 2 ^ (c / 128 + 1)) (c % 128)) := by
  refine ext3 fun z t c => ?_
  unfold val_main_v141 val_main_v139 val_main_v138 val_main_cst_27 val_main_v137 val_main_v136 val_main_cst_26 val_main_v135 val_main_v133 val_main_v127 val_main_v126 val_main_cst_24 val_main_v125 val_main_v124 val_main_cst_23 val_main_v123 val_main_v121 val_main_v115 val_main_v114 val_main_cst_21 val_main_v113 val_main_v112 val_main_cst_20 val_main_v111 val_main_v109 val_main_v103 val_main_v101 val_main_v102 val_main_v100 val_main_v98 val_main_cst_17 val_main_cst_18
  rw [v132_eq, v120_eq, v108_eq, v97_eq]
  pointwise
  simp only [cv3_ix, dite_eq_ite]
  have hc := c.isLt
  rcases (by omega : c.val < 128 ∨ (128 ≤ c.val ∧ c.val < 256) ∨ (256 ≤ c.val ∧ c.val < 384) ∨ 384 ≤ c.val) with h | h | h | h
  · have key : (if 1 + t.val < 4095 ∧ c.val < 128 then -((qq (fun t d => D t (1536 + d)) w s 0 (1 + (1 + t.val)) (c.val) : ℝ) : EReal) else 0) = ((-qq (fun t d => D t (1536 + d)) w s 0 (t.val + 2) (c.val) : ℝ) : EReal) := by
      by_cases ht : 1 + t.val < 4095
      · rw [if_pos (by omega), show 1 + (1 + t.val) = t.val + 2 by omega, EReal.coe_neg]
      · rw [if_neg (by omega), qq_zero D w s hD _ _ _ (by omega), neg_zero, EReal.coe_zero]
    rw [if_neg (by omega : ¬(1 + t.val < 4081 ∧ 384 ≤ c.val ∧ c.val - 384 < 128)), if_neg (by omega : ¬(384 ≤ c.val ∧ c.val - 384 < 128)), if_neg (by omega : ¬(1 + t.val < 4089 ∧ 256 ≤ c.val ∧ c.val - 256 < 128)), if_neg (by omega : ¬(256 ≤ c.val ∧ c.val - 256 < 128)), if_neg (by omega : ¬(1 + t.val < 4093 ∧ 128 ≤ c.val ∧ c.val - 128 < 128)), if_neg (by omega : ¬(128 ≤ c.val ∧ c.val - 128 < 128)), key, if_pos (by omega : c.val < 128)]
    simp only [zero_add, add_zero, ← EReal.coe_add]
    rw [show c.val / 128 = 0 by omega, show c.val % 128 = c.val by omega]
    exact congrArg _ (by ring_nf)
  · have key : (if 1 + t.val < 4093 ∧ 128 ≤ c.val ∧ c.val - 128 < 128 then -((qq (fun t d => D t (1536 + d)) w s 1 (3 + (1 + t.val)) (c.val - 128) : ℝ) : EReal) else 0) = ((-qq (fun t d => D t (1536 + d)) w s 1 (t.val + 4) (c.val - 128) : ℝ) : EReal) := by
      by_cases ht : 1 + t.val < 4093
      · rw [if_pos (by omega), show 3 + (1 + t.val) = t.val + 4 by omega, EReal.coe_neg]
      · rw [if_neg (by omega), qq_zero D w s hD _ _ _ (by omega), neg_zero, EReal.coe_zero]
    rw [if_neg (by omega : ¬(1 + t.val < 4081 ∧ 384 ≤ c.val ∧ c.val - 384 < 128)), if_neg (by omega : ¬(384 ≤ c.val ∧ c.val - 384 < 128)), if_neg (by omega : ¬(1 + t.val < 4089 ∧ 256 ≤ c.val ∧ c.val - 256 < 128)), if_neg (by omega : ¬(256 ≤ c.val ∧ c.val - 256 < 128)), key, if_pos (by omega : 128 ≤ c.val ∧ c.val - 128 < 128), if_neg (by omega : ¬(1 + t.val < 4095 ∧ c.val < 128)), if_neg (by omega : ¬(c.val < 128))]
    simp only [zero_add, add_zero, ← EReal.coe_add]
    rw [show c.val / 128 = 1 by omega, show c.val % 128 = c.val - 128 by omega]
    exact congrArg _ (by ring_nf)
  · have key : (if 1 + t.val < 4089 ∧ 256 ≤ c.val ∧ c.val - 256 < 128 then -((qq (fun t d => D t (1536 + d)) w s 2 (7 + (1 + t.val)) (c.val - 256) : ℝ) : EReal) else 0) = ((-qq (fun t d => D t (1536 + d)) w s 2 (t.val + 8) (c.val - 256) : ℝ) : EReal) := by
      by_cases ht : 1 + t.val < 4089
      · rw [if_pos (by omega), show 7 + (1 + t.val) = t.val + 8 by omega, EReal.coe_neg]
      · rw [if_neg (by omega), qq_zero D w s hD _ _ _ (by omega), neg_zero, EReal.coe_zero]
    rw [if_neg (by omega : ¬(1 + t.val < 4081 ∧ 384 ≤ c.val ∧ c.val - 384 < 128)), if_neg (by omega : ¬(384 ≤ c.val ∧ c.val - 384 < 128)), key, if_pos (by omega : 256 ≤ c.val ∧ c.val - 256 < 128), if_neg (by omega : ¬(1 + t.val < 4093 ∧ 128 ≤ c.val ∧ c.val - 128 < 128)), if_neg (by omega : ¬(128 ≤ c.val ∧ c.val - 128 < 128)), if_neg (by omega : ¬(1 + t.val < 4095 ∧ c.val < 128)), if_neg (by omega : ¬(c.val < 128))]
    simp only [zero_add, add_zero, ← EReal.coe_add]
    rw [show c.val / 128 = 2 by omega, show c.val % 128 = c.val - 256 by omega]
    exact congrArg _ (by ring_nf)
  · have key : (if 1 + t.val < 4081 ∧ 384 ≤ c.val ∧ c.val - 384 < 128 then -((qq (fun t d => D t (1536 + d)) w s 3 (15 + (1 + t.val)) (c.val - 384) : ℝ) : EReal) else 0) = ((-qq (fun t d => D t (1536 + d)) w s 3 (t.val + 16) (c.val - 384) : ℝ) : EReal) := by
      by_cases ht : 1 + t.val < 4081
      · rw [if_pos (by omega), show 15 + (1 + t.val) = t.val + 16 by omega, EReal.coe_neg]
      · rw [if_neg (by omega), qq_zero D w s hD _ _ _ (by omega), neg_zero, EReal.coe_zero]
    rw [key, if_pos (by omega : 384 ≤ c.val ∧ c.val - 384 < 128), if_neg (by omega : ¬(1 + t.val < 4089 ∧ 256 ≤ c.val ∧ c.val - 256 < 128)), if_neg (by omega : ¬(256 ≤ c.val ∧ c.val - 256 < 128)), if_neg (by omega : ¬(1 + t.val < 4093 ∧ 128 ≤ c.val ∧ c.val - 128 < 128)), if_neg (by omega : ¬(128 ≤ c.val ∧ c.val - 128 < 128)), if_neg (by omega : ¬(1 + t.val < 4095 ∧ c.val < 128)), if_neg (by omega : ¬(c.val < 128))]
    simp only [zero_add, add_zero, ← EReal.coe_add]
    rw [show c.val / 128 = 3 by omega, show c.val % 128 = c.val - 384 by omega]
    exact congrArg _ (by ring_nf)

theorem v143_eq (hD : ∀ t, 4096 ≤ t → ∀ d, D t d = 0) (z : Fin 1) (t : Fin 4096) (c : Fin 512) : val_main_v143 (F := Ideal) (cv2 D) (cv3 w) (cv1 s) (ix3 z t c)
    = ((atG (dxv (fun t d => D t (1536 + d)) w s) t.val c.val : ℝ) : EReal) := by
  unfold val_main_v143 val_main_v142
  rw [v141_eq D w s hD, window_sum 4096 512 0 4095 _ _ _ _ (by unfold val_main_call1_call0_v0 val_main_call1_call0_cst; pointwise) _]
  pointwise
  rw [v130_eq, cv3_ix, sum_down 4096 t.val t.isLt.le fun t => qq (fun t d => D t (1536 + d)) w s (c.val / 128) t (c.val % 128) - qq (fun t d => D t (1536 + d)) w s (c.val / 128) (t + 2 ^ (c.val / 128 + 1)) (c.val % 128),
    window_diff (fun t => qq (fun t d => D t (1536 + d)) w s (c.val / 128) t (c.val % 128)) t.val (2 ^ (c.val / 128 + 1)) (4096 - t.val), ← EReal.coe_add]
  rw [Finset.sum_eq_zero (s := Finset.range (2 ^ (c.val / 128 + 1))) (f := fun j => qq (fun t d => D t (1536 + d)) w s (c.val / 128) (t.val + (4096 - t.val) + j) (c.val % 128))
    fun j _ => qq_zero D w s hD _ _ _ (by omega), sub_zero]
  rfl

theorem v145_eq (hD : ∀ t, 4096 ≤ t → ∀ d, D t d = 0) : val_main_v145 (F := Ideal) (cv2 D) (cv3 w) (cv1 s) = cv2 (atG (dxv (fun t d => D t (1536 + d)) w s)) := by
  refine ext2 fun t c => ?_
  unfold val_main_v145 val_main_v144
  pointwise
  exact v143_eq D w s hD _ _ _

end Cert.Proof.Pool

end
-- ==== Proof.lean ====
/- The claims about the layer's products, its norm and its gradient, the loss and its gradient, and the pooling mixer's gradient: the frames of the programs, and that each idealized kernel and its reference compute the same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Loops
public import proofs.«01_k».proof.Proof.Gen.Kernel14.Frame.Runs
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Loops
public import proofs.«01_k».proof.Proof.Gen.Kernel14Ideal.Frame.Runs
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Loops
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Loops
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Loops
public import proofs.«01_k».proof.Proof.Gen.Kernel16.Frame.Runs
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Loops
public import proofs.«01_k».proof.Proof.Gen.Kernel16Ideal.Frame.Runs
public import proofs.«01_k».proof.Proof.Gen.Reference16Ideal
public import proofs.«01_k».proof.Proof.Gen.Reference16Ideal.Run
public import proofs.«01_k».proof.Proof.Gen.Reference16Ideal.Read
public import proofs.«01_k».proof.Proof.Finite
public import proofs.«01_k».proof.Proof.KVal
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Norm14Bits
public import proofs.«01_k».proof.Proof.Norm14
public import proofs.«01_k».proof.Proof.Norm15
public import proofs.«01_k».proof.Proof.Loss16Bits
public import proofs.«01_k».proof.Proof.Loss16
public import proofs.«01_k».proof.Proof.RVal
public import Idealize.ShloMosaic.Adequacy
public import Idealize.ShloMosaic.Init

@[expose] public section

noncomputable section

namespace Cert.Proof

open Idealize.ShloMosaic Idealize.SL.Sem Cert.Kernel Cert.Proof.Pool

theorem pre_facts : Cert.Pre_finite.Facts := ⟨by decide, by decide, by decide, by decide⟩

/-- The reference runs to the end, leaves its arguments alone, and has no semaphore to leave a count on. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  θ_run_mono (Cert.ReferenceIdeal.Value.run m ρ) fun _ h =>
    ⟨fun c => (h c).2.2.2, funext fun g => match g with | (_, .reg s) => s.elim0 | (_, .dma s) => s.elim0⟩

section Kernel

open Cert.KernelIdeal Cert.KernelIdeal.Gen Idealize.ShloMosaic.TcCoe

variable (m : (ℓ : Loc Cert.KernelIdeal.nD Cert.KernelIdeal.τ Cert.KernelIdeal.sig) → Buf (Elt Ideal) ℓ)

/-- The host's sum after the kernel reads the third window's array. -/
theorem after_v3 (c : Dev Cert.KernelIdeal.nD) :
    Pipeline.afterTail₀ Cert.KernelIdeal.cfgs (Cert.KernelIdeal.Gen.dats m) 0 (Cert.KernelIdeal.Gen.V0 m) [Cert.KernelIdeal.Gen.hostOps1] c Cert.KernelIdeal.main_v3
      = Host.reduceAdd (F := Ideal) ((Cert.KernelIdeal.Gen.dats m 0 c).arrAt 7 Cert.KernelIdeal.cfg0.N : Vec Ideal Cert.KernelIdeal.S8x512 .f32) (constant Cert.KernelIdeal.S_ .f32 0x00000000#32)
        Cert.KernelIdeal.Gen.reducesTo_S8x512_S512_d0 Cert.KernelIdeal.Gen.h_S_ := by
  have e := Pipeline.withArrays_arr_shared (Cert.KernelIdeal.cfgs 0).spec c (Cert.KernelIdeal.Gen.V0 m c) (fun w => (Cert.KernelIdeal.Gen.dats m 0 c).arrAt w (Cert.KernelIdeal.cfgs 0).N)
    (fun w w' hne hw => (((Cert.KernelIdeal.Gen.dats m 0 c).arrAt_sharedIn Cert.KernelIdeal.Gen.sharedIn0 _ (Cert.KernelIdeal.Gen.A_eq m c) _ w w' hne hw))) 7
  unfold Pipeline.afterTail₀
  simp only [List.flatten_cons, List.flatten_nil, List.append_nil, Cert.KernelIdeal.Gen.hostOps1]
  after_results
  exact congrArg (fun A : Vec Ideal Cert.KernelIdeal.S8x512 .f32 => Host.reduceAdd (F := Ideal) A (constant Cert.KernelIdeal.S_ .f32 0x00000000#32)
        Cert.KernelIdeal.Gen.reducesTo_S8x512_S512_d0 Cert.KernelIdeal.Gen.h_S_) e

/-- What the kernel's program ends holding: the two windows' arrays, and the host's sum of the third over its rows. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c : Thread Cert.KernelIdeal.nD Cert.KernelIdeal.τ).loc Cert.KernelIdeal.main_v2_0) = (Cert.KernelIdeal.Gen.dats m 0 c).arrAt 5 Cert.KernelIdeal.cfg0.N
      ∧ r.2.mem ((c : Thread Cert.KernelIdeal.nD Cert.KernelIdeal.τ).loc Cert.KernelIdeal.main_v2_1) = (Cert.KernelIdeal.Gen.dats m 0 c).arrAt 6 Cert.KernelIdeal.cfg0.N
      ∧ r.2.mem ((c : Thread Cert.KernelIdeal.nD Cert.KernelIdeal.τ).loc Cert.KernelIdeal.main_v3)
        = Host.reduceAdd (F := Ideal) ((Cert.KernelIdeal.Gen.dats m 0 c).arrAt 7 Cert.KernelIdeal.cfg0.N : Vec Ideal Cert.KernelIdeal.S8x512 .f32) (constant Cert.KernelIdeal.S_ .f32 0x00000000#32) Cert.KernelIdeal.Gen.reducesTo_S8x512_S512_d0 Cert.KernelIdeal.Gen.h_S_
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)) := by
  run_from Cert.KernelIdeal.Gen.run_main m g
  · exact after_v3 m c
  · exact Cert.KernelIdeal.Gen.W_main_arg2 m (Cert.KernelIdeal.Gen.dats m) c
  · exact Cert.KernelIdeal.Gen.W_main_arg3 m (Cert.KernelIdeal.Gen.dats m) c

end Kernel

section Reference

open Idealize.ShloMosaic.TcCoe

/-- The reference's three results over arrays of reals. -/
theorem reference_results (m : (ℓ : Loc Cert.ReferenceIdeal.nD Cert.ReferenceIdeal.τ Cert.ReferenceIdeal.sig) → Buf (Elt Ideal) ℓ) (c : Dev Cert.ReferenceIdeal.nD)
    (D E : ℕ → ℕ → ℝ) (w : ℕ → ℕ → ℕ → ℝ) (s : ℕ → ℝ) (hD : ∀ t, 4096 ≤ t → ∀ d, D t d = 0)
    (h0 : m ((c : Thread Cert.ReferenceIdeal.nD Cert.ReferenceIdeal.τ).loc Cert.ReferenceIdeal.main_arg0) = cv2 D)
    (h1 : m ((c : Thread Cert.ReferenceIdeal.nD Cert.ReferenceIdeal.τ).loc Cert.ReferenceIdeal.main_arg1) = cv2 E)
    (h2 : m ((c : Thread Cert.ReferenceIdeal.nD Cert.ReferenceIdeal.τ).loc Cert.ReferenceIdeal.main_arg2) = cv3 w)
    (h3 : m ((c : Thread Cert.ReferenceIdeal.nD Cert.ReferenceIdeal.τ).loc Cert.ReferenceIdeal.main_arg3) = cv1 s) :
    Cert.ReferenceIdeal.Value.res_main_v145 m c = cv2 (atG (dxv (fun t d => D t (1536 + d)) w s))
      ∧ Cert.ReferenceIdeal.Value.res_main_v85 m c = cv3 (dwv (fun t d => E t (2560 + d)) (fun t d => D t (1536 + d)) s)
      ∧ Cert.ReferenceIdeal.Value.res_main_v79 m c = cv1 (fun d => dsv (fun t d => E t (2560 + d)) (fun t d => D t (1536 + d)) w (d / 128) (d % 128)) := by
  refine ⟨(Cert.ReferenceIdeal.Read.val_main_v145_eq m c).trans ?_, (Cert.ReferenceIdeal.Read.val_main_v85_eq m c).trans ?_,
    (Cert.ReferenceIdeal.Read.val_main_v79_eq m c).trans ?_⟩
  · rw [h0, h2, h3]; exact v145_eq D w s hD
  · rw [h0, h1, h3]; exact v85_eq D E s
  · rw [h0, h1, h2]; exact v79_eq D E w

end Reference

/-- On finite arguments the kernel's three arrays are the reference's. -/
theorem algebraic : algebraic_KernelIdeal_ReferenceIdeal_pre_finite (hKernelIdeal := Cert.KernelIdeal.Gen.facts) (hReferenceIdeal := Cert.ReferenceIdeal.Gen.facts) (hPre_finite := pre_facts) := by
  intro m g m' g' hpre hagree
  have key : ∀ c : Dev Cert.KernelIdeal.nD, Cert.ReferenceIdeal.Value.res_main_v145 m' c = (Cert.KernelIdeal.Gen.dats m 0 c).arrAt 5 Cert.KernelIdeal.cfg0.N
      ∧ Cert.ReferenceIdeal.Value.res_main_v85 m' c = (Cert.KernelIdeal.Gen.dats m 0 c).arrAt 6 Cert.KernelIdeal.cfg0.N
      ∧ Cert.ReferenceIdeal.Value.res_main_v79 m' c = Host.reduceAdd (F := Ideal) ((Cert.KernelIdeal.Gen.dats m 0 c).arrAt 7 Cert.KernelIdeal.cfg0.N : Vec Ideal Cert.KernelIdeal.S8x512 .f32)
        (constant Cert.KernelIdeal.S_ .f32 0x00000000#32) Cert.KernelIdeal.Gen.reducesTo_S8x512_S512_d0 Cert.KernelIdeal.Gen.h_S_ := by
    intro c
    obtain ⟨a0, a1, a2, a3⟩ := hagree c
    have f0 := re2_eq (n0 := 4096) (n1 := 2048) _ (finite_of_lt _ _ _ (hpre c).1)
    have f1 := re2_eq (n0 := 4096) (n1 := 3072) _ (finite_of_lt _ _ _ (hpre c).2.1)
    have f2 := re3_eq (n0 := 4) (n1 := 128) (n2 := 128) _ (finite_of_lt _ _ _ (hpre c).2.2.1)
    have f3 := re1_eq (n0 := 512) _ (finite_of_lt _ _ _ (hpre c).2.2.2)
    have z0 := re2_zero (n0 := 4096) (n1 := 2048) (m (((c : Dev Cert.KernelIdeal.nD).tc : Thread Cert.KernelIdeal.nD Cert.KernelIdeal.τ).loc Cert.KernelIdeal.main_arg0))
    have r := reference_results m' c _ _ _ _ z0 (a0.trans f0) (a1.trans f1) (a2.trans f2) (a3.trans f3)
    refine ⟨r.1.trans (arr5 m c _ _ _ _ z0 f0 f1 f2 f3).symm, r.2.1.trans (arr6 m c _ _ _ _ z0 f0 f1 f2 f3).symm, r.2.2.trans ?_⟩
    rw [arr7 m c _ _ _ _ z0 f0 f1 f2 f3]
    exact (tail _ _ _).symm
  exact ⟨_, _, _, kernel_run m g, θ_run_mono (Cert.ReferenceIdeal.Value.run m' g') fun _ h c =>
    ⟨(h c).1.trans (key c).1, (h c).2.1.trans (key c).2.1, (h c).2.2.1.trans (key c).2.2, (h c).2.2.2⟩⟩

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    pre_facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, Product2.reference_frame,
    fun m ρ _ => Cert.Kernel3.Gen.frame m ρ, fun m ρ _ => Cert.Kernel3Ideal.Gen.frame m ρ, Product3.reference_frame,
    fun m ρ _ => Cert.Kernel4.Gen.frame m ρ, fun m ρ _ => Cert.Kernel4Ideal.Gen.frame m ρ, Product4.reference_frame,
    fun m ρ _ => Cert.Kernel5.Gen.frame m ρ, fun m ρ _ => Cert.Kernel5Ideal.Gen.frame m ρ, Product5.reference_frame,
    fun m ρ _ => Cert.Kernel6.Gen.frame m ρ, fun m ρ _ => Cert.Kernel6Ideal.Gen.frame m ρ, Product6.reference_frame,
    fun m ρ _ => Cert.Kernel7.Gen.frame m ρ, fun m ρ _ => Cert.Kernel7Ideal.Gen.frame m ρ, Product7.reference_frame,
    fun m ρ _ => Cert.Kernel8.Gen.frame m ρ, fun m ρ _ => Cert.Kernel8Ideal.Gen.frame m ρ, Product8.reference_frame,
    fun m ρ _ => Cert.Kernel9.Gen.frame m ρ, fun m ρ _ => Cert.Kernel9Ideal.Gen.frame m ρ, Product9.reference_frame,
    fun m ρ _ => Cert.Kernel10.Gen.frame m ρ, fun m ρ _ => Cert.Kernel10Ideal.Gen.frame m ρ, Product10.reference_frame,
    fun m ρ _ => Cert.Kernel11.Gen.frame m ρ, fun m ρ _ => Cert.Kernel11Ideal.Gen.frame m ρ, Product11.reference_frame,
    fun m ρ _ => Cert.Kernel12.Gen.frame m ρ, fun m ρ _ => Cert.Kernel12Ideal.Gen.frame m ρ, Product12.reference_frame,
    fun m ρ _ => Cert.Kernel13.Gen.frame m ρ, fun m ρ _ => Cert.Kernel13Ideal.Gen.frame m ρ, Product13.reference_frame,
    Norm14.frame_bits, fun m ρ _ => Cert.Kernel14Ideal.Norm.frame m ρ, Norm14.reference_frame,
    fun m ρ _ => Cert.Kernel15.Gen.frame m ρ, fun m ρ _ => Cert.Kernel15Ideal.Gen.frame m ρ, Norm15.reference_frame,
    Loss16.frame_bits, fun m ρ _ => Cert.Kernel16Ideal.Loss.frame m ρ, Loss16.reference_frame,
    trivial, algebraic,
    trivial, Product2.algebraic,
    trivial, Product3.algebraic,
    trivial, Product4.algebraic,
    trivial, Product5.algebraic,
    trivial, Product6.algebraic,
    trivial, Product7.algebraic,
    trivial, Product8.algebraic,
    trivial, Product9.algebraic,
    trivial, Product10.algebraic,
    trivial, Product11.algebraic,
    trivial, Product12.algebraic,
    trivial, Product13.algebraic,
    trivial, Norm14.algebraic,
    trivial, Norm15.algebraic,
    trivial, Loss16.algebraic⟩

end Cert.Proof

end
